-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x4096 : Shape := ⟨3, ![16, 256, 4096]⟩
abbrev S4096x4096 : Shape := ⟨2, ![4096, 4096]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S4096 : Shape := ⟨1, ![4096]⟩
abbrev S4x4x4096 : Shape := ⟨3, ![4, 4, 4096]⟩
abbrev S2x4x4096 : Shape := ⟨3, ![2, 4, 4096]⟩
abbrev S1x4x4096 : Shape := ⟨3, ![1, 4, 4096]⟩
abbrev S4x4096 : Shape := ⟨2, ![4, 4096]⟩
abbrev S16 : Shape := ⟨1, ![16]⟩
abbrev S1x1x16 : Shape := ⟨3, ![1, 1, 16]⟩

abbrev nBuf : Table → Nat
  | .hbm => 801
  | .local .scVector .vmem => 3
  | _ => 0

abbrev hbmTy0_0 (i : Nat) : BufTy := match i % 128 with
  | 0 => ⟨S16x256x4096, .f32⟩
  | 1 => ⟨S4096x4096, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S1, .i32⟩
  | 13 => ⟨S_, .i32⟩
  | 14 => ⟨S1, .i32⟩
  | 15 => ⟨S_, .i32⟩
  | 16 => ⟨S2, .i64⟩
  | 17 => ⟨S_, .i64⟩
  | 18 => ⟨S2, .i64⟩
  | 19 => ⟨S2, .i64⟩
  | 20 => ⟨S_, .i64⟩
  | 21 => ⟨S2, .i64⟩
  | 22 => ⟨S2, .i64⟩
  | 23 => ⟨S2, .i32⟩
  | 24 => ⟨S2, .i32⟩
  | 25 => ⟨S_, .i32⟩
  | 26 => ⟨S_, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S16x256x4096, .f32⟩

abbrev hbmTy0_1 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2x1, .i32⟩
  | 120 => ⟨S2x1, .i32⟩
  | 121 => ⟨S2x2, .i32⟩
  | 122 => ⟨S1x2, .i32⟩
  | 123 => ⟨S2, .i32⟩
  | 124 => ⟨S1x2, .i32⟩
  | 125 => ⟨S2, .i32⟩
  | 126 => ⟨S_, .f32⟩
  | 127 => ⟨S_, .f32⟩
  | _ => ⟨S16x256x4096, .f32⟩

abbrev hbmTy0_2 (i : Nat) : BufTy := match i % 128 with
  | 0 => ⟨S_, .f32⟩
  | 1 => ⟨S_, .f32⟩
  | 2 => ⟨S1, .f32⟩
  | 3 => ⟨S1, .f32⟩
  | 4 => ⟨S1, .i32⟩
  | 5 => ⟨S_, .i32⟩
  | 6 => ⟨S1, .i32⟩
  | 7 => ⟨S_, .i32⟩
  | 8 => ⟨S4096, .i64⟩
  | 9 => ⟨S_, .i64⟩
  | 10 => ⟨S4096, .i64⟩
  | 11 => ⟨S4096, .i64⟩
  | 12 => ⟨S_, .i64⟩
  | 13 => ⟨S4096, .i64⟩
  | 14 => ⟨S4096, .i64⟩
  | 15 => ⟨S4096, .i32⟩
  | 16 => ⟨S4096, .i32⟩
  | 17 => ⟨S_, .i32⟩
  | 18 => ⟨S_, .i32⟩
  | 19 => ⟨S_, .i32⟩
  | 20 => ⟨S4096, .i32⟩
  | 21 => ⟨S4096, .i32⟩
  | 22 => ⟨S4096, .i32⟩
  | 23 => ⟨S4096, .i32⟩
  | 24 => ⟨S4096, .i32⟩
  | 25 => ⟨S_, .i32⟩
  | 26 => ⟨S4096, .i32⟩
  | 27 => ⟨S4096, .i32⟩
  | 28 => ⟨S_, .i32⟩
  | 29 => ⟨S4096, .i32⟩
  | 30 => ⟨S4096, .i32⟩
  | 31 => ⟨S4096, .i32⟩
  | 32 => ⟨S4096, .i32⟩
  | 33 => ⟨S4096, .i32⟩
  | 34 => ⟨S_, .i32⟩
  | 35 => ⟨S4096, .i32⟩
  | 36 => ⟨S4096, .i32⟩
  | 37 => ⟨S_, .i32⟩
  | 38 => ⟨S4096, .i32⟩
  | 39 => ⟨S4096, .i32⟩
  | 40 => ⟨S4096, .i32⟩
  | 41 => ⟨S4096, .i32⟩
  | 42 => ⟨S4096, .i32⟩
  | 43 => ⟨S_, .i32⟩
  | 44 => ⟨S4096, .i32⟩
  | 45 => ⟨S4096, .i32⟩
  | 46 => ⟨S_, .i32⟩
  | 47 => ⟨S4096, .i32⟩
  | 48 => ⟨S4096, .i32⟩
  | 49 => ⟨S4096, .i32⟩
  | 50 => ⟨S4096, .i32⟩
  | 51 => ⟨S4096, .i32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S4096, .i32⟩
  | 59 => ⟨S4096, .i32⟩
  | 60 => ⟨S4096, .i32⟩
  | 61 => ⟨S4096, .i32⟩
  | 62 => ⟨S4096, .i32⟩
  | 63 => ⟨S4096, .i32⟩
  | 64 => ⟨S_, .i32⟩
  | 65 => ⟨S4096, .i32⟩
  | 66 => ⟨S4096, .i32⟩
  | 67 => ⟨S4096, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i32⟩
  | 74 => ⟨S4096, .i32⟩
  | 75 => ⟨S4096, .i32⟩
  | 76 => ⟨S4096, .i32⟩
  | 77 => ⟨S_, .i32⟩
  | 78 => ⟨S4096, .i32⟩
  | 79 => ⟨S4096, .i32⟩
  | 80 => ⟨S_, .i32⟩
  | 81 => ⟨S4096, .i32⟩
  | 82 => ⟨S4096, .i32⟩
  | 83 => ⟨S4096, .i32⟩
  | 84 => ⟨S4096, .i32⟩
  | 85 => ⟨S4096, .i32⟩
  | 86 => ⟨S_, .i32⟩
  | 87 => ⟨S4096, .i32⟩
  | 88 => ⟨S4096, .i32⟩
  | 89 => ⟨S_, .i32⟩
  | 90 => ⟨S4096, .i32⟩
  | 91 => ⟨S4096, .i32⟩
  | 92 => ⟨S4096, .i32⟩
  | 93 => ⟨S4096, .i32⟩
  | 94 => ⟨S4096, .i32⟩
  | 95 => ⟨S_, .i32⟩
  | 96 => ⟨S4096, .i32⟩
  | 97 => ⟨S4096, .i32⟩
  | 98 => ⟨S_, .i32⟩
  | 99 => ⟨S4096, .i32⟩
  | 100 => ⟨S4096, .i32⟩
  | 101 => ⟨S4096, .i32⟩
  | 102 => ⟨S4096, .i32⟩
  | 103 => ⟨S4096, .i32⟩
  | 104 => ⟨S4096, .i32⟩
  | 105 => ⟨S4096, .i32⟩
  | 106 => ⟨S4096, .i32⟩
  | 107 => ⟨S_, .i32⟩
  | 108 => ⟨S4096, .i32⟩
  | 109 => ⟨S4096, .i32⟩
  | 110 => ⟨S4096, .i32⟩
  | 111 => ⟨S_, .i32⟩
  | 112 => ⟨S4096, .i32⟩
  | 113 => ⟨S4096, .i32⟩
  | 114 => ⟨S_, .i32⟩
  | 115 => ⟨S4096, .i32⟩
  | 116 => ⟨S4096, .i32⟩
  | 117 => ⟨S4096, .i32⟩
  | 118 => ⟨S4096, .i32⟩
  | 119 => ⟨S4096, .i32⟩
  | 120 => ⟨S_, .i32⟩
  | 121 => ⟨S4096, .i32⟩
  | 122 => ⟨S4096, .i32⟩
  | 123 => ⟨S_, .i32⟩
  | 124 => ⟨S4096, .i32⟩
  | 125 => ⟨S4096, .i32⟩
  | 126 => ⟨S4096, .i32⟩
  | 127 => ⟨S4096, .i32⟩
  | _ => ⟨S16x256x4096, .f32⟩

abbrev hbmTy0_3 (i : Nat) : BufTy := match i % 128 with
  | 0 => ⟨S4096, .i32⟩
  | 1 => ⟨S_, .i32⟩
  | 2 => ⟨S4096, .i32⟩
  | 3 => ⟨S4096, .i32⟩
  | 4 => ⟨S_, .i32⟩
  | 5 => ⟨S4096, .i32⟩
  | 6 => ⟨S4096, .i32⟩
  | 7 => ⟨S4096, .i32⟩
  | 8 => ⟨S4096, .i32⟩
  | 9 => ⟨S4096, .i32⟩
  | 10 => ⟨S_, .i32⟩
  | 11 => ⟨S4096, .i32⟩
  | 12 => ⟨S4096, .i32⟩
  | 13 => ⟨S_, .i32⟩
  | 14 => ⟨S4096, .i32⟩
  | 15 => ⟨S4096, .i32⟩
  | 16 => ⟨S4096, .i32⟩
  | 17 => ⟨S4096, .i32⟩
  | 18 => ⟨S4096, .i32⟩
  | 19 => ⟨S4096, .i32⟩
  | 20 => ⟨S4096, .i32⟩
  | 21 => ⟨S4096, .i32⟩
  | 22 => ⟨S_, .i32⟩
  | 23 => ⟨S4096, .i32⟩
  | 24 => ⟨S4096, .i32⟩
  | 25 => ⟨S4096, .i32⟩
  | 26 => ⟨S_, .i32⟩
  | 27 => ⟨S4096, .i32⟩
  | 28 => ⟨S4096, .i32⟩
  | 29 => ⟨S_, .i32⟩
  | 30 => ⟨S4096, .i32⟩
  | 31 => ⟨S4096, .i32⟩
  | 32 => ⟨S4096, .i32⟩
  | 33 => ⟨S4096, .i32⟩
  | 34 => ⟨S4096, .i32⟩
  | 35 => ⟨S_, .i32⟩
  | 36 => ⟨S4096, .i32⟩
  | 37 => ⟨S4096, .i32⟩
  | 38 => ⟨S_, .i32⟩
  | 39 => ⟨S4096, .i32⟩
  | 40 => ⟨S4096, .i32⟩
  | 41 => ⟨S4096, .i32⟩
  | 42 => ⟨S4096, .i32⟩
  | 43 => ⟨S4096, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i32⟩
  | 50 => ⟨S4096, .i32⟩
  | 51 => ⟨S4096, .i32⟩
  | 52 => ⟨S4096, .i32⟩
  | 53 => ⟨S_, .i32⟩
  | 54 => ⟨S4096, .i32⟩
  | 55 => ⟨S4096, .i32⟩
  | 56 => ⟨S_, .i32⟩
  | 57 => ⟨S4096, .i32⟩
  | 58 => ⟨S4096, .i32⟩
  | 59 => ⟨S4096, .i32⟩
  | 60 => ⟨S4096, .i32⟩
  | 61 => ⟨S4096, .i32⟩
  | 62 => ⟨S4096, .i32⟩
  | 63 => ⟨S4096, .i32⟩
  | 64 => ⟨S4096, .i32⟩
  | 65 => ⟨S_, .i32⟩
  | 66 => ⟨S4096, .i32⟩
  | 67 => ⟨S4096, .i32⟩
  | 68 => ⟨S4096, .i32⟩
  | 69 => ⟨S_, .i32⟩
  | 70 => ⟨S4096, .i32⟩
  | 71 => ⟨S4096, .i32⟩
  | 72 => ⟨S_, .i32⟩
  | 73 => ⟨S4096, .i32⟩
  | 74 => ⟨S4096, .i32⟩
  | 75 => ⟨S4096, .i32⟩
  | 76 => ⟨S4096, .i32⟩
  | 77 => ⟨S4096, .i32⟩
  | 78 => ⟨S_, .i32⟩
  | 79 => ⟨S4096, .i32⟩
  | 80 => ⟨S4096, .i32⟩
  | 81 => ⟨S_, .i32⟩
  | 82 => ⟨S4096, .i32⟩
  | 83 => ⟨S4096, .i32⟩
  | 84 => ⟨S4096, .i32⟩
  | 85 => ⟨S4096, .i32⟩
  | 86 => ⟨S4096, .i32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S4096, .i32⟩
  | 94 => ⟨S4096, .i32⟩
  | 95 => ⟨S4096, .i32⟩
  | 96 => ⟨S_, .i32⟩
  | 97 => ⟨S4096, .i32⟩
  | 98 => ⟨S4096, .i32⟩
  | 99 => ⟨S_, .i32⟩
  | 100 => ⟨S4096, .i32⟩
  | 101 => ⟨S4096, .i32⟩
  | 102 => ⟨S4096, .i32⟩
  | 103 => ⟨S4096, .i32⟩
  | 104 => ⟨S4096, .i32⟩
  | 105 => ⟨S4096, .i32⟩
  | 106 => ⟨S4096, .i32⟩
  | 107 => ⟨S4096, .i32⟩
  | 108 => ⟨S_, .i32⟩
  | 109 => ⟨S4096, .i32⟩
  | 110 => ⟨S4096, .i32⟩
  | 111 => ⟨S4096, .i32⟩
  | 112 => ⟨S_, .i32⟩
  | 113 => ⟨S4096, .i32⟩
  | 114 => ⟨S4096, .i32⟩
  | 115 => ⟨S_, .i32⟩
  | 116 => ⟨S4096, .i32⟩
  | 117 => ⟨S4096, .i32⟩
  | 118 => ⟨S4096, .f32⟩
  | 119 => ⟨S_, .f32⟩
  | 120 => ⟨S4096, .f32⟩
  | 121 => ⟨S4096, .f32⟩
  | 122 => ⟨S1, .f32⟩
  | 123 => ⟨S4096, .f32⟩
  | 124 => ⟨S4096, .f32⟩
  | 125 => ⟨S4096, .f32⟩
  | 126 => ⟨S4096, .f32⟩
  | 127 => ⟨S4096, .f32⟩
  | _ => ⟨S16x256x4096, .f32⟩

abbrev hbmTy0_4 (i : Nat) : BufTy := match i % 128 with
  | 0 => ⟨S4096, .f32⟩
  | 1 => ⟨S_, .f32⟩
  | 2 => ⟨S4096, .f32⟩
  | 3 => ⟨S4096, .i1⟩
  | 4 => ⟨S_, .f32⟩
  | 5 => ⟨S_, .f32⟩
  | 6 => ⟨S_, .f32⟩
  | 7 => ⟨S_, .f32⟩
  | 8 => ⟨S1, .f32⟩
  | 9 => ⟨S1, .f32⟩
  | 10 => ⟨S1, .i32⟩
  | 11 => ⟨S_, .i32⟩
  | 12 => ⟨S1, .i32⟩
  | 13 => ⟨S_, .i32⟩
  | 14 => ⟨S4096, .i64⟩
  | 15 => ⟨S_, .i64⟩
  | 16 => ⟨S4096, .i64⟩
  | 17 => ⟨S4096, .i64⟩
  | 18 => ⟨S_, .i64⟩
  | 19 => ⟨S4096, .i64⟩
  | 20 => ⟨S4096, .i64⟩
  | 21 => ⟨S4096, .i32⟩
  | 22 => ⟨S4096, .i32⟩
  | 23 => ⟨S_, .i32⟩
  | 24 => ⟨S_, .i32⟩
  | 25 => ⟨S_, .i32⟩
  | 26 => ⟨S4096, .i32⟩
  | 27 => ⟨S4096, .i32⟩
  | 28 => ⟨S4096, .i32⟩
  | 29 => ⟨S4096, .i32⟩
  | 30 => ⟨S4096, .i32⟩
  | 31 => ⟨S_, .i32⟩
  | 32 => ⟨S4096, .i32⟩
  | 33 => ⟨S4096, .i32⟩
  | 34 => ⟨S_, .i32⟩
  | 35 => ⟨S4096, .i32⟩
  | 36 => ⟨S4096, .i32⟩
  | 37 => ⟨S4096, .i32⟩
  | 38 => ⟨S4096, .i32⟩
  | 39 => ⟨S4096, .i32⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S4096, .i32⟩
  | 47 => ⟨S4096, .i32⟩
  | 48 => ⟨S4096, .i32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S4096, .i32⟩
  | 56 => ⟨S4096, .i32⟩
  | 57 => ⟨S4096, .i32⟩
  | 58 => ⟨S_, .i32⟩
  | 59 => ⟨S4096, .i32⟩
  | 60 => ⟨S4096, .i32⟩
  | 61 => ⟨S_, .i32⟩
  | 62 => ⟨S4096, .i32⟩
  | 63 => ⟨S4096, .i32⟩
  | 64 => ⟨S4096, .i32⟩
  | 65 => ⟨S4096, .i32⟩
  | 66 => ⟨S4096, .i32⟩
  | 67 => ⟨S4096, .i32⟩
  | 68 => ⟨S4096, .i32⟩
  | 69 => ⟨S4096, .i32⟩
  | 70 => ⟨S_, .i32⟩
  | 71 => ⟨S4096, .i32⟩
  | 72 => ⟨S4096, .i32⟩
  | 73 => ⟨S4096, .i32⟩
  | 74 => ⟨S_, .i32⟩
  | 75 => ⟨S4096, .i32⟩
  | 76 => ⟨S4096, .i32⟩
  | 77 => ⟨S_, .i32⟩
  | 78 => ⟨S4096, .i32⟩
  | 79 => ⟨S4096, .i32⟩
  | 80 => ⟨S4096, .i32⟩
  | 81 => ⟨S4096, .i32⟩
  | 82 => ⟨S4096, .i32⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S4096, .i32⟩
  | 90 => ⟨S4096, .i32⟩
  | 91 => ⟨S4096, .i32⟩
  | 92 => ⟨S_, .i32⟩
  | 93 => ⟨S4096, .i32⟩
  | 94 => ⟨S4096, .i32⟩
  | 95 => ⟨S_, .i32⟩
  | 96 => ⟨S4096, .i32⟩
  | 97 => ⟨S4096, .i32⟩
  | 98 => ⟨S4096, .i32⟩
  | 99 => ⟨S4096, .i32⟩
  | 100 => ⟨S4096, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i32⟩
  | 107 => ⟨S4096, .i32⟩
  | 108 => ⟨S4096, .i32⟩
  | 109 => ⟨S4096, .i32⟩
  | 110 => ⟨S4096, .i32⟩
  | 111 => ⟨S4096, .i32⟩
  | 112 => ⟨S4096, .i32⟩
  | 113 => ⟨S_, .i32⟩
  | 114 => ⟨S4096, .i32⟩
  | 115 => ⟨S4096, .i32⟩
  | 116 => ⟨S4096, .i32⟩
  | 117 => ⟨S_, .i32⟩
  | 118 => ⟨S4096, .i32⟩
  | 119 => ⟨S4096, .i32⟩
  | 120 => ⟨S_, .i32⟩
  | 121 => ⟨S4096, .i32⟩
  | 122 => ⟨S4096, .i32⟩
  | 123 => ⟨S4096, .i32⟩
  | 124 => ⟨S4096, .i32⟩
  | 125 => ⟨S4096, .i32⟩
  | 126 => ⟨S_, .i32⟩
  | 127 => ⟨S4096, .i32⟩
  | _ => ⟨S16x256x4096, .f32⟩

abbrev hbmTy0_5 (i : Nat) : BufTy := match i % 128 with
  | 0 => ⟨S4096, .i32⟩
  | 1 => ⟨S_, .i32⟩
  | 2 => ⟨S4096, .i32⟩
  | 3 => ⟨S4096, .i32⟩
  | 4 => ⟨S4096, .i32⟩
  | 5 => ⟨S4096, .i32⟩
  | 6 => ⟨S4096, .i32⟩
  | 7 => ⟨S_, .i32⟩
  | 8 => ⟨S4096, .i32⟩
  | 9 => ⟨S4096, .i32⟩
  | 10 => ⟨S_, .i32⟩
  | 11 => ⟨S4096, .i32⟩
  | 12 => ⟨S4096, .i32⟩
  | 13 => ⟨S4096, .i32⟩
  | 14 => ⟨S4096, .i32⟩
  | 15 => ⟨S4096, .i32⟩
  | 16 => ⟨S_, .i32⟩
  | 17 => ⟨S4096, .i32⟩
  | 18 => ⟨S4096, .i32⟩
  | 19 => ⟨S_, .i32⟩
  | 20 => ⟨S4096, .i32⟩
  | 21 => ⟨S4096, .i32⟩
  | 22 => ⟨S4096, .i32⟩
  | 23 => ⟨S4096, .i32⟩
  | 24 => ⟨S4096, .i32⟩
  | 25 => ⟨S4096, .i32⟩
  | 26 => ⟨S4096, .i32⟩
  | 27 => ⟨S4096, .i32⟩
  | 28 => ⟨S_, .i32⟩
  | 29 => ⟨S4096, .i32⟩
  | 30 => ⟨S4096, .i32⟩
  | 31 => ⟨S4096, .i32⟩
  | 32 => ⟨S_, .i32⟩
  | 33 => ⟨S4096, .i32⟩
  | 34 => ⟨S4096, .i32⟩
  | 35 => ⟨S_, .i32⟩
  | 36 => ⟨S4096, .i32⟩
  | 37 => ⟨S4096, .i32⟩
  | 38 => ⟨S4096, .i32⟩
  | 39 => ⟨S4096, .i32⟩
  | 40 => ⟨S4096, .i32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S4096, .i32⟩
  | 48 => ⟨S4096, .i32⟩
  | 49 => ⟨S4096, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i32⟩
  | 56 => ⟨S4096, .i32⟩
  | 57 => ⟨S4096, .i32⟩
  | 58 => ⟨S4096, .i32⟩
  | 59 => ⟨S_, .i32⟩
  | 60 => ⟨S4096, .i32⟩
  | 61 => ⟨S4096, .i32⟩
  | 62 => ⟨S_, .i32⟩
  | 63 => ⟨S4096, .i32⟩
  | 64 => ⟨S4096, .i32⟩
  | 65 => ⟨S4096, .i32⟩
  | 66 => ⟨S4096, .i32⟩
  | 67 => ⟨S4096, .i32⟩
  | 68 => ⟨S4096, .i32⟩
  | 69 => ⟨S4096, .i32⟩
  | 70 => ⟨S4096, .i32⟩
  | 71 => ⟨S_, .i32⟩
  | 72 => ⟨S4096, .i32⟩
  | 73 => ⟨S4096, .i32⟩
  | 74 => ⟨S4096, .i32⟩
  | 75 => ⟨S_, .i32⟩
  | 76 => ⟨S4096, .i32⟩
  | 77 => ⟨S4096, .i32⟩
  | 78 => ⟨S_, .i32⟩
  | 79 => ⟨S4096, .i32⟩
  | 80 => ⟨S4096, .i32⟩
  | 81 => ⟨S4096, .i32⟩
  | 82 => ⟨S4096, .i32⟩
  | 83 => ⟨S4096, .i32⟩
  | 84 => ⟨S_, .i32⟩
  | 85 => ⟨S4096, .i32⟩
  | 86 => ⟨S4096, .i32⟩
  | 87 => ⟨S_, .i32⟩
  | 88 => ⟨S4096, .i32⟩
  | 89 => ⟨S4096, .i32⟩
  | 90 => ⟨S4096, .i32⟩
  | 91 => ⟨S4096, .i32⟩
  | 92 => ⟨S4096, .i32⟩
  | 93 => ⟨S_, .i32⟩
  | 94 => ⟨S4096, .i32⟩
  | 95 => ⟨S4096, .i32⟩
  | 96 => ⟨S_, .i32⟩
  | 97 => ⟨S4096, .i32⟩
  | 98 => ⟨S4096, .i32⟩
  | 99 => ⟨S4096, .i32⟩
  | 100 => ⟨S4096, .i32⟩
  | 101 => ⟨S4096, .i32⟩
  | 102 => ⟨S_, .i32⟩
  | 103 => ⟨S4096, .i32⟩
  | 104 => ⟨S4096, .i32⟩
  | 105 => ⟨S_, .i32⟩
  | 106 => ⟨S4096, .i32⟩
  | 107 => ⟨S4096, .i32⟩
  | 108 => ⟨S4096, .i32⟩
  | 109 => ⟨S4096, .i32⟩
  | 110 => ⟨S4096, .i32⟩
  | 111 => ⟨S4096, .i32⟩
  | 112 => ⟨S4096, .i32⟩
  | 113 => ⟨S4096, .i32⟩
  | 114 => ⟨S_, .i32⟩
  | 115 => ⟨S4096, .i32⟩
  | 116 => ⟨S4096, .i32⟩
  | 117 => ⟨S4096, .i32⟩
  | 118 => ⟨S_, .i32⟩
  | 119 => ⟨S4096, .i32⟩
  | 120 => ⟨S4096, .i32⟩
  | 121 => ⟨S_, .i32⟩
  | 122 => ⟨S4096, .i32⟩
  | 123 => ⟨S4096, .i32⟩
  | 124 => ⟨S4096, .f32⟩
  | 125 => ⟨S_, .f32⟩
  | 126 => ⟨S4096, .f32⟩
  | 127 => ⟨S4096, .f32⟩
  | _ => ⟨S16x256x4096, .f32⟩

abbrev hbmTy0_6 (i : Nat) : BufTy := match i % 128 with
  | 0 => ⟨S1, .f32⟩
  | 1 => ⟨S4096, .f32⟩
  | 2 => ⟨S4096, .f32⟩
  | 3 => ⟨S4096, .f32⟩
  | 4 => ⟨S4096, .f32⟩
  | 5 => ⟨S4096, .f32⟩
  | 6 => ⟨S4096, .f32⟩
  | 7 => ⟨S_, .f32⟩
  | 8 => ⟨S4096, .f32⟩
  | 9 => ⟨S4096, .i1⟩
  | 10 => ⟨S_, .i32⟩
  | 11 => ⟨S_, .i32⟩
  | 12 => ⟨S4096, .i32⟩
  | 13 => ⟨S4096, .i32⟩
  | 14 => ⟨S4096, .i32⟩
  | 15 => ⟨S4096, .i32⟩
  | 16 => ⟨S_, .i32⟩
  | 17 => ⟨S4096, .i32⟩
  | 18 => ⟨S4096, .i1⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S_, .i32⟩
  | 26 => ⟨S4096, .i32⟩
  | 27 => ⟨S4096, .i32⟩
  | 28 => ⟨S4096, .i32⟩
  | 29 => ⟨S4096, .i32⟩
  | 30 => ⟨S4096, .i32⟩
  | 31 => ⟨S4096x4096, .f32⟩
  | 32 => ⟨S16x256x4096, .f32⟩
  | _ => ⟨S16x256x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16x256x4096, .f32⟩

abbrev bufTy : (tb : Table) → Fin (nBuf tb) → BufTy
  | .hbm, ⟨i, _⟩ => hbmTy i
  | .local .scVector .vmem, ⟨0, _⟩ => ⟨S4096, .i32⟩
  | .local .scVector .vmem, ⟨1, _⟩ => ⟨S4x4x4096, .f32⟩
  | .local .scVector .vmem, ⟨2, _⟩ => ⟨S2x4x4096, .f32⟩
  | _, _ => ⟨S16x256x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c : Ref sig .tc := ⟨.hbm, 17, rfl⟩
abbrev main_call0_v5 : Ref sig .tc := ⟨.hbm, 18, rfl⟩
abbrev main_call0_v6 : Ref sig .tc := ⟨.hbm, 19, rfl⟩
abbrev main_call0_c_0 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_call0_v12 : Ref sig .tc := ⟨.hbm, 247, rfl⟩
abbrev main_call0_v13 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_v12 : Ref sig .tc := ⟨.hbm, 253, rfl⟩
abbrev main_cst : Ref sig .tc := ⟨.hbm, 254, rfl⟩
abbrev main_cst_2 : Ref sig .tc := ⟨.hbm, 255, rfl⟩
abbrev main_call1_v0 : Ref sig .tc := ⟨.hbm, 256, rfl⟩
abbrev main_call1_v1 : Ref sig .tc := ⟨.hbm, 257, rfl⟩
abbrev main_call1_v2 : Ref sig .tc := ⟨.hbm, 258, rfl⟩
abbrev main_call1_v3 : Ref sig .tc := ⟨.hbm, 259, rfl⟩
abbrev main_call1_v4 : Ref sig .tc := ⟨.hbm, 260, rfl⟩
abbrev main_call1_v5 : Ref sig .tc := ⟨.hbm, 261, rfl⟩
abbrev main_call1_v6 : Ref sig .tc := ⟨.hbm, 262, rfl⟩
abbrev main_call1_v7 : Ref sig .tc := ⟨.hbm, 263, rfl⟩
abbrev main_call1_v8 : Ref sig .tc := ⟨.hbm, 264, rfl⟩
abbrev main_call1_c : Ref sig .tc := ⟨.hbm, 265, rfl⟩
abbrev main_call1_v9 : Ref sig .tc := ⟨.hbm, 266, rfl⟩
abbrev main_call1_v10 : Ref sig .tc := ⟨.hbm, 267, rfl⟩
abbrev main_call1_c_0 : Ref sig .tc := ⟨.hbm, 268, rfl⟩
abbrev main_call1_v11 : Ref sig .tc := ⟨.hbm, 269, rfl⟩
abbrev main_call1_v12 : Ref sig .tc := ⟨.hbm, 270, rfl⟩
abbrev main_call1_v13 : Ref sig .tc := ⟨.hbm, 271, rfl⟩
abbrev main_call1_v14 : Ref sig .tc := ⟨.hbm, 272, rfl⟩
abbrev main_call1_call0_v0 : Ref sig .tc := ⟨.hbm, 273, rfl⟩
abbrev main_call1_call0_c : Ref sig .tc := ⟨.hbm, 274, rfl⟩
abbrev main_call1_call0_v1 : Ref sig .tc := ⟨.hbm, 275, rfl⟩
abbrev main_call1_call0_v2 : Ref sig .tc := ⟨.hbm, 276, rfl⟩
abbrev main_call1_call0_v3 : Ref sig .tc := ⟨.hbm, 277, rfl⟩
abbrev main_call1_call0_v4 : Ref sig .tc := ⟨.hbm, 278, rfl⟩
abbrev main_call1_call0_v5 : Ref sig .tc := ⟨.hbm, 279, rfl⟩
abbrev main_call1_call0_v6 : Ref sig .tc := ⟨.hbm, 280, rfl⟩
abbrev main_call1_call0_c_0 : Ref sig .tc := ⟨.hbm, 281, rfl⟩
abbrev main_call1_call0_v7 : Ref sig .tc := ⟨.hbm, 282, rfl⟩
abbrev main_call1_call0_v8 : Ref sig .tc := ⟨.hbm, 283, rfl⟩
abbrev main_call1_call0_c_1 : Ref sig .tc := ⟨.hbm, 284, rfl⟩
abbrev main_call1_call0_v9 : Ref sig .tc := ⟨.hbm, 285, rfl⟩
abbrev main_call1_call0_v10 : Ref sig .tc := ⟨.hbm, 286, rfl⟩
abbrev main_call1_call0_v11 : Ref sig .tc := ⟨.hbm, 287, rfl⟩
abbrev main_call1_call0_v12 : Ref sig .tc := ⟨.hbm, 288, rfl⟩
abbrev main_call1_call0_v13 : Ref sig .tc := ⟨.hbm, 289, rfl⟩
abbrev main_call1_call0_c_2 : Ref sig .tc := ⟨.hbm, 290, rfl⟩
abbrev main_call1_call0_v14 : Ref sig .tc := ⟨.hbm, 291, rfl⟩
abbrev main_call1_call0_v15 : Ref sig .tc := ⟨.hbm, 292, rfl⟩
abbrev main_call1_call0_c_3 : Ref sig .tc := ⟨.hbm, 293, rfl⟩
abbrev main_call1_call0_v16 : Ref sig .tc := ⟨.hbm, 294, rfl⟩
abbrev main_call1_call0_v17 : Ref sig .tc := ⟨.hbm, 295, rfl⟩
abbrev main_call1_call0_v18 : Ref sig .tc := ⟨.hbm, 296, rfl⟩
abbrev main_call1_call0_v19 : Ref sig .tc := ⟨.hbm, 297, rfl⟩
abbrev main_call1_call0_v20 : Ref sig .tc := ⟨.hbm, 298, rfl⟩
abbrev main_call1_call0_c_4 : Ref sig .tc := ⟨.hbm, 299, rfl⟩
abbrev main_call1_call0_v21 : Ref sig .tc := ⟨.hbm, 300, rfl⟩
abbrev main_call1_call0_v22 : Ref sig .tc := ⟨.hbm, 301, rfl⟩
abbrev main_call1_call0_c_5 : Ref sig .tc := ⟨.hbm, 302, rfl⟩
abbrev main_call1_call0_v23 : Ref sig .tc := ⟨.hbm, 303, rfl⟩
abbrev main_call1_call0_v24 : Ref sig .tc := ⟨.hbm, 304, rfl⟩
abbrev main_call1_call0_v25 : Ref sig .tc := ⟨.hbm, 305, rfl⟩
abbrev main_call1_call0_v26 : Ref sig .tc := ⟨.hbm, 306, rfl⟩
abbrev main_call1_call0_v27 : Ref sig .tc := ⟨.hbm, 307, rfl⟩
abbrev main_call1_call0_c_6 : Ref sig .tc := ⟨.hbm, 308, rfl⟩
abbrev main_call1_call0_v28 : Ref sig .tc := ⟨.hbm, 309, rfl⟩
abbrev main_call1_call0_v29 : Ref sig .tc := ⟨.hbm, 310, rfl⟩
abbrev main_call1_call0_c_7 : Ref sig .tc := ⟨.hbm, 311, rfl⟩
abbrev main_call1_call0_v30 : Ref sig .tc := ⟨.hbm, 312, rfl⟩
abbrev main_call1_call0_v31 : Ref sig .tc := ⟨.hbm, 313, rfl⟩
abbrev main_call1_call0_v32 : Ref sig .tc := ⟨.hbm, 314, rfl⟩
abbrev main_call1_call0_v33 : Ref sig .tc := ⟨.hbm, 315, rfl⟩
abbrev main_call1_call0_v34 : Ref sig .tc := ⟨.hbm, 316, rfl⟩
abbrev main_call1_call0_v35 : Ref sig .tc := ⟨.hbm, 317, rfl⟩
abbrev main_call1_call0_v36 : Ref sig .tc := ⟨.hbm, 318, rfl⟩
abbrev main_call1_call0_v37 : Ref sig .tc := ⟨.hbm, 319, rfl⟩
abbrev main_call1_call0_c_8 : Ref sig .tc := ⟨.hbm, 320, rfl⟩
abbrev main_call1_call0_v38 : Ref sig .tc := ⟨.hbm, 321, rfl⟩
abbrev main_call1_call0_v39 : Ref sig .tc := ⟨.hbm, 322, rfl⟩
abbrev main_call1_call0_v40 : Ref sig .tc := ⟨.hbm, 323, rfl⟩
abbrev main_call1_call0_c_9 : Ref sig .tc := ⟨.hbm, 324, rfl⟩
abbrev main_call1_call0_v41 : Ref sig .tc := ⟨.hbm, 325, rfl⟩
abbrev main_call1_call0_v42 : Ref sig .tc := ⟨.hbm, 326, rfl⟩
abbrev main_call1_call0_c_10 : Ref sig .tc := ⟨.hbm, 327, rfl⟩
abbrev main_call1_call0_v43 : Ref sig .tc := ⟨.hbm, 328, rfl⟩
abbrev main_call1_call0_v44 : Ref sig .tc := ⟨.hbm, 329, rfl⟩
abbrev main_call1_call0_v45 : Ref sig .tc := ⟨.hbm, 330, rfl⟩
abbrev main_call1_call0_v46 : Ref sig .tc := ⟨.hbm, 331, rfl⟩
abbrev main_call1_call0_v47 : Ref sig .tc := ⟨.hbm, 332, rfl⟩
abbrev main_call1_call0_c_11 : Ref sig .tc := ⟨.hbm, 333, rfl⟩
abbrev main_call1_call0_v48 : Ref sig .tc := ⟨.hbm, 334, rfl⟩
abbrev main_call1_call0_v49 : Ref sig .tc := ⟨.hbm, 335, rfl⟩
abbrev main_call1_call0_c_12 : Ref sig .tc := ⟨.hbm, 336, rfl⟩
abbrev main_call1_call0_v50 : Ref sig .tc := ⟨.hbm, 337, rfl⟩
abbrev main_call1_call0_v51 : Ref sig .tc := ⟨.hbm, 338, rfl⟩
abbrev main_call1_call0_v52 : Ref sig .tc := ⟨.hbm, 339, rfl⟩
abbrev main_call1_call0_v53 : Ref sig .tc := ⟨.hbm, 340, rfl⟩
abbrev main_call1_call0_v54 : Ref sig .tc := ⟨.hbm, 341, rfl⟩
abbrev main_call1_call0_c_13 : Ref sig .tc := ⟨.hbm, 342, rfl⟩
abbrev main_call1_call0_v55 : Ref sig .tc := ⟨.hbm, 343, rfl⟩
abbrev main_call1_call0_v56 : Ref sig .tc := ⟨.hbm, 344, rfl⟩
abbrev main_call1_call0_c_14 : Ref sig .tc := ⟨.hbm, 345, rfl⟩
abbrev main_call1_call0_v57 : Ref sig .tc := ⟨.hbm, 346, rfl⟩
abbrev main_call1_call0_v58 : Ref sig .tc := ⟨.hbm, 347, rfl⟩
abbrev main_call1_call0_v59 : Ref sig .tc := ⟨.hbm, 348, rfl⟩
abbrev main_call1_call0_v60 : Ref sig .tc := ⟨.hbm, 349, rfl⟩
abbrev main_call1_call0_v61 : Ref sig .tc := ⟨.hbm, 350, rfl⟩
abbrev main_call1_call0_c_15 : Ref sig .tc := ⟨.hbm, 351, rfl⟩
abbrev main_call1_call0_v62 : Ref sig .tc := ⟨.hbm, 352, rfl⟩
abbrev main_call1_call0_v63 : Ref sig .tc := ⟨.hbm, 353, rfl⟩
abbrev main_call1_call0_c_16 : Ref sig .tc := ⟨.hbm, 354, rfl⟩
abbrev main_call1_call0_v64 : Ref sig .tc := ⟨.hbm, 355, rfl⟩
abbrev main_call1_call0_v65 : Ref sig .tc := ⟨.hbm, 356, rfl⟩
abbrev main_call1_call0_v66 : Ref sig .tc := ⟨.hbm, 357, rfl⟩
abbrev main_call1_call0_v67 : Ref sig .tc := ⟨.hbm, 358, rfl⟩
abbrev main_call1_call0_v68 : Ref sig .tc := ⟨.hbm, 359, rfl⟩
abbrev main_call1_call0_v69 : Ref sig .tc := ⟨.hbm, 360, rfl⟩
abbrev main_call1_call0_v70 : Ref sig .tc := ⟨.hbm, 361, rfl⟩
abbrev main_call1_call0_v71 : Ref sig .tc := ⟨.hbm, 362, rfl⟩
abbrev main_call1_call0_c_17 : Ref sig .tc := ⟨.hbm, 363, rfl⟩
abbrev main_call1_call0_v72 : Ref sig .tc := ⟨.hbm, 364, rfl⟩
abbrev main_call1_call0_v73 : Ref sig .tc := ⟨.hbm, 365, rfl⟩
abbrev main_call1_call0_v74 : Ref sig .tc := ⟨.hbm, 366, rfl⟩
abbrev main_call1_call0_c_18 : Ref sig .tc := ⟨.hbm, 367, rfl⟩
abbrev main_call1_call0_v75 : Ref sig .tc := ⟨.hbm, 368, rfl⟩
abbrev main_call1_call0_v76 : Ref sig .tc := ⟨.hbm, 369, rfl⟩
abbrev main_call1_call0_c_19 : Ref sig .tc := ⟨.hbm, 370, rfl⟩
abbrev main_call1_call0_v77 : Ref sig .tc := ⟨.hbm, 371, rfl⟩
abbrev main_call1_call0_v78 : Ref sig .tc := ⟨.hbm, 372, rfl⟩
abbrev main_call1_call0_v79 : Ref sig .tc := ⟨.hbm, 373, rfl⟩
abbrev main_call1_call0_v80 : Ref sig .tc := ⟨.hbm, 374, rfl⟩
abbrev main_call1_call0_v81 : Ref sig .tc := ⟨.hbm, 375, rfl⟩
abbrev main_call1_call0_c_20 : Ref sig .tc := ⟨.hbm, 376, rfl⟩
abbrev main_call1_call0_v82 : Ref sig .tc := ⟨.hbm, 377, rfl⟩
abbrev main_call1_call0_v83 : Ref sig .tc := ⟨.hbm, 378, rfl⟩
abbrev main_call1_call0_c_21 : Ref sig .tc := ⟨.hbm, 379, rfl⟩
abbrev main_call1_call0_v84 : Ref sig .tc := ⟨.hbm, 380, rfl⟩
abbrev main_call1_call0_v85 : Ref sig .tc := ⟨.hbm, 381, rfl⟩
abbrev main_call1_call0_v86 : Ref sig .tc := ⟨.hbm, 382, rfl⟩
abbrev main_call1_call0_v87 : Ref sig .tc := ⟨.hbm, 383, rfl⟩
abbrev main_call1_call0_v88 : Ref sig .tc := ⟨.hbm, 384, rfl⟩
abbrev main_call1_call0_c_22 : Ref sig .tc := ⟨.hbm, 385, rfl⟩
abbrev main_call1_call0_v89 : Ref sig .tc := ⟨.hbm, 386, rfl⟩
abbrev main_call1_call0_v90 : Ref sig .tc := ⟨.hbm, 387, rfl⟩
abbrev main_call1_call0_c_23 : Ref sig .tc := ⟨.hbm, 388, rfl⟩
abbrev main_call1_call0_v91 : Ref sig .tc := ⟨.hbm, 389, rfl⟩
abbrev main_call1_call0_v92 : Ref sig .tc := ⟨.hbm, 390, rfl⟩
abbrev main_call1_call0_v93 : Ref sig .tc := ⟨.hbm, 391, rfl⟩
abbrev main_call1_call0_v94 : Ref sig .tc := ⟨.hbm, 392, rfl⟩
abbrev main_call1_call0_v95 : Ref sig .tc := ⟨.hbm, 393, rfl⟩
abbrev main_call1_call0_c_24 : Ref sig .tc := ⟨.hbm, 394, rfl⟩
abbrev main_call1_call0_v96 : Ref sig .tc := ⟨.hbm, 395, rfl⟩
abbrev main_call1_call0_v97 : Ref sig .tc := ⟨.hbm, 396, rfl⟩
abbrev main_call1_call0_c_25 : Ref sig .tc := ⟨.hbm, 397, rfl⟩
abbrev main_call1_call0_v98 : Ref sig .tc := ⟨.hbm, 398, rfl⟩
abbrev main_call1_call0_v99 : Ref sig .tc := ⟨.hbm, 399, rfl⟩
abbrev main_call1_call0_v100 : Ref sig .tc := ⟨.hbm, 400, rfl⟩
abbrev main_call1_call0_v101 : Ref sig .tc := ⟨.hbm, 401, rfl⟩
abbrev main_call1_call0_v102 : Ref sig .tc := ⟨.hbm, 402, rfl⟩
abbrev main_call1_call0_v103 : Ref sig .tc := ⟨.hbm, 403, rfl⟩
abbrev main_call1_call0_v104 : Ref sig .tc := ⟨.hbm, 404, rfl⟩
abbrev main_call1_call0_v105 : Ref sig .tc := ⟨.hbm, 405, rfl⟩
abbrev main_call1_call0_c_26 : Ref sig .tc := ⟨.hbm, 406, rfl⟩
abbrev main_call1_call0_v106 : Ref sig .tc := ⟨.hbm, 407, rfl⟩
abbrev main_call1_call0_v107 : Ref sig .tc := ⟨.hbm, 408, rfl⟩
abbrev main_call1_call0_v108 : Ref sig .tc := ⟨.hbm, 409, rfl⟩
abbrev main_call1_call0_c_27 : Ref sig .tc := ⟨.hbm, 410, rfl⟩
abbrev main_call1_call0_v109 : Ref sig .tc := ⟨.hbm, 411, rfl⟩
abbrev main_call1_call0_v110 : Ref sig .tc := ⟨.hbm, 412, rfl⟩
abbrev main_call1_call0_c_28 : Ref sig .tc := ⟨.hbm, 413, rfl⟩
abbrev main_call1_call0_v111 : Ref sig .tc := ⟨.hbm, 414, rfl⟩
abbrev main_call1_call0_v112 : Ref sig .tc := ⟨.hbm, 415, rfl⟩
abbrev main_call1_call0_v113 : Ref sig .tc := ⟨.hbm, 416, rfl⟩
abbrev main_call1_call0_v114 : Ref sig .tc := ⟨.hbm, 417, rfl⟩
abbrev main_call1_call0_v115 : Ref sig .tc := ⟨.hbm, 418, rfl⟩
abbrev main_call1_call0_c_29 : Ref sig .tc := ⟨.hbm, 419, rfl⟩
abbrev main_call1_call0_v116 : Ref sig .tc := ⟨.hbm, 420, rfl⟩
abbrev main_call1_call0_v117 : Ref sig .tc := ⟨.hbm, 421, rfl⟩
abbrev main_call1_call0_c_30 : Ref sig .tc := ⟨.hbm, 422, rfl⟩
abbrev main_call1_call0_v118 : Ref sig .tc := ⟨.hbm, 423, rfl⟩
abbrev main_call1_call0_v119 : Ref sig .tc := ⟨.hbm, 424, rfl⟩
abbrev main_call1_call0_v120 : Ref sig .tc := ⟨.hbm, 425, rfl⟩
abbrev main_call1_call0_v121 : Ref sig .tc := ⟨.hbm, 426, rfl⟩
abbrev main_call1_call0_v122 : Ref sig .tc := ⟨.hbm, 427, rfl⟩
abbrev main_call1_call0_c_31 : Ref sig .tc := ⟨.hbm, 428, rfl⟩
abbrev main_call1_call0_v123 : Ref sig .tc := ⟨.hbm, 429, rfl⟩
abbrev main_call1_call0_v124 : Ref sig .tc := ⟨.hbm, 430, rfl⟩
abbrev main_call1_call0_c_32 : Ref sig .tc := ⟨.hbm, 431, rfl⟩
abbrev main_call1_call0_v125 : Ref sig .tc := ⟨.hbm, 432, rfl⟩
abbrev main_call1_call0_v126 : Ref sig .tc := ⟨.hbm, 433, rfl⟩
abbrev main_call1_call0_v127 : Ref sig .tc := ⟨.hbm, 434, rfl⟩
abbrev main_call1_call0_v128 : Ref sig .tc := ⟨.hbm, 435, rfl⟩
abbrev main_call1_call0_v129 : Ref sig .tc := ⟨.hbm, 436, rfl⟩
abbrev main_call1_call0_c_33 : Ref sig .tc := ⟨.hbm, 437, rfl⟩
abbrev main_call1_call0_v130 : Ref sig .tc := ⟨.hbm, 438, rfl⟩
abbrev main_call1_call0_v131 : Ref sig .tc := ⟨.hbm, 439, rfl⟩
abbrev main_call1_call0_c_34 : Ref sig .tc := ⟨.hbm, 440, rfl⟩
abbrev main_call1_call0_v132 : Ref sig .tc := ⟨.hbm, 441, rfl⟩
abbrev main_call1_call0_v133 : Ref sig .tc := ⟨.hbm, 442, rfl⟩
abbrev main_call1_call0_v134 : Ref sig .tc := ⟨.hbm, 443, rfl⟩
abbrev main_call1_call0_v135 : Ref sig .tc := ⟨.hbm, 444, rfl⟩
abbrev main_call1_call0_v136 : Ref sig .tc := ⟨.hbm, 445, rfl⟩
abbrev main_call1_call0_v137 : Ref sig .tc := ⟨.hbm, 446, rfl⟩
abbrev main_call1_call0_v138 : Ref sig .tc := ⟨.hbm, 447, rfl⟩
abbrev main_call1_call0_v139 : Ref sig .tc := ⟨.hbm, 448, rfl⟩
abbrev main_call1_call0_c_35 : Ref sig .tc := ⟨.hbm, 449, rfl⟩
abbrev main_call1_call0_v140 : Ref sig .tc := ⟨.hbm, 450, rfl⟩
abbrev main_call1_call0_v141 : Ref sig .tc := ⟨.hbm, 451, rfl⟩
abbrev main_call1_call0_v142 : Ref sig .tc := ⟨.hbm, 452, rfl⟩
abbrev main_call1_call0_c_36 : Ref sig .tc := ⟨.hbm, 453, rfl⟩
abbrev main_call1_call0_v143 : Ref sig .tc := ⟨.hbm, 454, rfl⟩
abbrev main_call1_call0_v144 : Ref sig .tc := ⟨.hbm, 455, rfl⟩
abbrev main_call1_call0_c_37 : Ref sig .tc := ⟨.hbm, 456, rfl⟩
abbrev main_call1_call0_v145 : Ref sig .tc := ⟨.hbm, 457, rfl⟩
abbrev main_call1_call0_v146 : Ref sig .tc := ⟨.hbm, 458, rfl⟩
abbrev main_call1_call0_v147 : Ref sig .tc := ⟨.hbm, 459, rfl⟩
abbrev main_call1_call0_v148 : Ref sig .tc := ⟨.hbm, 460, rfl⟩
abbrev main_call1_call0_v149 : Ref sig .tc := ⟨.hbm, 461, rfl⟩
abbrev main_call1_call0_c_38 : Ref sig .tc := ⟨.hbm, 462, rfl⟩
abbrev main_call1_call0_v150 : Ref sig .tc := ⟨.hbm, 463, rfl⟩
abbrev main_call1_call0_v151 : Ref sig .tc := ⟨.hbm, 464, rfl⟩
abbrev main_call1_call0_c_39 : Ref sig .tc := ⟨.hbm, 465, rfl⟩
abbrev main_call1_call0_v152 : Ref sig .tc := ⟨.hbm, 466, rfl⟩
abbrev main_call1_call0_v153 : Ref sig .tc := ⟨.hbm, 467, rfl⟩
abbrev main_call1_call0_v154 : Ref sig .tc := ⟨.hbm, 468, rfl⟩
abbrev main_call1_call0_v155 : Ref sig .tc := ⟨.hbm, 469, rfl⟩
abbrev main_call1_call0_v156 : Ref sig .tc := ⟨.hbm, 470, rfl⟩
abbrev main_call1_call0_c_40 : Ref sig .tc := ⟨.hbm, 471, rfl⟩
abbrev main_call1_call0_v157 : Ref sig .tc := ⟨.hbm, 472, rfl⟩
abbrev main_call1_call0_v158 : Ref sig .tc := ⟨.hbm, 473, rfl⟩
abbrev main_call1_call0_c_41 : Ref sig .tc := ⟨.hbm, 474, rfl⟩
abbrev main_call1_call0_v159 : Ref sig .tc := ⟨.hbm, 475, rfl⟩
abbrev main_call1_call0_v160 : Ref sig .tc := ⟨.hbm, 476, rfl⟩
abbrev main_call1_call0_v161 : Ref sig .tc := ⟨.hbm, 477, rfl⟩
abbrev main_call1_call0_v162 : Ref sig .tc := ⟨.hbm, 478, rfl⟩
abbrev main_call1_call0_v163 : Ref sig .tc := ⟨.hbm, 479, rfl⟩
abbrev main_call1_call0_c_42 : Ref sig .tc := ⟨.hbm, 480, rfl⟩
abbrev main_call1_call0_v164 : Ref sig .tc := ⟨.hbm, 481, rfl⟩
abbrev main_call1_call0_v165 : Ref sig .tc := ⟨.hbm, 482, rfl⟩
abbrev main_call1_call0_c_43 : Ref sig .tc := ⟨.hbm, 483, rfl⟩
abbrev main_call1_call0_v166 : Ref sig .tc := ⟨.hbm, 484, rfl⟩
abbrev main_call1_call0_v167 : Ref sig .tc := ⟨.hbm, 485, rfl⟩
abbrev main_call1_call0_v168 : Ref sig .tc := ⟨.hbm, 486, rfl⟩
abbrev main_call1_call0_v169 : Ref sig .tc := ⟨.hbm, 487, rfl⟩
abbrev main_call1_call0_v170 : Ref sig .tc := ⟨.hbm, 488, rfl⟩
abbrev main_call1_v15_0 : Ref sig .tc := ⟨.hbm, 489, rfl⟩
abbrev main_call1_call0_v172 : Ref sig .tc := ⟨.hbm, 490, rfl⟩
abbrev main_call1_call0_v173 : Ref sig .tc := ⟨.hbm, 491, rfl⟩
abbrev main_call1_call0_c_44 : Ref sig .tc := ⟨.hbm, 492, rfl⟩
abbrev main_call1_call0_v174 : Ref sig .tc := ⟨.hbm, 493, rfl⟩
abbrev main_call1_v15_1 : Ref sig .tc := ⟨.hbm, 494, rfl⟩
abbrev main_call1_v16 : Ref sig .tc := ⟨.hbm, 495, rfl⟩
abbrev main_call1_c_1 : Ref sig .tc := ⟨.hbm, 496, rfl⟩
abbrev main_call1_v17 : Ref sig .tc := ⟨.hbm, 497, rfl⟩
abbrev main_call1_v18 : Ref sig .tc := ⟨.hbm, 498, rfl⟩
abbrev main_call1_c_2 : Ref sig .tc := ⟨.hbm, 499, rfl⟩
abbrev main_call1_v19 : Ref sig .tc := ⟨.hbm, 500, rfl⟩
abbrev main_call1_v20 : Ref sig .tc := ⟨.hbm, 501, rfl⟩
abbrev main_call1_v21 : Ref sig .tc := ⟨.hbm, 502, rfl⟩
abbrev main_call1_cst : Ref sig .tc := ⟨.hbm, 503, rfl⟩
abbrev main_call1_v22 : Ref sig .tc := ⟨.hbm, 504, rfl⟩
abbrev main_call1_v23 : Ref sig .tc := ⟨.hbm, 505, rfl⟩
abbrev main_call1_v24 : Ref sig .tc := ⟨.hbm, 506, rfl⟩
abbrev main_call1_v25 : Ref sig .tc := ⟨.hbm, 507, rfl⟩
abbrev main_call1_v26 : Ref sig .tc := ⟨.hbm, 508, rfl⟩
abbrev main_call1_v27 : Ref sig .tc := ⟨.hbm, 509, rfl⟩
abbrev main_call1_v28 : Ref sig .tc := ⟨.hbm, 510, rfl⟩
abbrev main_call1_v29 : Ref sig .tc := ⟨.hbm, 511, rfl⟩
abbrev main_v13 : Ref sig .tc := ⟨.hbm, 512, rfl⟩
abbrev main_cst_3 : Ref sig .tc := ⟨.hbm, 513, rfl⟩
abbrev main_v14 : Ref sig .tc := ⟨.hbm, 514, rfl⟩
abbrev main_v15 : Ref sig .tc := ⟨.hbm, 515, rfl⟩
abbrev main_cst_4 : Ref sig .tc := ⟨.hbm, 516, rfl⟩
abbrev main_cst_5 : Ref sig .tc := ⟨.hbm, 517, rfl⟩
abbrev main_call2_v0 : Ref sig .tc := ⟨.hbm, 518, rfl⟩
abbrev main_call2_v1 : Ref sig .tc := ⟨.hbm, 519, rfl⟩
abbrev main_call2_v2 : Ref sig .tc := ⟨.hbm, 520, rfl⟩
abbrev main_call2_v3 : Ref sig .tc := ⟨.hbm, 521, rfl⟩
abbrev main_call2_v4 : Ref sig .tc := ⟨.hbm, 522, rfl⟩
abbrev main_call2_v5 : Ref sig .tc := ⟨.hbm, 523, rfl⟩
abbrev main_call2_v6 : Ref sig .tc := ⟨.hbm, 524, rfl⟩
abbrev main_call2_v7 : Ref sig .tc := ⟨.hbm, 525, rfl⟩
abbrev main_call2_v8 : Ref sig .tc := ⟨.hbm, 526, rfl⟩
abbrev main_call2_c : Ref sig .tc := ⟨.hbm, 527, rfl⟩
abbrev main_call2_v9 : Ref sig .tc := ⟨.hbm, 528, rfl⟩
abbrev main_call2_v10 : Ref sig .tc := ⟨.hbm, 529, rfl⟩
abbrev main_call2_c_0 : Ref sig .tc := ⟨.hbm, 530, rfl⟩
abbrev main_call2_v11 : Ref sig .tc := ⟨.hbm, 531, rfl⟩
abbrev main_call2_v12 : Ref sig .tc := ⟨.hbm, 532, rfl⟩
abbrev main_call2_v13 : Ref sig .tc := ⟨.hbm, 533, rfl⟩
abbrev main_call2_v14 : Ref sig .tc := ⟨.hbm, 534, rfl⟩
abbrev main_call2_call0_v0 : Ref sig .tc := ⟨.hbm, 535, rfl⟩
abbrev main_call2_call0_c : Ref sig .tc := ⟨.hbm, 536, rfl⟩
abbrev main_call2_call0_v1 : Ref sig .tc := ⟨.hbm, 537, rfl⟩
abbrev main_call2_call0_v2 : Ref sig .tc := ⟨.hbm, 538, rfl⟩
abbrev main_call2_call0_v3 : Ref sig .tc := ⟨.hbm, 539, rfl⟩
abbrev main_call2_call0_v4 : Ref sig .tc := ⟨.hbm, 540, rfl⟩
abbrev main_call2_call0_v5 : Ref sig .tc := ⟨.hbm, 541, rfl⟩
abbrev main_call2_call0_v6 : Ref sig .tc := ⟨.hbm, 542, rfl⟩
abbrev main_call2_call0_c_0 : Ref sig .tc := ⟨.hbm, 543, rfl⟩
abbrev main_call2_call0_v7 : Ref sig .tc := ⟨.hbm, 544, rfl⟩
abbrev main_call2_call0_v8 : Ref sig .tc := ⟨.hbm, 545, rfl⟩
abbrev main_call2_call0_c_1 : Ref sig .tc := ⟨.hbm, 546, rfl⟩
abbrev main_call2_call0_v9 : Ref sig .tc := ⟨.hbm, 547, rfl⟩
abbrev main_call2_call0_v10 : Ref sig .tc := ⟨.hbm, 548, rfl⟩
abbrev main_call2_call0_v11 : Ref sig .tc := ⟨.hbm, 549, rfl⟩
abbrev main_call2_call0_v12 : Ref sig .tc := ⟨.hbm, 550, rfl⟩
abbrev main_call2_call0_v13 : Ref sig .tc := ⟨.hbm, 551, rfl⟩
abbrev main_call2_call0_c_2 : Ref sig .tc := ⟨.hbm, 552, rfl⟩
abbrev main_call2_call0_v14 : Ref sig .tc := ⟨.hbm, 553, rfl⟩
abbrev main_call2_call0_v15 : Ref sig .tc := ⟨.hbm, 554, rfl⟩
abbrev main_call2_call0_c_3 : Ref sig .tc := ⟨.hbm, 555, rfl⟩
abbrev main_call2_call0_v16 : Ref sig .tc := ⟨.hbm, 556, rfl⟩
abbrev main_call2_call0_v17 : Ref sig .tc := ⟨.hbm, 557, rfl⟩
abbrev main_call2_call0_v18 : Ref sig .tc := ⟨.hbm, 558, rfl⟩
abbrev main_call2_call0_v19 : Ref sig .tc := ⟨.hbm, 559, rfl⟩
abbrev main_call2_call0_v20 : Ref sig .tc := ⟨.hbm, 560, rfl⟩
abbrev main_call2_call0_c_4 : Ref sig .tc := ⟨.hbm, 561, rfl⟩
abbrev main_call2_call0_v21 : Ref sig .tc := ⟨.hbm, 562, rfl⟩
abbrev main_call2_call0_v22 : Ref sig .tc := ⟨.hbm, 563, rfl⟩
abbrev main_call2_call0_c_5 : Ref sig .tc := ⟨.hbm, 564, rfl⟩
abbrev main_call2_call0_v23 : Ref sig .tc := ⟨.hbm, 565, rfl⟩
abbrev main_call2_call0_v24 : Ref sig .tc := ⟨.hbm, 566, rfl⟩
abbrev main_call2_call0_v25 : Ref sig .tc := ⟨.hbm, 567, rfl⟩
abbrev main_call2_call0_v26 : Ref sig .tc := ⟨.hbm, 568, rfl⟩
abbrev main_call2_call0_v27 : Ref sig .tc := ⟨.hbm, 569, rfl⟩
abbrev main_call2_call0_c_6 : Ref sig .tc := ⟨.hbm, 570, rfl⟩
abbrev main_call2_call0_v28 : Ref sig .tc := ⟨.hbm, 571, rfl⟩
abbrev main_call2_call0_v29 : Ref sig .tc := ⟨.hbm, 572, rfl⟩
abbrev main_call2_call0_c_7 : Ref sig .tc := ⟨.hbm, 573, rfl⟩
abbrev main_call2_call0_v30 : Ref sig .tc := ⟨.hbm, 574, rfl⟩
abbrev main_call2_call0_v31 : Ref sig .tc := ⟨.hbm, 575, rfl⟩
abbrev main_call2_call0_v32 : Ref sig .tc := ⟨.hbm, 576, rfl⟩
abbrev main_call2_call0_v33 : Ref sig .tc := ⟨.hbm, 577, rfl⟩
abbrev main_call2_call0_v34 : Ref sig .tc := ⟨.hbm, 578, rfl⟩
abbrev main_call2_call0_v35 : Ref sig .tc := ⟨.hbm, 579, rfl⟩
abbrev main_call2_call0_v36 : Ref sig .tc := ⟨.hbm, 580, rfl⟩
abbrev main_call2_call0_v37 : Ref sig .tc := ⟨.hbm, 581, rfl⟩
abbrev main_call2_call0_c_8 : Ref sig .tc := ⟨.hbm, 582, rfl⟩
abbrev main_call2_call0_v38 : Ref sig .tc := ⟨.hbm, 583, rfl⟩
abbrev main_call2_call0_v39 : Ref sig .tc := ⟨.hbm, 584, rfl⟩
abbrev main_call2_call0_v40 : Ref sig .tc := ⟨.hbm, 585, rfl⟩
abbrev main_call2_call0_c_9 : Ref sig .tc := ⟨.hbm, 586, rfl⟩
abbrev main_call2_call0_v41 : Ref sig .tc := ⟨.hbm, 587, rfl⟩
abbrev main_call2_call0_v42 : Ref sig .tc := ⟨.hbm, 588, rfl⟩
abbrev main_call2_call0_c_10 : Ref sig .tc := ⟨.hbm, 589, rfl⟩
abbrev main_call2_call0_v43 : Ref sig .tc := ⟨.hbm, 590, rfl⟩
abbrev main_call2_call0_v44 : Ref sig .tc := ⟨.hbm, 591, rfl⟩
abbrev main_call2_call0_v45 : Ref sig .tc := ⟨.hbm, 592, rfl⟩
abbrev main_call2_call0_v46 : Ref sig .tc := ⟨.hbm, 593, rfl⟩
abbrev main_call2_call0_v47 : Ref sig .tc := ⟨.hbm, 594, rfl⟩
abbrev main_call2_call0_c_11 : Ref sig .tc := ⟨.hbm, 595, rfl⟩
abbrev main_call2_call0_v48 : Ref sig .tc := ⟨.hbm, 596, rfl⟩
abbrev main_call2_call0_v49 : Ref sig .tc := ⟨.hbm, 597, rfl⟩
abbrev main_call2_call0_c_12 : Ref sig .tc := ⟨.hbm, 598, rfl⟩
abbrev main_call2_call0_v50 : Ref sig .tc := ⟨.hbm, 599, rfl⟩
abbrev main_call2_call0_v51 : Ref sig .tc := ⟨.hbm, 600, rfl⟩
abbrev main_call2_call0_v52 : Ref sig .tc := ⟨.hbm, 601, rfl⟩
abbrev main_call2_call0_v53 : Ref sig .tc := ⟨.hbm, 602, rfl⟩
abbrev main_call2_call0_v54 : Ref sig .tc := ⟨.hbm, 603, rfl⟩
abbrev main_call2_call0_c_13 : Ref sig .tc := ⟨.hbm, 604, rfl⟩
abbrev main_call2_call0_v55 : Ref sig .tc := ⟨.hbm, 605, rfl⟩
abbrev main_call2_call0_v56 : Ref sig .tc := ⟨.hbm, 606, rfl⟩
abbrev main_call2_call0_c_14 : Ref sig .tc := ⟨.hbm, 607, rfl⟩
abbrev main_call2_call0_v57 : Ref sig .tc := ⟨.hbm, 608, rfl⟩
abbrev main_call2_call0_v58 : Ref sig .tc := ⟨.hbm, 609, rfl⟩
abbrev main_call2_call0_v59 : Ref sig .tc := ⟨.hbm, 610, rfl⟩
abbrev main_call2_call0_v60 : Ref sig .tc := ⟨.hbm, 611, rfl⟩
abbrev main_call2_call0_v61 : Ref sig .tc := ⟨.hbm, 612, rfl⟩
abbrev main_call2_call0_c_15 : Ref sig .tc := ⟨.hbm, 613, rfl⟩
abbrev main_call2_call0_v62 : Ref sig .tc := ⟨.hbm, 614, rfl⟩
abbrev main_call2_call0_v63 : Ref sig .tc := ⟨.hbm, 615, rfl⟩
abbrev main_call2_call0_c_16 : Ref sig .tc := ⟨.hbm, 616, rfl⟩
abbrev main_call2_call0_v64 : Ref sig .tc := ⟨.hbm, 617, rfl⟩
abbrev main_call2_call0_v65 : Ref sig .tc := ⟨.hbm, 618, rfl⟩
abbrev main_call2_call0_v66 : Ref sig .tc := ⟨.hbm, 619, rfl⟩
abbrev main_call2_call0_v67 : Ref sig .tc := ⟨.hbm, 620, rfl⟩
abbrev main_call2_call0_v68 : Ref sig .tc := ⟨.hbm, 621, rfl⟩
abbrev main_call2_call0_v69 : Ref sig .tc := ⟨.hbm, 622, rfl⟩
abbrev main_call2_call0_v70 : Ref sig .tc := ⟨.hbm, 623, rfl⟩
abbrev main_call2_call0_v71 : Ref sig .tc := ⟨.hbm, 624, rfl⟩
abbrev main_call2_call0_c_17 : Ref sig .tc := ⟨.hbm, 625, rfl⟩
abbrev main_call2_call0_v72 : Ref sig .tc := ⟨.hbm, 626, rfl⟩
abbrev main_call2_call0_v73 : Ref sig .tc := ⟨.hbm, 627, rfl⟩
abbrev main_call2_call0_v74 : Ref sig .tc := ⟨.hbm, 628, rfl⟩
abbrev main_call2_call0_c_18 : Ref sig .tc := ⟨.hbm, 629, rfl⟩
abbrev main_call2_call0_v75 : Ref sig .tc := ⟨.hbm, 630, rfl⟩
abbrev main_call2_call0_v76 : Ref sig .tc := ⟨.hbm, 631, rfl⟩
abbrev main_call2_call0_c_19 : Ref sig .tc := ⟨.hbm, 632, rfl⟩
abbrev main_call2_call0_v77 : Ref sig .tc := ⟨.hbm, 633, rfl⟩
abbrev main_call2_call0_v78 : Ref sig .tc := ⟨.hbm, 634, rfl⟩
abbrev main_call2_call0_v79 : Ref sig .tc := ⟨.hbm, 635, rfl⟩
abbrev main_call2_call0_v80 : Ref sig .tc := ⟨.hbm, 636, rfl⟩
abbrev main_call2_call0_v81 : Ref sig .tc := ⟨.hbm, 637, rfl⟩
abbrev main_call2_call0_c_20 : Ref sig .tc := ⟨.hbm, 638, rfl⟩
abbrev main_call2_call0_v82 : Ref sig .tc := ⟨.hbm, 639, rfl⟩
abbrev main_call2_call0_v83 : Ref sig .tc := ⟨.hbm, 640, rfl⟩
abbrev main_call2_call0_c_21 : Ref sig .tc := ⟨.hbm, 641, rfl⟩
abbrev main_call2_call0_v84 : Ref sig .tc := ⟨.hbm, 642, rfl⟩
abbrev main_call2_call0_v85 : Ref sig .tc := ⟨.hbm, 643, rfl⟩
abbrev main_call2_call0_v86 : Ref sig .tc := ⟨.hbm, 644, rfl⟩
abbrev main_call2_call0_v87 : Ref sig .tc := ⟨.hbm, 645, rfl⟩
abbrev main_call2_call0_v88 : Ref sig .tc := ⟨.hbm, 646, rfl⟩
abbrev main_call2_call0_c_22 : Ref sig .tc := ⟨.hbm, 647, rfl⟩
abbrev main_call2_call0_v89 : Ref sig .tc := ⟨.hbm, 648, rfl⟩
abbrev main_call2_call0_v90 : Ref sig .tc := ⟨.hbm, 649, rfl⟩
abbrev main_call2_call0_c_23 : Ref sig .tc := ⟨.hbm, 650, rfl⟩
abbrev main_call2_call0_v91 : Ref sig .tc := ⟨.hbm, 651, rfl⟩
abbrev main_call2_call0_v92 : Ref sig .tc := ⟨.hbm, 652, rfl⟩
abbrev main_call2_call0_v93 : Ref sig .tc := ⟨.hbm, 653, rfl⟩
abbrev main_call2_call0_v94 : Ref sig .tc := ⟨.hbm, 654, rfl⟩
abbrev main_call2_call0_v95 : Ref sig .tc := ⟨.hbm, 655, rfl⟩
abbrev main_call2_call0_c_24 : Ref sig .tc := ⟨.hbm, 656, rfl⟩
abbrev main_call2_call0_v96 : Ref sig .tc := ⟨.hbm, 657, rfl⟩
abbrev main_call2_call0_v97 : Ref sig .tc := ⟨.hbm, 658, rfl⟩
abbrev main_call2_call0_c_25 : Ref sig .tc := ⟨.hbm, 659, rfl⟩
abbrev main_call2_call0_v98 : Ref sig .tc := ⟨.hbm, 660, rfl⟩
abbrev main_call2_call0_v99 : Ref sig .tc := ⟨.hbm, 661, rfl⟩
abbrev main_call2_call0_v100 : Ref sig .tc := ⟨.hbm, 662, rfl⟩
abbrev main_call2_call0_v101 : Ref sig .tc := ⟨.hbm, 663, rfl⟩
abbrev main_call2_call0_v102 : Ref sig .tc := ⟨.hbm, 664, rfl⟩
abbrev main_call2_call0_v103 : Ref sig .tc := ⟨.hbm, 665, rfl⟩
abbrev main_call2_call0_v104 : Ref sig .tc := ⟨.hbm, 666, rfl⟩
abbrev main_call2_call0_v105 : Ref sig .tc := ⟨.hbm, 667, rfl⟩
abbrev main_call2_call0_c_26 : Ref sig .tc := ⟨.hbm, 668, rfl⟩
abbrev main_call2_call0_v106 : Ref sig .tc := ⟨.hbm, 669, rfl⟩
abbrev main_call2_call0_v107 : Ref sig .tc := ⟨.hbm, 670, rfl⟩
abbrev main_call2_call0_v108 : Ref sig .tc := ⟨.hbm, 671, rfl⟩
abbrev main_call2_call0_c_27 : Ref sig .tc := ⟨.hbm, 672, rfl⟩
abbrev main_call2_call0_v109 : Ref sig .tc := ⟨.hbm, 673, rfl⟩
abbrev main_call2_call0_v110 : Ref sig .tc := ⟨.hbm, 674, rfl⟩
abbrev main_call2_call0_c_28 : Ref sig .tc := ⟨.hbm, 675, rfl⟩
abbrev main_call2_call0_v111 : Ref sig .tc := ⟨.hbm, 676, rfl⟩
abbrev main_call2_call0_v112 : Ref sig .tc := ⟨.hbm, 677, rfl⟩
abbrev main_call2_call0_v113 : Ref sig .tc := ⟨.hbm, 678, rfl⟩
abbrev main_call2_call0_v114 : Ref sig .tc := ⟨.hbm, 679, rfl⟩
abbrev main_call2_call0_v115 : Ref sig .tc := ⟨.hbm, 680, rfl⟩
abbrev main_call2_call0_c_29 : Ref sig .tc := ⟨.hbm, 681, rfl⟩
abbrev main_call2_call0_v116 : Ref sig .tc := ⟨.hbm, 682, rfl⟩
abbrev main_call2_call0_v117 : Ref sig .tc := ⟨.hbm, 683, rfl⟩
abbrev main_call2_call0_c_30 : Ref sig .tc := ⟨.hbm, 684, rfl⟩
abbrev main_call2_call0_v118 : Ref sig .tc := ⟨.hbm, 685, rfl⟩
abbrev main_call2_call0_v119 : Ref sig .tc := ⟨.hbm, 686, rfl⟩
abbrev main_call2_call0_v120 : Ref sig .tc := ⟨.hbm, 687, rfl⟩
abbrev main_call2_call0_v121 : Ref sig .tc := ⟨.hbm, 688, rfl⟩
abbrev main_call2_call0_v122 : Ref sig .tc := ⟨.hbm, 689, rfl⟩
abbrev main_call2_call0_c_31 : Ref sig .tc := ⟨.hbm, 690, rfl⟩
abbrev main_call2_call0_v123 : Ref sig .tc := ⟨.hbm, 691, rfl⟩
abbrev main_call2_call0_v124 : Ref sig .tc := ⟨.hbm, 692, rfl⟩
abbrev main_call2_call0_c_32 : Ref sig .tc := ⟨.hbm, 693, rfl⟩
abbrev main_call2_call0_v125 : Ref sig .tc := ⟨.hbm, 694, rfl⟩
abbrev main_call2_call0_v126 : Ref sig .tc := ⟨.hbm, 695, rfl⟩
abbrev main_call2_call0_v127 : Ref sig .tc := ⟨.hbm, 696, rfl⟩
abbrev main_call2_call0_v128 : Ref sig .tc := ⟨.hbm, 697, rfl⟩
abbrev main_call2_call0_v129 : Ref sig .tc := ⟨.hbm, 698, rfl⟩
abbrev main_call2_call0_c_33 : Ref sig .tc := ⟨.hbm, 699, rfl⟩
abbrev main_call2_call0_v130 : Ref sig .tc := ⟨.hbm, 700, rfl⟩
abbrev main_call2_call0_v131 : Ref sig .tc := ⟨.hbm, 701, rfl⟩
abbrev main_call2_call0_c_34 : Ref sig .tc := ⟨.hbm, 702, rfl⟩
abbrev main_call2_call0_v132 : Ref sig .tc := ⟨.hbm, 703, rfl⟩
abbrev main_call2_call0_v133 : Ref sig .tc := ⟨.hbm, 704, rfl⟩
abbrev main_call2_call0_v134 : Ref sig .tc := ⟨.hbm, 705, rfl⟩
abbrev main_call2_call0_v135 : Ref sig .tc := ⟨.hbm, 706, rfl⟩
abbrev main_call2_call0_v136 : Ref sig .tc := ⟨.hbm, 707, rfl⟩
abbrev main_call2_call0_v137 : Ref sig .tc := ⟨.hbm, 708, rfl⟩
abbrev main_call2_call0_v138 : Ref sig .tc := ⟨.hbm, 709, rfl⟩
abbrev main_call2_call0_v139 : Ref sig .tc := ⟨.hbm, 710, rfl⟩
abbrev main_call2_call0_c_35 : Ref sig .tc := ⟨.hbm, 711, rfl⟩
abbrev main_call2_call0_v140 : Ref sig .tc := ⟨.hbm, 712, rfl⟩
abbrev main_call2_call0_v141 : Ref sig .tc := ⟨.hbm, 713, rfl⟩
abbrev main_call2_call0_v142 : Ref sig .tc := ⟨.hbm, 714, rfl⟩
abbrev main_call2_call0_c_36 : Ref sig .tc := ⟨.hbm, 715, rfl⟩
abbrev main_call2_call0_v143 : Ref sig .tc := ⟨.hbm, 716, rfl⟩
abbrev main_call2_call0_v144 : Ref sig .tc := ⟨.hbm, 717, rfl⟩
abbrev main_call2_call0_c_37 : Ref sig .tc := ⟨.hbm, 718, rfl⟩
abbrev main_call2_call0_v145 : Ref sig .tc := ⟨.hbm, 719, rfl⟩
abbrev main_call2_call0_v146 : Ref sig .tc := ⟨.hbm, 720, rfl⟩
abbrev main_call2_call0_v147 : Ref sig .tc := ⟨.hbm, 721, rfl⟩
abbrev main_call2_call0_v148 : Ref sig .tc := ⟨.hbm, 722, rfl⟩
abbrev main_call2_call0_v149 : Ref sig .tc := ⟨.hbm, 723, rfl⟩
abbrev main_call2_call0_c_38 : Ref sig .tc := ⟨.hbm, 724, rfl⟩
abbrev main_call2_call0_v150 : Ref sig .tc := ⟨.hbm, 725, rfl⟩
abbrev main_call2_call0_v151 : Ref sig .tc := ⟨.hbm, 726, rfl⟩
abbrev main_call2_call0_c_39 : Ref sig .tc := ⟨.hbm, 727, rfl⟩
abbrev main_call2_call0_v152 : Ref sig .tc := ⟨.hbm, 728, rfl⟩
abbrev main_call2_call0_v153 : Ref sig .tc := ⟨.hbm, 729, rfl⟩
abbrev main_call2_call0_v154 : Ref sig .tc := ⟨.hbm, 730, rfl⟩
abbrev main_call2_call0_v155 : Ref sig .tc := ⟨.hbm, 731, rfl⟩
abbrev main_call2_call0_v156 : Ref sig .tc := ⟨.hbm, 732, rfl⟩
abbrev main_call2_call0_c_40 : Ref sig .tc := ⟨.hbm, 733, rfl⟩
abbrev main_call2_call0_v157 : Ref sig .tc := ⟨.hbm, 734, rfl⟩
abbrev main_call2_call0_v158 : Ref sig .tc := ⟨.hbm, 735, rfl⟩
abbrev main_call2_call0_c_41 : Ref sig .tc := ⟨.hbm, 736, rfl⟩
abbrev main_call2_call0_v159 : Ref sig .tc := ⟨.hbm, 737, rfl⟩
abbrev main_call2_call0_v160 : Ref sig .tc := ⟨.hbm, 738, rfl⟩
abbrev main_call2_call0_v161 : Ref sig .tc := ⟨.hbm, 739, rfl⟩
abbrev main_call2_call0_v162 : Ref sig .tc := ⟨.hbm, 740, rfl⟩
abbrev main_call2_call0_v163 : Ref sig .tc := ⟨.hbm, 741, rfl⟩
abbrev main_call2_call0_c_42 : Ref sig .tc := ⟨.hbm, 742, rfl⟩
abbrev main_call2_call0_v164 : Ref sig .tc := ⟨.hbm, 743, rfl⟩
abbrev main_call2_call0_v165 : Ref sig .tc := ⟨.hbm, 744, rfl⟩
abbrev main_call2_call0_c_43 : Ref sig .tc := ⟨.hbm, 745, rfl⟩
abbrev main_call2_call0_v166 : Ref sig .tc := ⟨.hbm, 746, rfl⟩
abbrev main_call2_call0_v167 : Ref sig .tc := ⟨.hbm, 747, rfl⟩
abbrev main_call2_call0_v168 : Ref sig .tc := ⟨.hbm, 748, rfl⟩
abbrev main_call2_call0_v169 : Ref sig .tc := ⟨.hbm, 749, rfl⟩
abbrev main_call2_call0_v170 : Ref sig .tc := ⟨.hbm, 750, rfl⟩
abbrev main_call2_v15_0 : Ref sig .tc := ⟨.hbm, 751, rfl⟩
abbrev main_call2_call0_v172 : Ref sig .tc := ⟨.hbm, 752, rfl⟩
abbrev main_call2_call0_v173 : Ref sig .tc := ⟨.hbm, 753, rfl⟩
abbrev main_call2_call0_c_44 : Ref sig .tc := ⟨.hbm, 754, rfl⟩
abbrev main_call2_call0_v174 : Ref sig .tc := ⟨.hbm, 755, rfl⟩
abbrev main_call2_v15_1 : Ref sig .tc := ⟨.hbm, 756, rfl⟩
abbrev main_call2_v16 : Ref sig .tc := ⟨.hbm, 757, rfl⟩
abbrev main_call2_c_1 : Ref sig .tc := ⟨.hbm, 758, rfl⟩
abbrev main_call2_v17 : Ref sig .tc := ⟨.hbm, 759, rfl⟩
abbrev main_call2_v18 : Ref sig .tc := ⟨.hbm, 760, rfl⟩
abbrev main_call2_c_2 : Ref sig .tc := ⟨.hbm, 761, rfl⟩
abbrev main_call2_v19 : Ref sig .tc := ⟨.hbm, 762, rfl⟩
abbrev main_call2_v20 : Ref sig .tc := ⟨.hbm, 763, rfl⟩
abbrev main_call2_v21 : Ref sig .tc := ⟨.hbm, 764, rfl⟩
abbrev main_call2_cst : Ref sig .tc := ⟨.hbm, 765, rfl⟩
abbrev main_call2_v22 : Ref sig .tc := ⟨.hbm, 766, rfl⟩
abbrev main_call2_v23 : Ref sig .tc := ⟨.hbm, 767, rfl⟩
abbrev main_call2_v24 : Ref sig .tc := ⟨.hbm, 768, rfl⟩
abbrev main_call2_v25 : Ref sig .tc := ⟨.hbm, 769, rfl⟩
abbrev main_call2_v26 : Ref sig .tc := ⟨.hbm, 770, rfl⟩
abbrev main_call2_v27 : Ref sig .tc := ⟨.hbm, 771, rfl⟩
abbrev main_call2_v28 : Ref sig .tc := ⟨.hbm, 772, rfl⟩
abbrev main_call2_v29 : Ref sig .tc := ⟨.hbm, 773, rfl⟩
abbrev main_v16 : Ref sig .tc := ⟨.hbm, 774, rfl⟩
abbrev main_cst_6 : Ref sig .tc := ⟨.hbm, 775, rfl⟩
abbrev main_v17 : Ref sig .tc := ⟨.hbm, 776, rfl⟩
abbrev main_v18 : Ref sig .tc := ⟨.hbm, 777, rfl⟩
abbrev main_c_7 : Ref sig .tc := ⟨.hbm, 778, rfl⟩
abbrev main_c_8 : Ref sig .tc := ⟨.hbm, 779, rfl⟩
abbrev main_call3_v0 : Ref sig .tc := ⟨.hbm, 780, rfl⟩
abbrev main_call3_v1 : Ref sig .tc := ⟨.hbm, 781, rfl⟩
abbrev main_v19 : Ref sig .tc := ⟨.hbm, 782, rfl⟩
abbrev main_v20 : Ref sig .tc := ⟨.hbm, 783, rfl⟩
abbrev main_c_9 : Ref sig .tc := ⟨.hbm, 784, rfl⟩
abbrev main_v21 : Ref sig .tc := ⟨.hbm, 785, rfl⟩
abbrev main_v22 : Ref sig .tc := ⟨.hbm, 786, rfl⟩
abbrev main_c_10 : Ref sig .tc := ⟨.hbm, 787, rfl⟩
abbrev main_v23 : Ref sig .tc := ⟨.hbm, 788, rfl⟩
abbrev main_v24 : Ref sig .tc := ⟨.hbm, 789, rfl⟩
abbrev main_c_11 : Ref sig .tc := ⟨.hbm, 790, rfl⟩
abbrev main_call4_v0 : Ref sig .tc := ⟨.hbm, 791, rfl⟩
abbrev main_v25 : Ref sig .tc := ⟨.hbm, 792, rfl⟩
abbrev main_c_12 : Ref sig .tc := ⟨.hbm, 793, rfl⟩
abbrev main_call5_v0 : Ref sig .tc := ⟨.hbm, 794, rfl⟩
abbrev main_v26 : Ref sig .tc := ⟨.hbm, 795, rfl⟩
abbrev main_v27 : Ref sig .tc := ⟨.hbm, 796, rfl⟩
abbrev main_v28 : Ref sig .tc := ⟨.hbm, 797, rfl⟩
abbrev main_v29 : Ref sig .tc := ⟨.hbm, 798, rfl⟩
abbrev main_v30 : Ref sig .tc := ⟨.hbm, 799, rfl⟩
abbrev main_v31 : Ref sig .tc := ⟨.hbm, 800, rfl⟩
abbrev main_v0_scv : Ref sig .scVector := ⟨.hbm, 1, rfl⟩
abbrev main_v29_scv : Ref sig .scVector := ⟨.hbm, 798, rfl⟩
abbrev main_v30_scv : Ref sig .scVector := ⟨.hbm, 799, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_3 : BitVec 32 := 0#32
  ![v3.toNat, 0]
def k0_off1_at (r : Fin 6) : BitVec 32 :=
  if r.val < 3 then
    if r.val < 1 then
      0#32
    else
      if r.val < 2 then
        4#32
      else
        8#32
  else
    if r.val < 4 then
      12#32
    else
      if r.val < 5 then
        120#32
      else
        124#32
@[reducible] def k0_t1_loop : Scf.Loop 32 :=
  let c0_i32_27 : BitVec 32 := 0#32
  let c8_i32_28 : BitVec 32 := 8#32
  let v31 : BitVec 32 := Scalar.addi c0_i32_27 c8_i32_28
  let c1_i32_29 : BitVec 32 := 1#32
  ⟨c0_i32_27, v31, c1_i32_29⟩
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_27 : BitVec 32 := 0#32
  let c1_i32_29 : BitVec 32 := 1#32
  let arg14 : BitVec 32 := Scf.iv c0_i32_27 c1_i32_29 k0_t1
  let c4_i32_45 : BitVec 32 := 4#32
  let v47 : BitVec 32 := Scalar.muli arg14 c4_i32_45
  let c0_i32_46 : BitVec 32 := 0#32
  let v48 : BitVec 32 := Scalar.addi v47 c0_i32_46
  let c4_i32_47 : BitVec 32 := 4#32
  let v49 : BitVec 32 := Scalar.muli v48 c4_i32_47
  let v50 : BitVec 32 := Scalar.addi v2 v49
  let c0_i32_51 : BitVec 32 := 0#32
  ![v50.toNat, 0]
def k0_cond1 (k0_t1 : Fin k0_t1_loop.trips) : BitVec 1 :=
  let c0_i32_27 : BitVec 32 := 0#32
  let c1_i32_29 : BitVec 32 := 1#32
  let arg14 : BitVec 32 := Scf.iv c0_i32_27 c1_i32_29 k0_t1
  let c4_i32_45 : BitVec 32 := 4#32
  let v47 : BitVec 32 := Scalar.muli arg14 c4_i32_45
  let c0_i32_46 : BitVec 32 := 0#32
  let v48 : BitVec 32 := Scalar.addi v47 c0_i32_46
  let c2_i32_55 : BitVec 32 := 2#32
  let v57 : BitVec 1 := Scalar.cmpi .sge v48 c2_i32_55
  let v58 : BitVec 32 := Scalar.extui v57
  let c0_i32_56 : BitVec 32 := 0#32
  let v59 : BitVec 1 := Scalar.cmpi .ne v58 c0_i32_56
  v59

def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_27 : BitVec 32 := 0#32
  let c1_i32_29 : BitVec 32 := 1#32
  let arg14 : BitVec 32 := Scf.iv c0_i32_27 c1_i32_29 k0_t1
  let c4_i32_45 : BitVec 32 := 4#32
  let v47 : BitVec 32 := Scalar.muli arg14 c4_i32_45
  let c0_i32_46 : BitVec 32 := 0#32
  let v48 : BitVec 32 := Scalar.addi v47 c0_i32_46
  let c2_i32_156 : BitVec 32 := 2#32
  let v155 : BitVec 32 := Scalar.subi v48 c2_i32_156
  let c4_i32_157 : BitVec 32 := 4#32
  let v156 : BitVec 32 := Scalar.muli v155 c4_i32_157
  let v157 : BitVec 32 := Scalar.addi v2 v156
  let c0_i32_161 : BitVec 32 := 0#32
  ![v157.toNat, 0]
@[reducible] def k0_t2_loop : Scf.Loop 32 :=
  let c0_i32_58 : BitVec 32 := 0#32
  let c256_i32 : BitVec 32 := 256#32
  let v61 : BitVec 32 := Scalar.addi c0_i32_58 c256_i32
  let c1_i32_59 : BitVec 32 := 1#32
  ⟨c0_i32_58, v61, c1_i32_59⟩
def k0_off4 (k0_t2 : Fin k0_t2_loop.trips) : Fin 1 → Nat :=
  let c0_i32_156 : BitVec 32 := 0#32
  let c0_i32_58 : BitVec 32 := 0#32
  let c1_i32_59 : BitVec 32 := 1#32
  let arg16 : BitVec 32 := Scf.iv c0_i32_58 c1_i32_59 k0_t2
  let c16_i32 : BitVec 32 := 16#32
  let v155 : BitVec 32 := Scalar.muli arg16 c16_i32
  let v156 : BitVec 32 := Scalar.addi c0_i32_156 v155
  let v157 : Index := Scalar.indexCast v156
  ![v157.toNat]

def k0_chk1 (v60 : IVec S16 32) (v158 : IVec S16 32) (v159 : IVec S16 32) : Prop :=
  (∀ a x, ((![v60, v159, v158] : Fin 3 → IVec S16 32) a x).toNat < S4x4x4096.size a)
theorem k0_idx1_inb : ∀ (v60 : IVec S16 32) (v158 : IVec S16 32) (v159 : IVec S16 32) (k0_hw1 : k0_chk1 v60 v158 v159), ∀ a x, ((![v60, v159, v158] : Fin 3 → IVec S16 32) a x).toNat < S4x4x4096.size a := fun v60 v158 v159 k0_hw1 => k0_hw1
def k0_off5 (k0_t2 : Fin k0_t2_loop.trips) : Fin 3 → Nat :=
  let c0_i32_158 : BitVec 32 := 0#32
  let v161 : Index := Scalar.indexCast c0_i32_158
  let c0_i32_159 : BitVec 32 := 0#32
  let v162 : Index := Scalar.indexCast c0_i32_159
  let c0_i32_156 : BitVec 32 := 0#32
  let c0_i32_58 : BitVec 32 := 0#32
  let c1_i32_59 : BitVec 32 := 1#32
  let arg16 : BitVec 32 := Scf.iv c0_i32_58 c1_i32_59 k0_t2
  let c16_i32 : BitVec 32 := 16#32
  let v155 : BitVec 32 := Scalar.muli arg16 c16_i32
  let v156 : BitVec 32 := Scalar.addi c0_i32_156 v155
  let v163 : Index := Scalar.indexCast v156
  ![0, 0, v163.toNat]

def k0_chk2 (v60 : IVec S16 32) (v158 : IVec S16 32) (v165 : IVec S16 32) : Prop :=
  (∀ a x, ((![v60, v165, v158] : Fin 3 → IVec S16 32) a x).toNat < S4x4x4096.size a)
theorem k0_idx2_inb : ∀ (v60 : IVec S16 32) (v158 : IVec S16 32) (v165 : IVec S16 32) (k0_hw2 : k0_chk2 v60 v158 v165), ∀ a x, ((![v60, v165, v158] : Fin 3 → IVec S16 32) a x).toNat < S4x4x4096.size a := fun v60 v158 v165 k0_hw2 => k0_hw2
def k0_off6 (k0_t2 : Fin k0_t2_loop.trips) : Fin 3 → Nat :=
  let c0_i32_161 : BitVec 32 := 0#32
  let v167 : Index := Scalar.indexCast c0_i32_161
  let c1_i32_162 : BitVec 32 := 1#32
  let v168 : Index := Scalar.indexCast c1_i32_162
  let c0_i32_156 : BitVec 32 := 0#32
  let c0_i32_58 : BitVec 32 := 0#32
  let c1_i32_59 : BitVec 32 := 1#32
  let arg16 : BitVec 32 := Scf.iv c0_i32_58 c1_i32_59 k0_t2
  let c16_i32 : BitVec 32 := 16#32
  let v155 : BitVec 32 := Scalar.muli arg16 c16_i32
  let v156 : BitVec 32 := Scalar.addi c0_i32_156 v155
  let v169 : Index := Scalar.indexCast v156
  ![0, 1, v169.toNat]

def k0_chk3 (v60 : IVec S16 32) (v158 : IVec S16 32) (v171 : IVec S16 32) : Prop :=
  (∀ a x, ((![v60, v171, v158] : Fin 3 → IVec S16 32) a x).toNat < S4x4x4096.size a)
theorem k0_idx3_inb : ∀ (v60 : IVec S16 32) (v158 : IVec S16 32) (v171 : IVec S16 32) (k0_hw3 : k0_chk3 v60 v158 v171), ∀ a x, ((![v60, v171, v158] : Fin 3 → IVec S16 32) a x).toNat < S4x4x4096.size a := fun v60 v158 v171 k0_hw3 => k0_hw3
def k0_off7 (k0_t2 : Fin k0_t2_loop.trips) : Fin 3 → Nat :=
  let c0_i32_164 : BitVec 32 := 0#32
  let v173 : Index := Scalar.indexCast c0_i32_164
  let c2_i32_165 : BitVec 32 := 2#32
  let v174 : Index := Scalar.indexCast c2_i32_165
  let c0_i32_156 : BitVec 32 := 0#32
  let c0_i32_58 : BitVec 32 := 0#32
  let c1_i32_59 : BitVec 32 := 1#32
  let arg16 : BitVec 32 := Scf.iv c0_i32_58 c1_i32_59 k0_t2
  let c16_i32 : BitVec 32 := 16#32
  let v155 : BitVec 32 := Scalar.muli arg16 c16_i32
  let v156 : BitVec 32 := Scalar.addi c0_i32_156 v155
  let v175 : Index := Scalar.indexCast v156
  ![0, 2, v175.toNat]

def k0_chk4 (v60 : IVec S16 32) (v158 : IVec S16 32) (v177 : IVec S16 32) : Prop :=
  (∀ a x, ((![v60, v177, v158] : Fin 3 → IVec S16 32) a x).toNat < S4x4x4096.size a)
theorem k0_idx4_inb : ∀ (v60 : IVec S16 32) (v158 : IVec S16 32) (v177 : IVec S16 32) (k0_hw4 : k0_chk4 v60 v158 v177), ∀ a x, ((![v60, v177, v158] : Fin 3 → IVec S16 32) a x).toNat < S4x4x4096.size a := fun v60 v158 v177 k0_hw4 => k0_hw4
def k0_off8 (k0_t2 : Fin k0_t2_loop.trips) : Fin 3 → Nat :=
  let c0_i32_167 : BitVec 32 := 0#32
  let v179 : Index := Scalar.indexCast c0_i32_167
  let c3_i32_168 : BitVec 32 := 3#32
  let v180 : Index := Scalar.indexCast c3_i32_168
  let c0_i32_156 : BitVec 32 := 0#32
  let c0_i32_58 : BitVec 32 := 0#32
  let c1_i32_59 : BitVec 32 := 1#32
  let arg16 : BitVec 32 := Scf.iv c0_i32_58 c1_i32_59 k0_t2
  let c16_i32 : BitVec 32 := 16#32
  let v155 : BitVec 32 := Scalar.muli arg16 c16_i32
  let v156 : BitVec 32 := Scalar.addi c0_i32_156 v155
  let v181 : Index := Scalar.indexCast v156
  ![0, 3, v181.toNat]
def k0_off9 (i : grid0.Coords) (k0_t1 : Fin k0_t1_loop.trips) (c0_i32_46 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_27 : BitVec 32 := 0#32
  let c1_i32_29 : BitVec 32 := 1#32
  let arg14 : BitVec 32 := Scf.iv c0_i32_27 c1_i32_29 k0_t1
  let c4_i32_45 : BitVec 32 := 4#32
  let v47 : BitVec 32 := Scalar.muli arg14 c4_i32_45
  let v48 : BitVec 32 := Scalar.addi v47 c0_i32_46
  let c4_i32_61 : BitVec 32 := 4#32
  let v62 : BitVec 32 := Scalar.muli v48 c4_i32_61
  let v63 : BitVec 32 := Scalar.addi v2 v62
  let c0_i32_65 : BitVec 32 := 0#32
  ![v63.toNat, 0]
def k0_cond2 (k0_t1 : Fin k0_t1_loop.trips) : BitVec 1 :=
  let c0_i32_27 : BitVec 32 := 0#32
  let c1_i32_29 : BitVec 32 := 1#32
  let arg14 : BitVec 32 := Scf.iv c0_i32_27 c1_i32_29 k0_t1
  let c4_i32_45 : BitVec 32 := 4#32
  let v47 : BitVec 32 := Scalar.muli arg14 c4_i32_45
  let c0_i32_46 : BitVec 32 := 0#32
  let v48 : BitVec 32 := Scalar.addi v47 c0_i32_46
  let c4_i32_69 : BitVec 32 := 4#32
  let v70 : BitVec 32 := Scalar.addi v48 c4_i32_69
  let c32_i32 : BitVec 32 := 32#32
  let v71 : BitVec 1 := Scalar.cmpi .slt v70 c32_i32
  let v72 : BitVec 32 := Scalar.extui v71
  let c0_i32_70 : BitVec 32 := 0#32
  let v73 : BitVec 1 := Scalar.cmpi .ne v72 c0_i32_70
  v73

def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_27 : BitVec 32 := 0#32
  let c1_i32_29 : BitVec 32 := 1#32
  let arg14 : BitVec 32 := Scf.iv c0_i32_27 c1_i32_29 k0_t1
  let c4_i32_45 : BitVec 32 := 4#32
  let v47 : BitVec 32 := Scalar.muli arg14 c4_i32_45
  let c0_i32_46 : BitVec 32 := 0#32
  let v48 : BitVec 32 := Scalar.addi v47 c0_i32_46
  let c4_i32_156 : BitVec 32 := 4#32
  let v155 : BitVec 32 := Scalar.addi v48 c4_i32_156
  let c4_i32_157 : BitVec 32 := 4#32
  let v156 : BitVec 32 := Scalar.muli v155 c4_i32_157
  let v157 : BitVec 32 := Scalar.addi v2 v156
  let c0_i32_161 : BitVec 32 := 0#32
  ![v157.toNat, 0]
def k0_cond3 (k0_t1 : Fin k0_t1_loop.trips) : BitVec 1 :=
  let c0_i32_27 : BitVec 32 := 0#32
  let c1_i32_29 : BitVec 32 := 1#32
  let arg14 : BitVec 32 := Scf.iv c0_i32_27 c1_i32_29 k0_t1
  let c4_i32_71 : BitVec 32 := 4#32
  let v74 : BitVec 32 := Scalar.muli arg14 c4_i32_71
  let c1_i32_72 : BitVec 32 := 1#32
  let v75 : BitVec 32 := Scalar.addi v74 c1_i32_72
  let c2_i32_81 : BitVec 32 := 2#32
  let v84 : BitVec 1 := Scalar.cmpi .sge v75 c2_i32_81
  let v85 : BitVec 32 := Scalar.extui v84
  let c0_i32_82 : BitVec 32 := 0#32
  let v86 : BitVec 1 := Scalar.cmpi .ne v85 c0_i32_82
  v86

def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_27 : BitVec 32 := 0#32
  let c1_i32_29 : BitVec 32 := 1#32
  let arg14 : BitVec 32 := Scf.iv c0_i32_27 c1_i32_29 k0_t1
  let c4_i32_71 : BitVec 32 := 4#32
  let v74 : BitVec 32 := Scalar.muli arg14 c4_i32_71
  let c1_i32_72 : BitVec 32 := 1#32
  let v75 : BitVec 32 := Scalar.addi v74 c1_i32_72
  let c2_i32_156 : BitVec 32 := 2#32
  let v155 : BitVec 32 := Scalar.subi v75 c2_i32_156
  let c4_i32_157 : BitVec 32 := 4#32
  let v156 : BitVec 32 := Scalar.muli v155 c4_i32_157
  let v157 : BitVec 32 := Scalar.addi v2 v156
  let c0_i32_161 : BitVec 32 := 0#32
  ![v157.toNat, 0]
@[reducible] def k0_t3_loop : Scf.Loop 32 :=
  let c0_i32_84 : BitVec 32 := 0#32
  let c256_i32_85 : BitVec 32 := 256#32
  let v88 : BitVec 32 := Scalar.addi c0_i32_84 c256_i32_85
  let c1_i32_86 : BitVec 32 := 1#32
  ⟨c0_i32_84, v88, c1_i32_86⟩
def k0_off12 (k0_t3 : Fin k0_t3_loop.trips) : Fin 1 → Nat :=
  let c0_i32_156 : BitVec 32 := 0#32
  let c0_i32_84 : BitVec 32 := 0#32
  let c1_i32_86 : BitVec 32 := 1#32
  let arg16 : BitVec 32 := Scf.iv c0_i32_84 c1_i32_86 k0_t3
  let c16_i32 : BitVec 32 := 16#32
  let v155 : BitVec 32 := Scalar.muli arg16 c16_i32
  let v156 : BitVec 32 := Scalar.addi c0_i32_156 v155
  let v157 : Index := Scalar.indexCast v156
  ![v157.toNat]

def k0_chk5 (v87 : IVec S16 32) (v158 : IVec S16 32) (v159 : IVec S16 32) : Prop :=
  (∀ a x, ((![v87, v159, v158] : Fin 3 → IVec S16 32) a x).toNat < S4x4x4096.size a)
theorem k0_idx5_inb : ∀ (v87 : IVec S16 32) (v158 : IVec S16 32) (v159 : IVec S16 32) (k0_hw5 : k0_chk5 v87 v158 v159), ∀ a x, ((![v87, v159, v158] : Fin 3 → IVec S16 32) a x).toNat < S4x4x4096.size a := fun v87 v158 v159 k0_hw5 => k0_hw5
def k0_off13 (k0_t3 : Fin k0_t3_loop.trips) : Fin 3 → Nat :=
  let c1_i32_158 : BitVec 32 := 1#32
  let v161 : Index := Scalar.indexCast c1_i32_158
  let c0_i32_159 : BitVec 32 := 0#32
  let v162 : Index := Scalar.indexCast c0_i32_159
  let c0_i32_156 : BitVec 32 := 0#32
  let c0_i32_84 : BitVec 32 := 0#32
  let c1_i32_86 : BitVec 32 := 1#32
  let arg16 : BitVec 32 := Scf.iv c0_i32_84 c1_i32_86 k0_t3
  let c16_i32 : BitVec 32 := 16#32
  let v155 : BitVec 32 := Scalar.muli arg16 c16_i32
  let v156 : BitVec 32 := Scalar.addi c0_i32_156 v155
  let v163 : Index := Scalar.indexCast v156
  ![1, 0, v163.toNat]

def k0_chk6 (v87 : IVec S16 32) (v158 : IVec S16 32) (v165 : IVec S16 32) : Prop :=
  (∀ a x, ((![v87, v165, v158] : Fin 3 → IVec S16 32) a x).toNat < S4x4x4096.size a)
theorem k0_idx6_inb : ∀ (v87 : IVec S16 32) (v158 : IVec S16 32) (v165 : IVec S16 32) (k0_hw6 : k0_chk6 v87 v158 v165), ∀ a x, ((![v87, v165, v158] : Fin 3 → IVec S16 32) a x).toNat < S4x4x4096.size a := fun v87 v158 v165 k0_hw6 => k0_hw6
def k0_off14 (k0_t3 : Fin k0_t3_loop.trips) : Fin 3 → Nat :=
  let c1_i32_161 : BitVec 32 := 1#32
  let v167 : Index := Scalar.indexCast c1_i32_161
  let c1_i32_162 : BitVec 32 := 1#32
  let v168 : Index := Scalar.indexCast c1_i32_162
  let c0_i32_156 : BitVec 32 := 0#32
  let c0_i32_84 : BitVec 32 := 0#32
  let c1_i32_86 : BitVec 32 := 1#32
  let arg16 : BitVec 32 := Scf.iv c0_i32_84 c1_i32_86 k0_t3
  let c16_i32 : BitVec 32 := 16#32
  let v155 : BitVec 32 := Scalar.muli arg16 c16_i32
  let v156 : BitVec 32 := Scalar.addi c0_i32_156 v155
  let v169 : Index := Scalar.indexCast v156
  ![1, 1, v169.toNat]

def k0_chk7 (v87 : IVec S16 32) (v158 : IVec S16 32) (v171 : IVec S16 32) : Prop :=
  (∀ a x, ((![v87, v171, v158] : Fin 3 → IVec S16 32) a x).toNat < S4x4x4096.size a)
theorem k0_idx7_inb : ∀ (v87 : IVec S16 32) (v158 : IVec S16 32) (v171 : IVec S16 32) (k0_hw7 : k0_chk7 v87 v158 v171), ∀ a x, ((![v87, v171, v158] : Fin 3 → IVec S16 32) a x).toNat < S4x4x4096.size a := fun v87 v158 v171 k0_hw7 => k0_hw7
def k0_off15 (k0_t3 : Fin k0_t3_loop.trips) : Fin 3 → Nat :=
  let c1_i32_164 : BitVec 32 := 1#32
  let v173 : Index := Scalar.indexCast c1_i32_164
  let c2_i32_165 : BitVec 32 := 2#32
  let v174 : Index := Scalar.indexCast c2_i32_165
  let c0_i32_156 : BitVec 32 := 0#32
  let c0_i32_84 : BitVec 32 := 0#32
  let c1_i32_86 : BitVec 32 := 1#32
  let arg16 : BitVec 32 := Scf.iv c0_i32_84 c1_i32_86 k0_t3
  let c16_i32 : BitVec 32 := 16#32
  let v155 : BitVec 32 := Scalar.muli arg16 c16_i32
  let v156 : BitVec 32 := Scalar.addi c0_i32_156 v155
  let v175 : Index := Scalar.indexCast v156
  ![1, 2, v175.toNat]

def k0_chk8 (v87 : IVec S16 32) (v158 : IVec S16 32) (v177 : IVec S16 32) : Prop :=
  (∀ a x, ((![v87, v177, v158] : Fin 3 → IVec S16 32) a x).toNat < S4x4x4096.size a)
theorem k0_idx8_inb : ∀ (v87 : IVec S16 32) (v158 : IVec S16 32) (v177 : IVec S16 32) (k0_hw8 : k0_chk8 v87 v158 v177), ∀ a x, ((![v87, v177, v158] : Fin 3 → IVec S16 32) a x).toNat < S4x4x4096.size a := fun v87 v158 v177 k0_hw8 => k0_hw8
def k0_off16 (k0_t3 : Fin k0_t3_loop.trips) : Fin 3 → Nat :=
  let c1_i32_167 : BitVec 32 := 1#32
  let v179 : Index := Scalar.indexCast c1_i32_167
  let c3_i32_168 : BitVec 32 := 3#32
  let v180 : Index := Scalar.indexCast c3_i32_168
  let c0_i32_156 : BitVec 32 := 0#32
  let c0_i32_84 : BitVec 32 := 0#32
  let c1_i32_86 : BitVec 32 := 1#32
  let arg16 : BitVec 32 := Scf.iv c0_i32_84 c1_i32_86 k0_t3
  let c16_i32 : BitVec 32 := 16#32
  let v155 : BitVec 32 := Scalar.muli arg16 c16_i32
  let v156 : BitVec 32 := Scalar.addi c0_i32_156 v155
  let v181 : Index := Scalar.indexCast v156
  ![1, 3, v181.toNat]
def k0_off17 (i : grid0.Coords) (k0_t1 : Fin k0_t1_loop.trips) (c1_i32_72 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_27 : BitVec 32 := 0#32
  let c1_i32_29 : BitVec 32 := 1#32
  let arg14 : BitVec 32 := Scf.iv c0_i32_27 c1_i32_29 k0_t1
  let c4_i32_71 : BitVec 32 := 4#32
  let v74 : BitVec 32 := Scalar.muli arg14 c4_i32_71
  let v75 : BitVec 32 := Scalar.addi v74 c1_i32_72
  let c4_i32_88 : BitVec 32 := 4#32
  let v89 : BitVec 32 := Scalar.muli v75 c4_i32_88
  let v90 : BitVec 32 := Scalar.addi v2 v89
  let c0_i32_92 : BitVec 32 := 0#32
  ![v90.toNat, 0]
def k0_cond4 (k0_t1 : Fin k0_t1_loop.trips) : BitVec 1 :=
  let c0_i32_27 : BitVec 32 := 0#32
  let c1_i32_29 : BitVec 32 := 1#32
  let arg14 : BitVec 32 := Scf.iv c0_i32_27 c1_i32_29 k0_t1
  let c4_i32_71 : BitVec 32 := 4#32
  let v74 : BitVec 32 := Scalar.muli arg14 c4_i32_71
  let c1_i32_72 : BitVec 32 := 1#32
  let v75 : BitVec 32 := Scalar.addi v74 c1_i32_72
  let c4_i32_96 : BitVec 32 := 4#32
  let v97 : BitVec 32 := Scalar.addi v75 c4_i32_96
  let c32_i32_97 : BitVec 32 := 32#32
  let v98 : BitVec 1 := Scalar.cmpi .slt v97 c32_i32_97
  let v99 : BitVec 32 := Scalar.extui v98
  let c0_i32_98 : BitVec 32 := 0#32
  let v100 : BitVec 1 := Scalar.cmpi .ne v99 c0_i32_98
  v100

def k0_off18 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_27 : BitVec 32 := 0#32
  let c1_i32_29 : BitVec 32 := 1#32
  let arg14 : BitVec 32 := Scf.iv c0_i32_27 c1_i32_29 k0_t1
  let c4_i32_71 : BitVec 32 := 4#32
  let v74 : BitVec 32 := Scalar.muli arg14 c4_i32_71
  let c1_i32_72 : BitVec 32 := 1#32
  let v75 : BitVec 32 := Scalar.addi v74 c1_i32_72
  let c4_i32_156 : BitVec 32 := 4#32
  let v155 : BitVec 32 := Scalar.addi v75 c4_i32_156
  let c4_i32_157 : BitVec 32 := 4#32
  let v156 : BitVec 32 := Scalar.muli v155 c4_i32_157
  let v157 : BitVec 32 := Scalar.addi v2 v156
  let c0_i32_161 : BitVec 32 := 0#32
  ![v157.toNat, 0]
def k0_cond5 (k0_t1 : Fin k0_t1_loop.trips) : BitVec 1 :=
  let c0_i32_27 : BitVec 32 := 0#32
  let c1_i32_29 : BitVec 32 := 1#32
  let arg14 : BitVec 32 := Scf.iv c0_i32_27 c1_i32_29 k0_t1
  let c4_i32_99 : BitVec 32 := 4#32
  let v101 : BitVec 32 := Scalar.muli arg14 c4_i32_99
  let c2_i32_100 : BitVec 32 := 2#32
  let v102 : BitVec 32 := Scalar.addi v101 c2_i32_100
  let c2_i32_109 : BitVec 32 := 2#32
  let v111 : BitVec 1 := Scalar.cmpi .sge v102 c2_i32_109
  let v112 : BitVec 32 := Scalar.extui v111
  let c0_i32_110 : BitVec 32 := 0#32
  let v113 : BitVec 1 := Scalar.cmpi .ne v112 c0_i32_110
  v113

def k0_off19 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_27 : BitVec 32 := 0#32
  let c1_i32_29 : BitVec 32 := 1#32
  let arg14 : BitVec 32 := Scf.iv c0_i32_27 c1_i32_29 k0_t1
  let c4_i32_99 : BitVec 32 := 4#32
  let v101 : BitVec 32 := Scalar.muli arg14 c4_i32_99
  let c2_i32_100 : BitVec 32 := 2#32
  let v102 : BitVec 32 := Scalar.addi v101 c2_i32_100
  let c2_i32_156 : BitVec 32 := 2#32
  let v155 : BitVec 32 := Scalar.subi v102 c2_i32_156
  let c4_i32_157 : BitVec 32 := 4#32
  let v156 : BitVec 32 := Scalar.muli v155 c4_i32_157
  let v157 : BitVec 32 := Scalar.addi v2 v156
  let c0_i32_161 : BitVec 32 := 0#32
  ![v157.toNat, 0]
@[reducible] def k0_t4_loop : Scf.Loop 32 :=
  let c0_i32_112 : BitVec 32 := 0#32
  let c256_i32_113 : BitVec 32 := 256#32
  let v115 : BitVec 32 := Scalar.addi c0_i32_112 c256_i32_113
  let c1_i32_114 : BitVec 32 := 1#32
  ⟨c0_i32_112, v115, c1_i32_114⟩
def k0_off20 (k0_t4 : Fin k0_t4_loop.trips) : Fin 1 → Nat :=
  let c0_i32_156 : BitVec 32 := 0#32
  let c0_i32_112 : BitVec 32 := 0#32
  let c1_i32_114 : BitVec 32 := 1#32
  let arg16 : BitVec 32 := Scf.iv c0_i32_112 c1_i32_114 k0_t4
  let c16_i32 : BitVec 32 := 16#32
  let v155 : BitVec 32 := Scalar.muli arg16 c16_i32
  let v156 : BitVec 32 := Scalar.addi c0_i32_156 v155
  let v157 : Index := Scalar.indexCast v156
  ![v157.toNat]

def k0_chk9 (v114 : IVec S16 32) (v158 : IVec S16 32) (v159 : IVec S16 32) : Prop :=
  (∀ a x, ((![v114, v159, v158] : Fin 3 → IVec S16 32) a x).toNat < S4x4x4096.size a)
theorem k0_idx9_inb : ∀ (v114 : IVec S16 32) (v158 : IVec S16 32) (v159 : IVec S16 32) (k0_hw9 : k0_chk9 v114 v158 v159), ∀ a x, ((![v114, v159, v158] : Fin 3 → IVec S16 32) a x).toNat < S4x4x4096.size a := fun v114 v158 v159 k0_hw9 => k0_hw9
def k0_off21 (k0_t4 : Fin k0_t4_loop.trips) : Fin 3 → Nat :=
  let c0_i32_158 : BitVec 32 := 0#32
  let v161 : Index := Scalar.indexCast c0_i32_158
  let c0_i32_159 : BitVec 32 := 0#32
  let v162 : Index := Scalar.indexCast c0_i32_159
  let c0_i32_156 : BitVec 32 := 0#32
  let c0_i32_112 : BitVec 32 := 0#32
  let c1_i32_114 : BitVec 32 := 1#32
  let arg16 : BitVec 32 := Scf.iv c0_i32_112 c1_i32_114 k0_t4
  let c16_i32 : BitVec 32 := 16#32
  let v155 : BitVec 32 := Scalar.muli arg16 c16_i32
  let v156 : BitVec 32 := Scalar.addi c0_i32_156 v155
  let v163 : Index := Scalar.indexCast v156
  ![0, 0, v163.toNat]

def k0_chk10 (v114 : IVec S16 32) (v158 : IVec S16 32) (v165 : IVec S16 32) : Prop :=
  (∀ a x, ((![v114, v165, v158] : Fin 3 → IVec S16 32) a x).toNat < S4x4x4096.size a)
theorem k0_idx10_inb : ∀ (v114 : IVec S16 32) (v158 : IVec S16 32) (v165 : IVec S16 32) (k0_hw10 : k0_chk10 v114 v158 v165), ∀ a x, ((![v114, v165, v158] : Fin 3 → IVec S16 32) a x).toNat < S4x4x4096.size a := fun v114 v158 v165 k0_hw10 => k0_hw10
def k0_off22 (k0_t4 : Fin k0_t4_loop.trips) : Fin 3 → Nat :=
  let c0_i32_161 : BitVec 32 := 0#32
  let v167 : Index := Scalar.indexCast c0_i32_161
  let c1_i32_162 : BitVec 32 := 1#32
  let v168 : Index := Scalar.indexCast c1_i32_162
  let c0_i32_156 : BitVec 32 := 0#32
  let c0_i32_112 : BitVec 32 := 0#32
  let c1_i32_114 : BitVec 32 := 1#32
  let arg16 : BitVec 32 := Scf.iv c0_i32_112 c1_i32_114 k0_t4
  let c16_i32 : BitVec 32 := 16#32
  let v155 : BitVec 32 := Scalar.muli arg16 c16_i32
  let v156 : BitVec 32 := Scalar.addi c0_i32_156 v155
  let v169 : Index := Scalar.indexCast v156
  ![0, 1, v169.toNat]

def k0_chk11 (v114 : IVec S16 32) (v158 : IVec S16 32) (v171 : IVec S16 32) : Prop :=
  (∀ a x, ((![v114, v171, v158] : Fin 3 → IVec S16 32) a x).toNat < S4x4x4096.size a)
theorem k0_idx11_inb : ∀ (v114 : IVec S16 32) (v158 : IVec S16 32) (v171 : IVec S16 32) (k0_hw11 : k0_chk11 v114 v158 v171), ∀ a x, ((![v114, v171, v158] : Fin 3 → IVec S16 32) a x).toNat < S4x4x4096.size a := fun v114 v158 v171 k0_hw11 => k0_hw11
def k0_off23 (k0_t4 : Fin k0_t4_loop.trips) : Fin 3 → Nat :=
  let c0_i32_164 : BitVec 32 := 0#32
  let v173 : Index := Scalar.indexCast c0_i32_164
  let c2_i32_165 : BitVec 32 := 2#32
  let v174 : Index := Scalar.indexCast c2_i32_165
  let c0_i32_156 : BitVec 32 := 0#32
  let c0_i32_112 : BitVec 32 := 0#32
  let c1_i32_114 : BitVec 32 := 1#32
  let arg16 : BitVec 32 := Scf.iv c0_i32_112 c1_i32_114 k0_t4
  let c16_i32 : BitVec 32 := 16#32
  let v155 : BitVec 32 := Scalar.muli arg16 c16_i32
  let v156 : BitVec 32 := Scalar.addi c0_i32_156 v155
  let v175 : Index := Scalar.indexCast v156
  ![0, 2, v175.toNat]

def k0_chk12 (v114 : IVec S16 32) (v158 : IVec S16 32) (v177 : IVec S16 32) : Prop :=
  (∀ a x, ((![v114, v177, v158] : Fin 3 → IVec S16 32) a x).toNat < S4x4x4096.size a)
theorem k0_idx12_inb : ∀ (v114 : IVec S16 32) (v158 : IVec S16 32) (v177 : IVec S16 32) (k0_hw12 : k0_chk12 v114 v158 v177), ∀ a x, ((![v114, v177, v158] : Fin 3 → IVec S16 32) a x).toNat < S4x4x4096.size a := fun v114 v158 v177 k0_hw12 => k0_hw12
def k0_off24 (k0_t4 : Fin k0_t4_loop.trips) : Fin 3 → Nat :=
  let c0_i32_167 : BitVec 32 := 0#32
  let v179 : Index := Scalar.indexCast c0_i32_167
  let c3_i32_168 : BitVec 32 := 3#32
  let v180 : Index := Scalar.indexCast c3_i32_168
  let c0_i32_156 : BitVec 32 := 0#32
  let c0_i32_112 : BitVec 32 := 0#32
  let c1_i32_114 : BitVec 32 := 1#32
  let arg16 : BitVec 32 := Scf.iv c0_i32_112 c1_i32_114 k0_t4
  let c16_i32 : BitVec 32 := 16#32
  let v155 : BitVec 32 := Scalar.muli arg16 c16_i32
  let v156 : BitVec 32 := Scalar.addi c0_i32_156 v155
  let v181 : Index := Scalar.indexCast v156
  ![0, 3, v181.toNat]
def k0_off25 (i : grid0.Coords) (k0_t1 : Fin k0_t1_loop.trips) (c2_i32_100 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_27 : BitVec 32 := 0#32
  let c1_i32_29 : BitVec 32 := 1#32
  let arg14 : BitVec 32 := Scf.iv c0_i32_27 c1_i32_29 k0_t1
  let c4_i32_99 : BitVec 32 := 4#32
  let v101 : BitVec 32 := Scalar.muli arg14 c4_i32_99
  let v102 : BitVec 32 := Scalar.addi v101 c2_i32_100
  let c4_i32_116 : BitVec 32 := 4#32
  let v116 : BitVec 32 := Scalar.muli v102 c4_i32_116
  let v117 : BitVec 32 := Scalar.addi v2 v116
  let c0_i32_120 : BitVec 32 := 0#32
  ![v117.toNat, 0]
def k0_cond6 (k0_t1 : Fin k0_t1_loop.trips) : BitVec 1 :=
  let c0_i32_27 : BitVec 32 := 0#32
  let c1_i32_29 : BitVec 32 := 1#32
  let arg14 : BitVec 32 := Scf.iv c0_i32_27 c1_i32_29 k0_t1
  let c4_i32_99 : BitVec 32 := 4#32
  let v101 : BitVec 32 := Scalar.muli arg14 c4_i32_99
  let c2_i32_100 : BitVec 32 := 2#32
  let v102 : BitVec 32 := Scalar.addi v101 c2_i32_100
  let c4_i32_124 : BitVec 32 := 4#32
  let v124 : BitVec 32 := Scalar.addi v102 c4_i32_124
  let c32_i32_125 : BitVec 32 := 32#32
  let v125 : BitVec 1 := Scalar.cmpi .slt v124 c32_i32_125
  let v126 : BitVec 32 := Scalar.extui v125
  let c0_i32_126 : BitVec 32 := 0#32
  let v127 : BitVec 1 := Scalar.cmpi .ne v126 c0_i32_126
  v127

def k0_off26 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_27 : BitVec 32 := 0#32
  let c1_i32_29 : BitVec 32 := 1#32
  let arg14 : BitVec 32 := Scf.iv c0_i32_27 c1_i32_29 k0_t1
  let c4_i32_99 : BitVec 32 := 4#32
  let v101 : BitVec 32 := Scalar.muli arg14 c4_i32_99
  let c2_i32_100 : BitVec 32 := 2#32
  let v102 : BitVec 32 := Scalar.addi v101 c2_i32_100
  let c4_i32_156 : BitVec 32 := 4#32
  let v155 : BitVec 32 := Scalar.addi v102 c4_i32_156
  let c4_i32_157 : BitVec 32 := 4#32
  let v156 : BitVec 32 := Scalar.muli v155 c4_i32_157
  let v157 : BitVec 32 := Scalar.addi v2 v156
  let c0_i32_161 : BitVec 32 := 0#32
  ![v157.toNat, 0]
def k0_cond7 (k0_t1 : Fin k0_t1_loop.trips) : BitVec 1 :=
  let c0_i32_27 : BitVec 32 := 0#32
  let c1_i32_29 : BitVec 32 := 1#32
  let arg14 : BitVec 32 := Scf.iv c0_i32_27 c1_i32_29 k0_t1
  let c4_i32_127 : BitVec 32 := 4#32
  let v128 : BitVec 32 := Scalar.muli arg14 c4_i32_127
  let c3_i32_128 : BitVec 32 := 3#32
  let v129 : BitVec 32 := Scalar.addi v128 c3_i32_128
  let c2_i32_137 : BitVec 32 := 2#32
  let v138 : BitVec 1 := Scalar.cmpi .sge v129 c2_i32_137
  let v139 : BitVec 32 := Scalar.extui v138
  let c0_i32_138 : BitVec 32 := 0#32
  let v140 : BitVec 1 := Scalar.cmpi .ne v139 c0_i32_138
  v140

def k0_off27 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_27 : BitVec 32 := 0#32
  let c1_i32_29 : BitVec 32 := 1#32
  let arg14 : BitVec 32 := Scf.iv c0_i32_27 c1_i32_29 k0_t1
  let c4_i32_127 : BitVec 32 := 4#32
  let v128 : BitVec 32 := Scalar.muli arg14 c4_i32_127
  let c3_i32_128 : BitVec 32 := 3#32
  let v129 : BitVec 32 := Scalar.addi v128 c3_i32_128
  let c2_i32_156 : BitVec 32 := 2#32
  let v155 : BitVec 32 := Scalar.subi v129 c2_i32_156
  let c4_i32_157 : BitVec 32 := 4#32
  let v156 : BitVec 32 := Scalar.muli v155 c4_i32_157
  let v157 : BitVec 32 := Scalar.addi v2 v156
  let c0_i32_161 : BitVec 32 := 0#32
  ![v157.toNat, 0]
@[reducible] def k0_t5_loop : Scf.Loop 32 :=
  let c0_i32_140 : BitVec 32 := 0#32
  let c256_i32_141 : BitVec 32 := 256#32
  let v142 : BitVec 32 := Scalar.addi c0_i32_140 c256_i32_141
  let c1_i32_142 : BitVec 32 := 1#32
  ⟨c0_i32_140, v142, c1_i32_142⟩
def k0_off28 (k0_t5 : Fin k0_t5_loop.trips) : Fin 1 → Nat :=
  let c0_i32_156 : BitVec 32 := 0#32
  let c0_i32_140 : BitVec 32 := 0#32
  let c1_i32_142 : BitVec 32 := 1#32
  let arg16 : BitVec 32 := Scf.iv c0_i32_140 c1_i32_142 k0_t5
  let c16_i32 : BitVec 32 := 16#32
  let v155 : BitVec 32 := Scalar.muli arg16 c16_i32
  let v156 : BitVec 32 := Scalar.addi c0_i32_156 v155
  let v157 : Index := Scalar.indexCast v156
  ![v157.toNat]

def k0_chk13 (v141 : IVec S16 32) (v158 : IVec S16 32) (v159 : IVec S16 32) : Prop :=
  (∀ a x, ((![v141, v159, v158] : Fin 3 → IVec S16 32) a x).toNat < S4x4x4096.size a)
theorem k0_idx13_inb : ∀ (v141 : IVec S16 32) (v158 : IVec S16 32) (v159 : IVec S16 32) (k0_hw13 : k0_chk13 v141 v158 v159), ∀ a x, ((![v141, v159, v158] : Fin 3 → IVec S16 32) a x).toNat < S4x4x4096.size a := fun v141 v158 v159 k0_hw13 => k0_hw13
def k0_off29 (k0_t5 : Fin k0_t5_loop.trips) : Fin 3 → Nat :=
  let c1_i32_158 : BitVec 32 := 1#32
  let v161 : Index := Scalar.indexCast c1_i32_158
  let c0_i32_159 : BitVec 32 := 0#32
  let v162 : Index := Scalar.indexCast c0_i32_159
  let c0_i32_156 : BitVec 32 := 0#32
  let c0_i32_140 : BitVec 32 := 0#32
  let c1_i32_142 : BitVec 32 := 1#32
  let arg16 : BitVec 32 := Scf.iv c0_i32_140 c1_i32_142 k0_t5
  let c16_i32 : BitVec 32 := 16#32
  let v155 : BitVec 32 := Scalar.muli arg16 c16_i32
  let v156 : BitVec 32 := Scalar.addi c0_i32_156 v155
  let v163 : Index := Scalar.indexCast v156
  ![1, 0, v163.toNat]

def k0_chk14 (v141 : IVec S16 32) (v158 : IVec S16 32) (v165 : IVec S16 32) : Prop :=
  (∀ a x, ((![v141, v165, v158] : Fin 3 → IVec S16 32) a x).toNat < S4x4x4096.size a)
theorem k0_idx14_inb : ∀ (v141 : IVec S16 32) (v158 : IVec S16 32) (v165 : IVec S16 32) (k0_hw14 : k0_chk14 v141 v158 v165), ∀ a x, ((![v141, v165, v158] : Fin 3 → IVec S16 32) a x).toNat < S4x4x4096.size a := fun v141 v158 v165 k0_hw14 => k0_hw14
def k0_off30 (k0_t5 : Fin k0_t5_loop.trips) : Fin 3 → Nat :=
  let c1_i32_161 : BitVec 32 := 1#32
  let v167 : Index := Scalar.indexCast c1_i32_161
  let c1_i32_162 : BitVec 32 := 1#32
  let v168 : Index := Scalar.indexCast c1_i32_162
  let c0_i32_156 : BitVec 32 := 0#32
  let c0_i32_140 : BitVec 32 := 0#32
  let c1_i32_142 : BitVec 32 := 1#32
  let arg16 : BitVec 32 := Scf.iv c0_i32_140 c1_i32_142 k0_t5
  let c16_i32 : BitVec 32 := 16#32
  let v155 : BitVec 32 := Scalar.muli arg16 c16_i32
  let v156 : BitVec 32 := Scalar.addi c0_i32_156 v155
  let v169 : Index := Scalar.indexCast v156
  ![1, 1, v169.toNat]

def k0_chk15 (v141 : IVec S16 32) (v158 : IVec S16 32) (v171 : IVec S16 32) : Prop :=
  (∀ a x, ((![v141, v171, v158] : Fin 3 → IVec S16 32) a x).toNat < S4x4x4096.size a)
theorem k0_idx15_inb : ∀ (v141 : IVec S16 32) (v158 : IVec S16 32) (v171 : IVec S16 32) (k0_hw15 : k0_chk15 v141 v158 v171), ∀ a x, ((![v141, v171, v158] : Fin 3 → IVec S16 32) a x).toNat < S4x4x4096.size a := fun v141 v158 v171 k0_hw15 => k0_hw15
def k0_off31 (k0_t5 : Fin k0_t5_loop.trips) : Fin 3 → Nat :=
  let c1_i32_164 : BitVec 32 := 1#32
  let v173 : Index := Scalar.indexCast c1_i32_164
  let c2_i32_165 : BitVec 32 := 2#32
  let v174 : Index := Scalar.indexCast c2_i32_165
  let c0_i32_156 : BitVec 32 := 0#32
  let c0_i32_140 : BitVec 32 := 0#32
  let c1_i32_142 : BitVec 32 := 1#32
  let arg16 : BitVec 32 := Scf.iv c0_i32_140 c1_i32_142 k0_t5
  let c16_i32 : BitVec 32 := 16#32
  let v155 : BitVec 32 := Scalar.muli arg16 c16_i32
  let v156 : BitVec 32 := Scalar.addi c0_i32_156 v155
  let v175 : Index := Scalar.indexCast v156
  ![1, 2, v175.toNat]

def k0_chk16 (v141 : IVec S16 32) (v158 : IVec S16 32) (v177 : IVec S16 32) : Prop :=
  (∀ a x, ((![v141, v177, v158] : Fin 3 → IVec S16 32) a x).toNat < S4x4x4096.size a)
theorem k0_idx16_inb : ∀ (v141 : IVec S16 32) (v158 : IVec S16 32) (v177 : IVec S16 32) (k0_hw16 : k0_chk16 v141 v158 v177), ∀ a x, ((![v141, v177, v158] : Fin 3 → IVec S16 32) a x).toNat < S4x4x4096.size a := fun v141 v158 v177 k0_hw16 => k0_hw16
def k0_off32 (k0_t5 : Fin k0_t5_loop.trips) : Fin 3 → Nat :=
  let c1_i32_167 : BitVec 32 := 1#32
  let v179 : Index := Scalar.indexCast c1_i32_167
  let c3_i32_168 : BitVec 32 := 3#32
  let v180 : Index := Scalar.indexCast c3_i32_168
  let c0_i32_156 : BitVec 32 := 0#32
  let c0_i32_140 : BitVec 32 := 0#32
  let c1_i32_142 : BitVec 32 := 1#32
  let arg16 : BitVec 32 := Scf.iv c0_i32_140 c1_i32_142 k0_t5
  let c16_i32 : BitVec 32 := 16#32
  let v155 : BitVec 32 := Scalar.muli arg16 c16_i32
  let v156 : BitVec 32 := Scalar.addi c0_i32_156 v155
  let v181 : Index := Scalar.indexCast v156
  ![1, 3, v181.toNat]
def k0_off33 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_27 : BitVec 32 := 0#32
  let c1_i32_29 : BitVec 32 := 1#32
  let arg14 : BitVec 32 := Scf.iv c0_i32_27 c1_i32_29 k0_t1
  let c4_i32_127 : BitVec 32 := 4#32
  let v128 : BitVec 32 := Scalar.muli arg14 c4_i32_127
  let c3_i32_128 : BitVec 32 := 3#32
  let v129 : BitVec 32 := Scalar.addi v128 c3_i32_128
  let c4_i32_144 : BitVec 32 := 4#32
  let v143 : BitVec 32 := Scalar.muli v129 c4_i32_144
  let v144 : BitVec 32 := Scalar.addi v2 v143
  let c0_i32_148 : BitVec 32 := 0#32
  ![v144.toNat, 0]
def k0_cond8 (k0_t1 : Fin k0_t1_loop.trips) : BitVec 1 :=
  let c0_i32_27 : BitVec 32 := 0#32
  let c1_i32_29 : BitVec 32 := 1#32
  let arg14 : BitVec 32 := Scf.iv c0_i32_27 c1_i32_29 k0_t1
  let c4_i32_127 : BitVec 32 := 4#32
  let v128 : BitVec 32 := Scalar.muli arg14 c4_i32_127
  let c3_i32_128 : BitVec 32 := 3#32
  let v129 : BitVec 32 := Scalar.addi v128 c3_i32_128
  let c4_i32_152 : BitVec 32 := 4#32
  let v151 : BitVec 32 := Scalar.addi v129 c4_i32_152
  let c32_i32_153 : BitVec 32 := 32#32
  let v152 : BitVec 1 := Scalar.cmpi .slt v151 c32_i32_153
  let v153 : BitVec 32 := Scalar.extui v152
  let c0_i32_154 : BitVec 32 := 0#32
  let v154 : BitVec 1 := Scalar.cmpi .ne v153 c0_i32_154
  v154

def k0_off34 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_27 : BitVec 32 := 0#32
  let c1_i32_29 : BitVec 32 := 1#32
  let arg14 : BitVec 32 := Scf.iv c0_i32_27 c1_i32_29 k0_t1
  let c4_i32_127 : BitVec 32 := 4#32
  let v128 : BitVec 32 := Scalar.muli arg14 c4_i32_127
  let c3_i32_128 : BitVec 32 := 3#32
  let v129 : BitVec 32 := Scalar.addi v128 c3_i32_128
  let c4_i32_156 : BitVec 32 := 4#32
  let v155 : BitVec 32 := Scalar.addi v129 c4_i32_156
  let c4_i32_157 : BitVec 32 := 4#32
  let v156 : BitVec 32 := Scalar.muli v155 c4_i32_157
  let v157 : BitVec 32 := Scalar.addi v2 v156
  let c0_i32_161 : BitVec 32 := 0#32
  ![v157.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x256x4096 : Shape := ⟨3, ![16, 256, 4096]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S4096 : Shape := ⟨1, ![4096]⟩
abbrev S4096x1 : Shape := ⟨2, ![4096, 1]⟩
abbrev S1x1 : Shape := ⟨2, ![1, 1]⟩

abbrev nBuf : Space → Nat
  | .hbm => 821
  | .vmem => 0
  | .smem => 0
  | _ => 0

abbrev hbmTy0_0 (i : Nat) : BufTy := match i % 128 with
  | 0 => ⟨S16x256x4096, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S2, .i64⟩
  | 16 => ⟨S_, .i64⟩
  | 17 => ⟨S2, .i64⟩
  | 18 => ⟨S2, .i64⟩
  | 19 => ⟨S_, .i64⟩
  | 20 => ⟨S2, .i64⟩
  | 21 => ⟨S2, .i64⟩
  | 22 => ⟨S2, .i32⟩
  | 23 => ⟨S2, .i32⟩
  | 24 => ⟨S_, .i32⟩
  | 25 => ⟨S_, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S16x256x4096, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2x1, .i32⟩
  | 119 => ⟨S2x1, .i32⟩
  | 120 => ⟨S2x2, .i32⟩
  | 121 => ⟨S1x2, .i32⟩
  | 122 => ⟨S2, .i32⟩
  | 123 => ⟨S1x2, .i32⟩
  | 124 => ⟨S2, .i32⟩
  | 125 => ⟨S_, .f32⟩
  | 126 => ⟨S_, .f32⟩
  | 127 => ⟨S_, .f32⟩
  | _ => ⟨S16x256x4096, .f32⟩

abbrev hbmTy0_2 (i : Nat) : BufTy := match i % 128 with
  | 0 => ⟨S_, .f32⟩
  | 1 => ⟨S1, .f32⟩
  | 2 => ⟨S1, .f32⟩
  | 3 => ⟨S1, .i32⟩
  | 4 => ⟨S_, .i32⟩
  | 5 => ⟨S1, .i32⟩
  | 6 => ⟨S_, .i32⟩
  | 7 => ⟨S4096, .i64⟩
  | 8 => ⟨S_, .i64⟩
  | 9 => ⟨S4096, .i64⟩
  | 10 => ⟨S4096, .i64⟩
  | 11 => ⟨S_, .i64⟩
  | 12 => ⟨S4096, .i64⟩
  | 13 => ⟨S4096, .i64⟩
  | 14 => ⟨S4096, .i32⟩
  | 15 => ⟨S4096, .i32⟩
  | 16 => ⟨S_, .i32⟩
  | 17 => ⟨S_, .i32⟩
  | 18 => ⟨S_, .i32⟩
  | 19 => ⟨S4096, .i32⟩
  | 20 => ⟨S4096, .i32⟩
  | 21 => ⟨S4096, .i32⟩
  | 22 => ⟨S4096, .i32⟩
  | 23 => ⟨S4096, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i32⟩
  | 36 => ⟨S_, .i32⟩
  | 37 => ⟨S4096, .i32⟩
  | 38 => ⟨S4096, .i32⟩
  | 39 => ⟨S4096, .i32⟩
  | 40 => ⟨S4096, .i32⟩
  | 41 => ⟨S4096, .i32⟩
  | 42 => ⟨S_, .i32⟩
  | 43 => ⟨S4096, .i32⟩
  | 44 => ⟨S4096, .i32⟩
  | 45 => ⟨S_, .i32⟩
  | 46 => ⟨S4096, .i32⟩
  | 47 => ⟨S4096, .i32⟩
  | 48 => ⟨S4096, .i32⟩
  | 49 => ⟨S4096, .i32⟩
  | 50 => ⟨S4096, .i32⟩
  | 51 => ⟨S_, .i32⟩
  | 52 => ⟨S4096, .i32⟩
  | 53 => ⟨S4096, .i32⟩
  | 54 => ⟨S_, .i32⟩
  | 55 => ⟨S4096, .i32⟩
  | 56 => ⟨S4096, .i32⟩
  | 57 => ⟨S4096, .i32⟩
  | 58 => ⟨S4096, .i32⟩
  | 59 => ⟨S4096, .i32⟩
  | 60 => ⟨S4096, .i32⟩
  | 61 => ⟨S4096, .i32⟩
  | 62 => ⟨S4096, .i32⟩
  | 63 => ⟨S_, .i32⟩
  | 64 => ⟨S4096, .i32⟩
  | 65 => ⟨S4096, .i32⟩
  | 66 => ⟨S4096, .i32⟩
  | 67 => ⟨S_, .i32⟩
  | 68 => ⟨S4096, .i32⟩
  | 69 => ⟨S4096, .i32⟩
  | 70 => ⟨S_, .i32⟩
  | 71 => ⟨S4096, .i32⟩
  | 72 => ⟨S4096, .i32⟩
  | 73 => ⟨S4096, .i32⟩
  | 74 => ⟨S4096, .i32⟩
  | 75 => ⟨S4096, .i32⟩
  | 76 => ⟨S_, .i32⟩
  | 77 => ⟨S4096, .i32⟩
  | 78 => ⟨S4096, .i32⟩
  | 79 => ⟨S_, .i32⟩
  | 80 => ⟨S4096, .i32⟩
  | 81 => ⟨S4096, .i32⟩
  | 82 => ⟨S4096, .i32⟩
  | 83 => ⟨S4096, .i32⟩
  | 84 => ⟨S4096, .i32⟩
  | 85 => ⟨S_, .i32⟩
  | 86 => ⟨S4096, .i32⟩
  | 87 => ⟨S4096, .i32⟩
  | 88 => ⟨S_, .i32⟩
  | 89 => ⟨S4096, .i32⟩
  | 90 => ⟨S4096, .i32⟩
  | 91 => ⟨S4096, .i32⟩
  | 92 => ⟨S4096, .i32⟩
  | 93 => ⟨S4096, .i32⟩
  | 94 => ⟨S_, .i32⟩
  | 95 => ⟨S4096, .i32⟩
  | 96 => ⟨S4096, .i32⟩
  | 97 => ⟨S_, .i32⟩
  | 98 => ⟨S4096, .i32⟩
  | 99 => ⟨S4096, .i32⟩
  | 100 => ⟨S4096, .i32⟩
  | 101 => ⟨S4096, .i32⟩
  | 102 => ⟨S4096, .i32⟩
  | 103 => ⟨S4096, .i32⟩
  | 104 => ⟨S4096, .i32⟩
  | 105 => ⟨S4096, .i32⟩
  | 106 => ⟨S_, .i32⟩
  | 107 => ⟨S4096, .i32⟩
  | 108 => ⟨S4096, .i32⟩
  | 109 => ⟨S4096, .i32⟩
  | 110 => ⟨S_, .i32⟩
  | 111 => ⟨S4096, .i32⟩
  | 112 => ⟨S4096, .i32⟩
  | 113 => ⟨S_, .i32⟩
  | 114 => ⟨S4096, .i32⟩
  | 115 => ⟨S4096, .i32⟩
  | 116 => ⟨S4096, .i32⟩
  | 117 => ⟨S4096, .i32⟩
  | 118 => ⟨S4096, .i32⟩
  | 119 => ⟨S_, .i32⟩
  | 120 => ⟨S4096, .i32⟩
  | 121 => ⟨S4096, .i32⟩
  | 122 => ⟨S_, .i32⟩
  | 123 => ⟨S4096, .i32⟩
  | 124 => ⟨S4096, .i32⟩
  | 125 => ⟨S4096, .i32⟩
  | 126 => ⟨S4096, .i32⟩
  | 127 => ⟨S4096, .i32⟩
  | _ => ⟨S16x256x4096, .f32⟩

abbrev hbmTy0_3 (i : Nat) : BufTy := match i % 128 with
  | 0 => ⟨S_, .i32⟩
  | 1 => ⟨S4096, .i32⟩
  | 2 => ⟨S4096, .i32⟩
  | 3 => ⟨S_, .i32⟩
  | 4 => ⟨S4096, .i32⟩
  | 5 => ⟨S4096, .i32⟩
  | 6 => ⟨S4096, .i32⟩
  | 7 => ⟨S4096, .i32⟩
  | 8 => ⟨S4096, .i32⟩
  | 9 => ⟨S_, .i32⟩
  | 10 => ⟨S4096, .i32⟩
  | 11 => ⟨S4096, .i32⟩
  | 12 => ⟨S_, .i32⟩
  | 13 => ⟨S4096, .i32⟩
  | 14 => ⟨S4096, .i32⟩
  | 15 => ⟨S4096, .i32⟩
  | 16 => ⟨S4096, .i32⟩
  | 17 => ⟨S4096, .i32⟩
  | 18 => ⟨S4096, .i32⟩
  | 19 => ⟨S4096, .i32⟩
  | 20 => ⟨S4096, .i32⟩
  | 21 => ⟨S_, .i32⟩
  | 22 => ⟨S4096, .i32⟩
  | 23 => ⟨S4096, .i32⟩
  | 24 => ⟨S4096, .i32⟩
  | 25 => ⟨S_, .i32⟩
  | 26 => ⟨S4096, .i32⟩
  | 27 => ⟨S4096, .i32⟩
  | 28 => ⟨S_, .i32⟩
  | 29 => ⟨S4096, .i32⟩
  | 30 => ⟨S4096, .i32⟩
  | 31 => ⟨S4096, .i32⟩
  | 32 => ⟨S4096, .i32⟩
  | 33 => ⟨S4096, .i32⟩
  | 34 => ⟨S_, .i32⟩
  | 35 => ⟨S4096, .i32⟩
  | 36 => ⟨S4096, .i32⟩
  | 37 => ⟨S_, .i32⟩
  | 38 => ⟨S4096, .i32⟩
  | 39 => ⟨S4096, .i32⟩
  | 40 => ⟨S4096, .i32⟩
  | 41 => ⟨S4096, .i32⟩
  | 42 => ⟨S4096, .i32⟩
  | 43 => ⟨S_, .i32⟩
  | 44 => ⟨S4096, .i32⟩
  | 45 => ⟨S4096, .i32⟩
  | 46 => ⟨S_, .i32⟩
  | 47 => ⟨S4096, .i32⟩
  | 48 => ⟨S4096, .i32⟩
  | 49 => ⟨S4096, .i32⟩
  | 50 => ⟨S4096, .i32⟩
  | 51 => ⟨S4096, .i32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S4096, .i32⟩
  | 59 => ⟨S4096, .i32⟩
  | 60 => ⟨S4096, .i32⟩
  | 61 => ⟨S4096, .i32⟩
  | 62 => ⟨S4096, .i32⟩
  | 63 => ⟨S4096, .i32⟩
  | 64 => ⟨S_, .i32⟩
  | 65 => ⟨S4096, .i32⟩
  | 66 => ⟨S4096, .i32⟩
  | 67 => ⟨S4096, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i32⟩
  | 74 => ⟨S4096, .i32⟩
  | 75 => ⟨S4096, .i32⟩
  | 76 => ⟨S4096, .i32⟩
  | 77 => ⟨S_, .i32⟩
  | 78 => ⟨S4096, .i32⟩
  | 79 => ⟨S4096, .i32⟩
  | 80 => ⟨S_, .i32⟩
  | 81 => ⟨S4096, .i32⟩
  | 82 => ⟨S4096, .i32⟩
  | 83 => ⟨S4096, .i32⟩
  | 84 => ⟨S4096, .i32⟩
  | 85 => ⟨S4096, .i32⟩
  | 86 => ⟨S_, .i32⟩
  | 87 => ⟨S4096, .i32⟩
  | 88 => ⟨S4096, .i32⟩
  | 89 => ⟨S_, .i32⟩
  | 90 => ⟨S4096, .i32⟩
  | 91 => ⟨S4096, .i32⟩
  | 92 => ⟨S4096, .i32⟩
  | 93 => ⟨S4096, .i32⟩
  | 94 => ⟨S4096, .i32⟩
  | 95 => ⟨S_, .i32⟩
  | 96 => ⟨S4096, .i32⟩
  | 97 => ⟨S4096, .i32⟩
  | 98 => ⟨S_, .i32⟩
  | 99 => ⟨S4096, .i32⟩
  | 100 => ⟨S4096, .i32⟩
  | 101 => ⟨S4096, .i32⟩
  | 102 => ⟨S4096, .i32⟩
  | 103 => ⟨S4096, .i32⟩
  | 104 => ⟨S4096, .i32⟩
  | 105 => ⟨S4096, .i32⟩
  | 106 => ⟨S4096, .i32⟩
  | 107 => ⟨S_, .i32⟩
  | 108 => ⟨S4096, .i32⟩
  | 109 => ⟨S4096, .i32⟩
  | 110 => ⟨S4096, .i32⟩
  | 111 => ⟨S_, .i32⟩
  | 112 => ⟨S4096, .i32⟩
  | 113 => ⟨S4096, .i32⟩
  | 114 => ⟨S_, .i32⟩
  | 115 => ⟨S4096, .i32⟩
  | 116 => ⟨S4096, .i32⟩
  | 117 => ⟨S4096, .f32⟩
  | 118 => ⟨S_, .f32⟩
  | 119 => ⟨S4096, .f32⟩
  | 120 => ⟨S4096, .f32⟩
  | 121 => ⟨S1, .f32⟩
  | 122 => ⟨S4096, .f32⟩
  | 123 => ⟨S4096, .f32⟩
  | 124 => ⟨S4096, .f32⟩
  | 125 => ⟨S4096, .f32⟩
  | 126 => ⟨S4096, .f32⟩
  | 127 => ⟨S4096, .f32⟩
  | _ => ⟨S16x256x4096, .f32⟩

abbrev hbmTy0_4 (i : Nat) : BufTy := match i % 128 with
  | 0 => ⟨S_, .f32⟩
  | 1 => ⟨S4096, .f32⟩
  | 2 => ⟨S4096, .i1⟩
  | 3 => ⟨S_, .f32⟩
  | 4 => ⟨S_, .f32⟩
  | 5 => ⟨S_, .f32⟩
  | 6 => ⟨S_, .f32⟩
  | 7 => ⟨S1, .f32⟩
  | 8 => ⟨S1, .f32⟩
  | 9 => ⟨S1, .i32⟩
  | 10 => ⟨S_, .i32⟩
  | 11 => ⟨S1, .i32⟩
  | 12 => ⟨S_, .i32⟩
  | 13 => ⟨S4096, .i64⟩
  | 14 => ⟨S_, .i64⟩
  | 15 => ⟨S4096, .i64⟩
  | 16 => ⟨S4096, .i64⟩
  | 17 => ⟨S_, .i64⟩
  | 18 => ⟨S4096, .i64⟩
  | 19 => ⟨S4096, .i64⟩
  | 20 => ⟨S4096, .i32⟩
  | 21 => ⟨S4096, .i32⟩
  | 22 => ⟨S_, .i32⟩
  | 23 => ⟨S_, .i32⟩
  | 24 => ⟨S_, .i32⟩
  | 25 => ⟨S4096, .i32⟩
  | 26 => ⟨S4096, .i32⟩
  | 27 => ⟨S4096, .i32⟩
  | 28 => ⟨S4096, .i32⟩
  | 29 => ⟨S4096, .i32⟩
  | 30 => ⟨S_, .i32⟩
  | 31 => ⟨S4096, .i32⟩
  | 32 => ⟨S4096, .i32⟩
  | 33 => ⟨S_, .i32⟩
  | 34 => ⟨S4096, .i32⟩
  | 35 => ⟨S4096, .i32⟩
  | 36 => ⟨S4096, .i32⟩
  | 37 => ⟨S4096, .i32⟩
  | 38 => ⟨S4096, .i32⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S4096, .i32⟩
  | 46 => ⟨S4096, .i32⟩
  | 47 => ⟨S4096, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i32⟩
  | 54 => ⟨S4096, .i32⟩
  | 55 => ⟨S4096, .i32⟩
  | 56 => ⟨S4096, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S4096, .i32⟩
  | 64 => ⟨S4096, .i32⟩
  | 65 => ⟨S4096, .i32⟩
  | 66 => ⟨S4096, .i32⟩
  | 67 => ⟨S4096, .i32⟩
  | 68 => ⟨S4096, .i32⟩
  | 69 => ⟨S_, .i32⟩
  | 70 => ⟨S4096, .i32⟩
  | 71 => ⟨S4096, .i32⟩
  | 72 => ⟨S4096, .i32⟩
  | 73 => ⟨S_, .i32⟩
  | 74 => ⟨S4096, .i32⟩
  | 75 => ⟨S4096, .i32⟩
  | 76 => ⟨S_, .i32⟩
  | 77 => ⟨S4096, .i32⟩
  | 78 => ⟨S4096, .i32⟩
  | 79 => ⟨S4096, .i32⟩
  | 80 => ⟨S4096, .i32⟩
  | 81 => ⟨S4096, .i32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S4096, .i32⟩
  | 89 => ⟨S4096, .i32⟩
  | 90 => ⟨S4096, .i32⟩
  | 91 => ⟨S_, .i32⟩
  | 92 => ⟨S4096, .i32⟩
  | 93 => ⟨S4096, .i32⟩
  | 94 => ⟨S_, .i32⟩
  | 95 => ⟨S4096, .i32⟩
  | 96 => ⟨S4096, .i32⟩
  | 97 => ⟨S4096, .i32⟩
  | 98 => ⟨S4096, .i32⟩
  | 99 => ⟨S4096, .i32⟩
  | 100 => ⟨S_, .i32⟩
  | 101 => ⟨S4096, .i32⟩
  | 102 => ⟨S4096, .i32⟩
  | 103 => ⟨S_, .i32⟩
  | 104 => ⟨S4096, .i32⟩
  | 105 => ⟨S4096, .i32⟩
  | 106 => ⟨S4096, .i32⟩
  | 107 => ⟨S4096, .i32⟩
  | 108 => ⟨S4096, .i32⟩
  | 109 => ⟨S4096, .i32⟩
  | 110 => ⟨S4096, .i32⟩
  | 111 => ⟨S4096, .i32⟩
  | 112 => ⟨S_, .i32⟩
  | 113 => ⟨S4096, .i32⟩
  | 114 => ⟨S4096, .i32⟩
  | 115 => ⟨S4096, .i32⟩
  | 116 => ⟨S_, .i32⟩
  | 117 => ⟨S4096, .i32⟩
  | 118 => ⟨S4096, .i32⟩
  | 119 => ⟨S_, .i32⟩
  | 120 => ⟨S4096, .i32⟩
  | 121 => ⟨S4096, .i32⟩
  | 122 => ⟨S4096, .i32⟩
  | 123 => ⟨S4096, .i32⟩
  | 124 => ⟨S4096, .i32⟩
  | 125 => ⟨S_, .i32⟩
  | 126 => ⟨S4096, .i32⟩
  | 127 => ⟨S4096, .i32⟩
  | _ => ⟨S16x256x4096, .f32⟩

abbrev hbmTy0_5 (i : Nat) : BufTy := match i % 128 with
  | 0 => ⟨S_, .i32⟩
  | 1 => ⟨S4096, .i32⟩
  | 2 => ⟨S4096, .i32⟩
  | 3 => ⟨S4096, .i32⟩
  | 4 => ⟨S4096, .i32⟩
  | 5 => ⟨S4096, .i32⟩
  | 6 => ⟨S_, .i32⟩
  | 7 => ⟨S4096, .i32⟩
  | 8 => ⟨S4096, .i32⟩
  | 9 => ⟨S_, .i32⟩
  | 10 => ⟨S4096, .i32⟩
  | 11 => ⟨S4096, .i32⟩
  | 12 => ⟨S4096, .i32⟩
  | 13 => ⟨S4096, .i32⟩
  | 14 => ⟨S4096, .i32⟩
  | 15 => ⟨S_, .i32⟩
  | 16 => ⟨S4096, .i32⟩
  | 17 => ⟨S4096, .i32⟩
  | 18 => ⟨S_, .i32⟩
  | 19 => ⟨S4096, .i32⟩
  | 20 => ⟨S4096, .i32⟩
  | 21 => ⟨S4096, .i32⟩
  | 22 => ⟨S4096, .i32⟩
  | 23 => ⟨S4096, .i32⟩
  | 24 => ⟨S4096, .i32⟩
  | 25 => ⟨S4096, .i32⟩
  | 26 => ⟨S4096, .i32⟩
  | 27 => ⟨S_, .i32⟩
  | 28 => ⟨S4096, .i32⟩
  | 29 => ⟨S4096, .i32⟩
  | 30 => ⟨S4096, .i32⟩
  | 31 => ⟨S_, .i32⟩
  | 32 => ⟨S4096, .i32⟩
  | 33 => ⟨S4096, .i32⟩
  | 34 => ⟨S_, .i32⟩
  | 35 => ⟨S4096, .i32⟩
  | 36 => ⟨S4096, .i32⟩
  | 37 => ⟨S4096, .i32⟩
  | 38 => ⟨S4096, .i32⟩
  | 39 => ⟨S4096, .i32⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S4096, .i32⟩
  | 47 => ⟨S4096, .i32⟩
  | 48 => ⟨S4096, .i32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S4096, .i32⟩
  | 56 => ⟨S4096, .i32⟩
  | 57 => ⟨S4096, .i32⟩
  | 58 => ⟨S_, .i32⟩
  | 59 => ⟨S4096, .i32⟩
  | 60 => ⟨S4096, .i32⟩
  | 61 => ⟨S_, .i32⟩
  | 62 => ⟨S4096, .i32⟩
  | 63 => ⟨S4096, .i32⟩
  | 64 => ⟨S4096, .i32⟩
  | 65 => ⟨S4096, .i32⟩
  | 66 => ⟨S4096, .i32⟩
  | 67 => ⟨S4096, .i32⟩
  | 68 => ⟨S4096, .i32⟩
  | 69 => ⟨S4096, .i32⟩
  | 70 => ⟨S_, .i32⟩
  | 71 => ⟨S4096, .i32⟩
  | 72 => ⟨S4096, .i32⟩
  | 73 => ⟨S4096, .i32⟩
  | 74 => ⟨S_, .i32⟩
  | 75 => ⟨S4096, .i32⟩
  | 76 => ⟨S4096, .i32⟩
  | 77 => ⟨S_, .i32⟩
  | 78 => ⟨S4096, .i32⟩
  | 79 => ⟨S4096, .i32⟩
  | 80 => ⟨S4096, .i32⟩
  | 81 => ⟨S4096, .i32⟩
  | 82 => ⟨S4096, .i32⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S4096, .i32⟩
  | 90 => ⟨S4096, .i32⟩
  | 91 => ⟨S4096, .i32⟩
  | 92 => ⟨S_, .i32⟩
  | 93 => ⟨S4096, .i32⟩
  | 94 => ⟨S4096, .i32⟩
  | 95 => ⟨S_, .i32⟩
  | 96 => ⟨S4096, .i32⟩
  | 97 => ⟨S4096, .i32⟩
  | 98 => ⟨S4096, .i32⟩
  | 99 => ⟨S4096, .i32⟩
  | 100 => ⟨S4096, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i32⟩
  | 107 => ⟨S4096, .i32⟩
  | 108 => ⟨S4096, .i32⟩
  | 109 => ⟨S4096, .i32⟩
  | 110 => ⟨S4096, .i32⟩
  | 111 => ⟨S4096, .i32⟩
  | 112 => ⟨S4096, .i32⟩
  | 113 => ⟨S_, .i32⟩
  | 114 => ⟨S4096, .i32⟩
  | 115 => ⟨S4096, .i32⟩
  | 116 => ⟨S4096, .i32⟩
  | 117 => ⟨S_, .i32⟩
  | 118 => ⟨S4096, .i32⟩
  | 119 => ⟨S4096, .i32⟩
  | 120 => ⟨S_, .i32⟩
  | 121 => ⟨S4096, .i32⟩
  | 122 => ⟨S4096, .i32⟩
  | 123 => ⟨S4096, .f32⟩
  | 124 => ⟨S_, .f32⟩
  | 125 => ⟨S4096, .f32⟩
  | 126 => ⟨S4096, .f32⟩
  | 127 => ⟨S1, .f32⟩
  | _ => ⟨S16x256x4096, .f32⟩

abbrev hbmTy0_6 (i : Nat) : BufTy := match i % 128 with
  | 0 => ⟨S4096, .f32⟩
  | 1 => ⟨S4096, .f32⟩
  | 2 => ⟨S4096, .f32⟩
  | 3 => ⟨S4096, .f32⟩
  | 4 => ⟨S4096, .f32⟩
  | 5 => ⟨S4096, .f32⟩
  | 6 => ⟨S_, .f32⟩
  | 7 => ⟨S4096, .f32⟩
  | 8 => ⟨S4096, .i1⟩
  | 9 => ⟨S_, .i32⟩
  | 10 => ⟨S_, .i32⟩
  | 11 => ⟨S4096, .i32⟩
  | 12 => ⟨S4096, .i32⟩
  | 13 => ⟨S4096, .i32⟩
  | 14 => ⟨S4096, .i32⟩
  | 15 => ⟨S_, .i32⟩
  | 16 => ⟨S4096, .i32⟩
  | 17 => ⟨S4096, .i1⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S4096, .i32⟩
  | 28 => ⟨S4096, .i32⟩
  | 29 => ⟨S4096, .i32⟩
  | 30 => ⟨S_, .i32⟩
  | 31 => ⟨S4096, .i32⟩
  | 32 => ⟨S4096, .i1⟩
  | 33 => ⟨S_, .i32⟩
  | 34 => ⟨S4096, .i32⟩
  | 35 => ⟨S4096, .i32⟩
  | 36 => ⟨S4096, .i32⟩
  | 37 => ⟨S4096x1, .i32⟩
  | 38 => ⟨S1, .i32⟩
  | 39 => ⟨S_, .i32⟩
  | 40 => ⟨S4096x1, .i32⟩
  | 41 => ⟨S4096x1, .i1⟩
  | 42 => ⟨S1x1, .i32⟩
  | 43 => ⟨S4096x1, .i32⟩
  | 44 => ⟨S4096x1, .i1⟩
  | 45 => ⟨S4096x1, .i1⟩
  | 46 => ⟨S_, .i1⟩
  | 47 => ⟨S4096, .i1⟩
  | 48 => ⟨S16x256x4096, .f32⟩
  | 49 => ⟨S16x256x4096, .i1⟩
  | 50 => ⟨S_, .f32⟩
  | 51 => ⟨S16x256x4096, .f32⟩
  | 52 => ⟨S16x256x4096, .f32⟩
  | _ => ⟨S16x256x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16x256x4096, .f32⟩

abbrev bufTy : (tb : Table) → Fin (tcTables nBuf tb) → BufTy
  | .hbm, ⟨i, _⟩ => hbmTy i
  | _, _ => ⟨S16x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_cst : Ref sig .tc := ⟨.hbm, 253, rfl⟩
abbrev main_cst_2 : Ref sig .tc := ⟨.hbm, 254, rfl⟩
abbrev main_call1_v0 : Ref sig .tc := ⟨.hbm, 255, rfl⟩
abbrev main_call1_v1 : Ref sig .tc := ⟨.hbm, 256, rfl⟩
abbrev main_call1_v2 : Ref sig .tc := ⟨.hbm, 257, rfl⟩
abbrev main_call1_v3 : Ref sig .tc := ⟨.hbm, 258, rfl⟩
abbrev main_call1_v4 : Ref sig .tc := ⟨.hbm, 259, rfl⟩
abbrev main_call1_v5 : Ref sig .tc := ⟨.hbm, 260, rfl⟩
abbrev main_call1_v6 : Ref sig .tc := ⟨.hbm, 261, rfl⟩
abbrev main_call1_v7 : Ref sig .tc := ⟨.hbm, 262, rfl⟩
abbrev main_call1_v8 : Ref sig .tc := ⟨.hbm, 263, rfl⟩
abbrev main_call1_c : Ref sig .tc := ⟨.hbm, 264, rfl⟩
abbrev main_call1_v9 : Ref sig .tc := ⟨.hbm, 265, rfl⟩
abbrev main_call1_v10 : Ref sig .tc := ⟨.hbm, 266, rfl⟩
abbrev main_call1_c_0 : Ref sig .tc := ⟨.hbm, 267, rfl⟩
abbrev main_call1_v11 : Ref sig .tc := ⟨.hbm, 268, rfl⟩
abbrev main_call1_v12 : Ref sig .tc := ⟨.hbm, 269, rfl⟩
abbrev main_call1_v13 : Ref sig .tc := ⟨.hbm, 270, rfl⟩
abbrev main_call1_v14 : Ref sig .tc := ⟨.hbm, 271, rfl⟩
abbrev main_call1_call0_v0 : Ref sig .tc := ⟨.hbm, 272, rfl⟩
abbrev main_call1_call0_c : Ref sig .tc := ⟨.hbm, 273, rfl⟩
abbrev main_call1_call0_v1 : Ref sig .tc := ⟨.hbm, 274, rfl⟩
abbrev main_call1_call0_v2 : Ref sig .tc := ⟨.hbm, 275, rfl⟩
abbrev main_call1_call0_v3 : Ref sig .tc := ⟨.hbm, 276, rfl⟩
abbrev main_call1_call0_v4 : Ref sig .tc := ⟨.hbm, 277, rfl⟩
abbrev main_call1_call0_v5 : Ref sig .tc := ⟨.hbm, 278, rfl⟩
abbrev main_call1_call0_v6 : Ref sig .tc := ⟨.hbm, 279, rfl⟩
abbrev main_call1_call0_c_0 : Ref sig .tc := ⟨.hbm, 280, rfl⟩
abbrev main_call1_call0_v7 : Ref sig .tc := ⟨.hbm, 281, rfl⟩
abbrev main_call1_call0_v8 : Ref sig .tc := ⟨.hbm, 282, rfl⟩
abbrev main_call1_call0_c_1 : Ref sig .tc := ⟨.hbm, 283, rfl⟩
abbrev main_call1_call0_v9 : Ref sig .tc := ⟨.hbm, 284, rfl⟩
abbrev main_call1_call0_v10 : Ref sig .tc := ⟨.hbm, 285, rfl⟩
abbrev main_call1_call0_v11 : Ref sig .tc := ⟨.hbm, 286, rfl⟩
abbrev main_call1_call0_v12 : Ref sig .tc := ⟨.hbm, 287, rfl⟩
abbrev main_call1_call0_v13 : Ref sig .tc := ⟨.hbm, 288, rfl⟩
abbrev main_call1_call0_c_2 : Ref sig .tc := ⟨.hbm, 289, rfl⟩
abbrev main_call1_call0_v14 : Ref sig .tc := ⟨.hbm, 290, rfl⟩
abbrev main_call1_call0_v15 : Ref sig .tc := ⟨.hbm, 291, rfl⟩
abbrev main_call1_call0_c_3 : Ref sig .tc := ⟨.hbm, 292, rfl⟩
abbrev main_call1_call0_v16 : Ref sig .tc := ⟨.hbm, 293, rfl⟩
abbrev main_call1_call0_v17 : Ref sig .tc := ⟨.hbm, 294, rfl⟩
abbrev main_call1_call0_v18 : Ref sig .tc := ⟨.hbm, 295, rfl⟩
abbrev main_call1_call0_v19 : Ref sig .tc := ⟨.hbm, 296, rfl⟩
abbrev main_call1_call0_v20 : Ref sig .tc := ⟨.hbm, 297, rfl⟩
abbrev main_call1_call0_c_4 : Ref sig .tc := ⟨.hbm, 298, rfl⟩
abbrev main_call1_call0_v21 : Ref sig .tc := ⟨.hbm, 299, rfl⟩
abbrev main_call1_call0_v22 : Ref sig .tc := ⟨.hbm, 300, rfl⟩
abbrev main_call1_call0_c_5 : Ref sig .tc := ⟨.hbm, 301, rfl⟩
abbrev main_call1_call0_v23 : Ref sig .tc := ⟨.hbm, 302, rfl⟩
abbrev main_call1_call0_v24 : Ref sig .tc := ⟨.hbm, 303, rfl⟩
abbrev main_call1_call0_v25 : Ref sig .tc := ⟨.hbm, 304, rfl⟩
abbrev main_call1_call0_v26 : Ref sig .tc := ⟨.hbm, 305, rfl⟩
abbrev main_call1_call0_v27 : Ref sig .tc := ⟨.hbm, 306, rfl⟩
abbrev main_call1_call0_c_6 : Ref sig .tc := ⟨.hbm, 307, rfl⟩
abbrev main_call1_call0_v28 : Ref sig .tc := ⟨.hbm, 308, rfl⟩
abbrev main_call1_call0_v29 : Ref sig .tc := ⟨.hbm, 309, rfl⟩
abbrev main_call1_call0_c_7 : Ref sig .tc := ⟨.hbm, 310, rfl⟩
abbrev main_call1_call0_v30 : Ref sig .tc := ⟨.hbm, 311, rfl⟩
abbrev main_call1_call0_v31 : Ref sig .tc := ⟨.hbm, 312, rfl⟩
abbrev main_call1_call0_v32 : Ref sig .tc := ⟨.hbm, 313, rfl⟩
abbrev main_call1_call0_v33 : Ref sig .tc := ⟨.hbm, 314, rfl⟩
abbrev main_call1_call0_v34 : Ref sig .tc := ⟨.hbm, 315, rfl⟩
abbrev main_call1_call0_v35 : Ref sig .tc := ⟨.hbm, 316, rfl⟩
abbrev main_call1_call0_v36 : Ref sig .tc := ⟨.hbm, 317, rfl⟩
abbrev main_call1_call0_v37 : Ref sig .tc := ⟨.hbm, 318, rfl⟩
abbrev main_call1_call0_c_8 : Ref sig .tc := ⟨.hbm, 319, rfl⟩
abbrev main_call1_call0_v38 : Ref sig .tc := ⟨.hbm, 320, rfl⟩
abbrev main_call1_call0_v39 : Ref sig .tc := ⟨.hbm, 321, rfl⟩
abbrev main_call1_call0_v40 : Ref sig .tc := ⟨.hbm, 322, rfl⟩
abbrev main_call1_call0_c_9 : Ref sig .tc := ⟨.hbm, 323, rfl⟩
abbrev main_call1_call0_v41 : Ref sig .tc := ⟨.hbm, 324, rfl⟩
abbrev main_call1_call0_v42 : Ref sig .tc := ⟨.hbm, 325, rfl⟩
abbrev main_call1_call0_c_10 : Ref sig .tc := ⟨.hbm, 326, rfl⟩
abbrev main_call1_call0_v43 : Ref sig .tc := ⟨.hbm, 327, rfl⟩
abbrev main_call1_call0_v44 : Ref sig .tc := ⟨.hbm, 328, rfl⟩
abbrev main_call1_call0_v45 : Ref sig .tc := ⟨.hbm, 329, rfl⟩
abbrev main_call1_call0_v46 : Ref sig .tc := ⟨.hbm, 330, rfl⟩
abbrev main_call1_call0_v47 : Ref sig .tc := ⟨.hbm, 331, rfl⟩
abbrev main_call1_call0_c_11 : Ref sig .tc := ⟨.hbm, 332, rfl⟩
abbrev main_call1_call0_v48 : Ref sig .tc := ⟨.hbm, 333, rfl⟩
abbrev main_call1_call0_v49 : Ref sig .tc := ⟨.hbm, 334, rfl⟩
abbrev main_call1_call0_c_12 : Ref sig .tc := ⟨.hbm, 335, rfl⟩
abbrev main_call1_call0_v50 : Ref sig .tc := ⟨.hbm, 336, rfl⟩
abbrev main_call1_call0_v51 : Ref sig .tc := ⟨.hbm, 337, rfl⟩
abbrev main_call1_call0_v52 : Ref sig .tc := ⟨.hbm, 338, rfl⟩
abbrev main_call1_call0_v53 : Ref sig .tc := ⟨.hbm, 339, rfl⟩
abbrev main_call1_call0_v54 : Ref sig .tc := ⟨.hbm, 340, rfl⟩
abbrev main_call1_call0_c_13 : Ref sig .tc := ⟨.hbm, 341, rfl⟩
abbrev main_call1_call0_v55 : Ref sig .tc := ⟨.hbm, 342, rfl⟩
abbrev main_call1_call0_v56 : Ref sig .tc := ⟨.hbm, 343, rfl⟩
abbrev main_call1_call0_c_14 : Ref sig .tc := ⟨.hbm, 344, rfl⟩
abbrev main_call1_call0_v57 : Ref sig .tc := ⟨.hbm, 345, rfl⟩
abbrev main_call1_call0_v58 : Ref sig .tc := ⟨.hbm, 346, rfl⟩
abbrev main_call1_call0_v59 : Ref sig .tc := ⟨.hbm, 347, rfl⟩
abbrev main_call1_call0_v60 : Ref sig .tc := ⟨.hbm, 348, rfl⟩
abbrev main_call1_call0_v61 : Ref sig .tc := ⟨.hbm, 349, rfl⟩
abbrev main_call1_call0_c_15 : Ref sig .tc := ⟨.hbm, 350, rfl⟩
abbrev main_call1_call0_v62 : Ref sig .tc := ⟨.hbm, 351, rfl⟩
abbrev main_call1_call0_v63 : Ref sig .tc := ⟨.hbm, 352, rfl⟩
abbrev main_call1_call0_c_16 : Ref sig .tc := ⟨.hbm, 353, rfl⟩
abbrev main_call1_call0_v64 : Ref sig .tc := ⟨.hbm, 354, rfl⟩
abbrev main_call1_call0_v65 : Ref sig .tc := ⟨.hbm, 355, rfl⟩
abbrev main_call1_call0_v66 : Ref sig .tc := ⟨.hbm, 356, rfl⟩
abbrev main_call1_call0_v67 : Ref sig .tc := ⟨.hbm, 357, rfl⟩
abbrev main_call1_call0_v68 : Ref sig .tc := ⟨.hbm, 358, rfl⟩
abbrev main_call1_call0_v69 : Ref sig .tc := ⟨.hbm, 359, rfl⟩
abbrev main_call1_call0_v70 : Ref sig .tc := ⟨.hbm, 360, rfl⟩
abbrev main_call1_call0_v71 : Ref sig .tc := ⟨.hbm, 361, rfl⟩
abbrev main_call1_call0_c_17 : Ref sig .tc := ⟨.hbm, 362, rfl⟩
abbrev main_call1_call0_v72 : Ref sig .tc := ⟨.hbm, 363, rfl⟩
abbrev main_call1_call0_v73 : Ref sig .tc := ⟨.hbm, 364, rfl⟩
abbrev main_call1_call0_v74 : Ref sig .tc := ⟨.hbm, 365, rfl⟩
abbrev main_call1_call0_c_18 : Ref sig .tc := ⟨.hbm, 366, rfl⟩
abbrev main_call1_call0_v75 : Ref sig .tc := ⟨.hbm, 367, rfl⟩
abbrev main_call1_call0_v76 : Ref sig .tc := ⟨.hbm, 368, rfl⟩
abbrev main_call1_call0_c_19 : Ref sig .tc := ⟨.hbm, 369, rfl⟩
abbrev main_call1_call0_v77 : Ref sig .tc := ⟨.hbm, 370, rfl⟩
abbrev main_call1_call0_v78 : Ref sig .tc := ⟨.hbm, 371, rfl⟩
abbrev main_call1_call0_v79 : Ref sig .tc := ⟨.hbm, 372, rfl⟩
abbrev main_call1_call0_v80 : Ref sig .tc := ⟨.hbm, 373, rfl⟩
abbrev main_call1_call0_v81 : Ref sig .tc := ⟨.hbm, 374, rfl⟩
abbrev main_call1_call0_c_20 : Ref sig .tc := ⟨.hbm, 375, rfl⟩
abbrev main_call1_call0_v82 : Ref sig .tc := ⟨.hbm, 376, rfl⟩
abbrev main_call1_call0_v83 : Ref sig .tc := ⟨.hbm, 377, rfl⟩
abbrev main_call1_call0_c_21 : Ref sig .tc := ⟨.hbm, 378, rfl⟩
abbrev main_call1_call0_v84 : Ref sig .tc := ⟨.hbm, 379, rfl⟩
abbrev main_call1_call0_v85 : Ref sig .tc := ⟨.hbm, 380, rfl⟩
abbrev main_call1_call0_v86 : Ref sig .tc := ⟨.hbm, 381, rfl⟩
abbrev main_call1_call0_v87 : Ref sig .tc := ⟨.hbm, 382, rfl⟩
abbrev main_call1_call0_v88 : Ref sig .tc := ⟨.hbm, 383, rfl⟩
abbrev main_call1_call0_c_22 : Ref sig .tc := ⟨.hbm, 384, rfl⟩
abbrev main_call1_call0_v89 : Ref sig .tc := ⟨.hbm, 385, rfl⟩
abbrev main_call1_call0_v90 : Ref sig .tc := ⟨.hbm, 386, rfl⟩
abbrev main_call1_call0_c_23 : Ref sig .tc := ⟨.hbm, 387, rfl⟩
abbrev main_call1_call0_v91 : Ref sig .tc := ⟨.hbm, 388, rfl⟩
abbrev main_call1_call0_v92 : Ref sig .tc := ⟨.hbm, 389, rfl⟩
abbrev main_call1_call0_v93 : Ref sig .tc := ⟨.hbm, 390, rfl⟩
abbrev main_call1_call0_v94 : Ref sig .tc := ⟨.hbm, 391, rfl⟩
abbrev main_call1_call0_v95 : Ref sig .tc := ⟨.hbm, 392, rfl⟩
abbrev main_call1_call0_c_24 : Ref sig .tc := ⟨.hbm, 393, rfl⟩
abbrev main_call1_call0_v96 : Ref sig .tc := ⟨.hbm, 394, rfl⟩
abbrev main_call1_call0_v97 : Ref sig .tc := ⟨.hbm, 395, rfl⟩
abbrev main_call1_call0_c_25 : Ref sig .tc := ⟨.hbm, 396, rfl⟩
abbrev main_call1_call0_v98 : Ref sig .tc := ⟨.hbm, 397, rfl⟩
abbrev main_call1_call0_v99 : Ref sig .tc := ⟨.hbm, 398, rfl⟩
abbrev main_call1_call0_v100 : Ref sig .tc := ⟨.hbm, 399, rfl⟩
abbrev main_call1_call0_v101 : Ref sig .tc := ⟨.hbm, 400, rfl⟩
abbrev main_call1_call0_v102 : Ref sig .tc := ⟨.hbm, 401, rfl⟩
abbrev main_call1_call0_v103 : Ref sig .tc := ⟨.hbm, 402, rfl⟩
abbrev main_call1_call0_v104 : Ref sig .tc := ⟨.hbm, 403, rfl⟩
abbrev main_call1_call0_v105 : Ref sig .tc := ⟨.hbm, 404, rfl⟩
abbrev main_call1_call0_c_26 : Ref sig .tc := ⟨.hbm, 405, rfl⟩
abbrev main_call1_call0_v106 : Ref sig .tc := ⟨.hbm, 406, rfl⟩
abbrev main_call1_call0_v107 : Ref sig .tc := ⟨.hbm, 407, rfl⟩
abbrev main_call1_call0_v108 : Ref sig .tc := ⟨.hbm, 408, rfl⟩
abbrev main_call1_call0_c_27 : Ref sig .tc := ⟨.hbm, 409, rfl⟩
abbrev main_call1_call0_v109 : Ref sig .tc := ⟨.hbm, 410, rfl⟩
abbrev main_call1_call0_v110 : Ref sig .tc := ⟨.hbm, 411, rfl⟩
abbrev main_call1_call0_c_28 : Ref sig .tc := ⟨.hbm, 412, rfl⟩
abbrev main_call1_call0_v111 : Ref sig .tc := ⟨.hbm, 413, rfl⟩
abbrev main_call1_call0_v112 : Ref sig .tc := ⟨.hbm, 414, rfl⟩
abbrev main_call1_call0_v113 : Ref sig .tc := ⟨.hbm, 415, rfl⟩
abbrev main_call1_call0_v114 : Ref sig .tc := ⟨.hbm, 416, rfl⟩
abbrev main_call1_call0_v115 : Ref sig .tc := ⟨.hbm, 417, rfl⟩
abbrev main_call1_call0_c_29 : Ref sig .tc := ⟨.hbm, 418, rfl⟩
abbrev main_call1_call0_v116 : Ref sig .tc := ⟨.hbm, 419, rfl⟩
abbrev main_call1_call0_v117 : Ref sig .tc := ⟨.hbm, 420, rfl⟩
abbrev main_call1_call0_c_30 : Ref sig .tc := ⟨.hbm, 421, rfl⟩
abbrev main_call1_call0_v118 : Ref sig .tc := ⟨.hbm, 422, rfl⟩
abbrev main_call1_call0_v119 : Ref sig .tc := ⟨.hbm, 423, rfl⟩
abbrev main_call1_call0_v120 : Ref sig .tc := ⟨.hbm, 424, rfl⟩
abbrev main_call1_call0_v121 : Ref sig .tc := ⟨.hbm, 425, rfl⟩
abbrev main_call1_call0_v122 : Ref sig .tc := ⟨.hbm, 426, rfl⟩
abbrev main_call1_call0_c_31 : Ref sig .tc := ⟨.hbm, 427, rfl⟩
abbrev main_call1_call0_v123 : Ref sig .tc := ⟨.hbm, 428, rfl⟩
abbrev main_call1_call0_v124 : Ref sig .tc := ⟨.hbm, 429, rfl⟩
abbrev main_call1_call0_c_32 : Ref sig .tc := ⟨.hbm, 430, rfl⟩
abbrev main_call1_call0_v125 : Ref sig .tc := ⟨.hbm, 431, rfl⟩
abbrev main_call1_call0_v126 : Ref sig .tc := ⟨.hbm, 432, rfl⟩
abbrev main_call1_call0_v127 : Ref sig .tc := ⟨.hbm, 433, rfl⟩
abbrev main_call1_call0_v128 : Ref sig .tc := ⟨.hbm, 434, rfl⟩
abbrev main_call1_call0_v129 : Ref sig .tc := ⟨.hbm, 435, rfl⟩
abbrev main_call1_call0_c_33 : Ref sig .tc := ⟨.hbm, 436, rfl⟩
abbrev main_call1_call0_v130 : Ref sig .tc := ⟨.hbm, 437, rfl⟩
abbrev main_call1_call0_v131 : Ref sig .tc := ⟨.hbm, 438, rfl⟩
abbrev main_call1_call0_c_34 : Ref sig .tc := ⟨.hbm, 439, rfl⟩
abbrev main_call1_call0_v132 : Ref sig .tc := ⟨.hbm, 440, rfl⟩
abbrev main_call1_call0_v133 : Ref sig .tc := ⟨.hbm, 441, rfl⟩
abbrev main_call1_call0_v134 : Ref sig .tc := ⟨.hbm, 442, rfl⟩
abbrev main_call1_call0_v135 : Ref sig .tc := ⟨.hbm, 443, rfl⟩
abbrev main_call1_call0_v136 : Ref sig .tc := ⟨.hbm, 444, rfl⟩
abbrev main_call1_call0_v137 : Ref sig .tc := ⟨.hbm, 445, rfl⟩
abbrev main_call1_call0_v138 : Ref sig .tc := ⟨.hbm, 446, rfl⟩
abbrev main_call1_call0_v139 : Ref sig .tc := ⟨.hbm, 447, rfl⟩
abbrev main_call1_call0_c_35 : Ref sig .tc := ⟨.hbm, 448, rfl⟩
abbrev main_call1_call0_v140 : Ref sig .tc := ⟨.hbm, 449, rfl⟩
abbrev main_call1_call0_v141 : Ref sig .tc := ⟨.hbm, 450, rfl⟩
abbrev main_call1_call0_v142 : Ref sig .tc := ⟨.hbm, 451, rfl⟩
abbrev main_call1_call0_c_36 : Ref sig .tc := ⟨.hbm, 452, rfl⟩
abbrev main_call1_call0_v143 : Ref sig .tc := ⟨.hbm, 453, rfl⟩
abbrev main_call1_call0_v144 : Ref sig .tc := ⟨.hbm, 454, rfl⟩
abbrev main_call1_call0_c_37 : Ref sig .tc := ⟨.hbm, 455, rfl⟩
abbrev main_call1_call0_v145 : Ref sig .tc := ⟨.hbm, 456, rfl⟩
abbrev main_call1_call0_v146 : Ref sig .tc := ⟨.hbm, 457, rfl⟩
abbrev main_call1_call0_v147 : Ref sig .tc := ⟨.hbm, 458, rfl⟩
abbrev main_call1_call0_v148 : Ref sig .tc := ⟨.hbm, 459, rfl⟩
abbrev main_call1_call0_v149 : Ref sig .tc := ⟨.hbm, 460, rfl⟩
abbrev main_call1_call0_c_38 : Ref sig .tc := ⟨.hbm, 461, rfl⟩
abbrev main_call1_call0_v150 : Ref sig .tc := ⟨.hbm, 462, rfl⟩
abbrev main_call1_call0_v151 : Ref sig .tc := ⟨.hbm, 463, rfl⟩
abbrev main_call1_call0_c_39 : Ref sig .tc := ⟨.hbm, 464, rfl⟩
abbrev main_call1_call0_v152 : Ref sig .tc := ⟨.hbm, 465, rfl⟩
abbrev main_call1_call0_v153 : Ref sig .tc := ⟨.hbm, 466, rfl⟩
abbrev main_call1_call0_v154 : Ref sig .tc := ⟨.hbm, 467, rfl⟩
abbrev main_call1_call0_v155 : Ref sig .tc := ⟨.hbm, 468, rfl⟩
abbrev main_call1_call0_v156 : Ref sig .tc := ⟨.hbm, 469, rfl⟩
abbrev main_call1_call0_c_40 : Ref sig .tc := ⟨.hbm, 470, rfl⟩
abbrev main_call1_call0_v157 : Ref sig .tc := ⟨.hbm, 471, rfl⟩
abbrev main_call1_call0_v158 : Ref sig .tc := ⟨.hbm, 472, rfl⟩
abbrev main_call1_call0_c_41 : Ref sig .tc := ⟨.hbm, 473, rfl⟩
abbrev main_call1_call0_v159 : Ref sig .tc := ⟨.hbm, 474, rfl⟩
abbrev main_call1_call0_v160 : Ref sig .tc := ⟨.hbm, 475, rfl⟩
abbrev main_call1_call0_v161 : Ref sig .tc := ⟨.hbm, 476, rfl⟩
abbrev main_call1_call0_v162 : Ref sig .tc := ⟨.hbm, 477, rfl⟩
abbrev main_call1_call0_v163 : Ref sig .tc := ⟨.hbm, 478, rfl⟩
abbrev main_call1_call0_c_42 : Ref sig .tc := ⟨.hbm, 479, rfl⟩
abbrev main_call1_call0_v164 : Ref sig .tc := ⟨.hbm, 480, rfl⟩
abbrev main_call1_call0_v165 : Ref sig .tc := ⟨.hbm, 481, rfl⟩
abbrev main_call1_call0_c_43 : Ref sig .tc := ⟨.hbm, 482, rfl⟩
abbrev main_call1_call0_v166 : Ref sig .tc := ⟨.hbm, 483, rfl⟩
abbrev main_call1_call0_v167 : Ref sig .tc := ⟨.hbm, 484, rfl⟩
abbrev main_call1_call0_v168 : Ref sig .tc := ⟨.hbm, 485, rfl⟩
abbrev main_call1_call0_v169 : Ref sig .tc := ⟨.hbm, 486, rfl⟩
abbrev main_call1_call0_v170 : Ref sig .tc := ⟨.hbm, 487, rfl⟩
abbrev main_call1_v15_0 : Ref sig .tc := ⟨.hbm, 488, rfl⟩
abbrev main_call1_call0_v172 : Ref sig .tc := ⟨.hbm, 489, rfl⟩
abbrev main_call1_call0_v173 : Ref sig .tc := ⟨.hbm, 490, rfl⟩
abbrev main_call1_call0_c_44 : Ref sig .tc := ⟨.hbm, 491, rfl⟩
abbrev main_call1_call0_v174 : Ref sig .tc := ⟨.hbm, 492, rfl⟩
abbrev main_call1_v15_1 : Ref sig .tc := ⟨.hbm, 493, rfl⟩
abbrev main_call1_v16 : Ref sig .tc := ⟨.hbm, 494, rfl⟩
abbrev main_call1_c_1 : Ref sig .tc := ⟨.hbm, 495, rfl⟩
abbrev main_call1_v17 : Ref sig .tc := ⟨.hbm, 496, rfl⟩
abbrev main_call1_v18 : Ref sig .tc := ⟨.hbm, 497, rfl⟩
abbrev main_call1_c_2 : Ref sig .tc := ⟨.hbm, 498, rfl⟩
abbrev main_call1_v19 : Ref sig .tc := ⟨.hbm, 499, rfl⟩
abbrev main_call1_v20 : Ref sig .tc := ⟨.hbm, 500, rfl⟩
abbrev main_call1_v21 : Ref sig .tc := ⟨.hbm, 501, rfl⟩
abbrev main_call1_cst : Ref sig .tc := ⟨.hbm, 502, rfl⟩
abbrev main_call1_v22 : Ref sig .tc := ⟨.hbm, 503, rfl⟩
abbrev main_call1_v23 : Ref sig .tc := ⟨.hbm, 504, rfl⟩
abbrev main_call1_v24 : Ref sig .tc := ⟨.hbm, 505, rfl⟩
abbrev main_call1_v25 : Ref sig .tc := ⟨.hbm, 506, rfl⟩
abbrev main_call1_v26 : Ref sig .tc := ⟨.hbm, 507, rfl⟩
abbrev main_call1_v27 : Ref sig .tc := ⟨.hbm, 508, rfl⟩
abbrev main_call1_v28 : Ref sig .tc := ⟨.hbm, 509, rfl⟩
abbrev main_call1_v29 : Ref sig .tc := ⟨.hbm, 510, rfl⟩
abbrev main_v12 : Ref sig .tc := ⟨.hbm, 511, rfl⟩
abbrev main_cst_3 : Ref sig .tc := ⟨.hbm, 512, rfl⟩
abbrev main_v13 : Ref sig .tc := ⟨.hbm, 513, rfl⟩
abbrev main_v14 : Ref sig .tc := ⟨.hbm, 514, rfl⟩
abbrev main_cst_4 : Ref sig .tc := ⟨.hbm, 515, rfl⟩
abbrev main_cst_5 : Ref sig .tc := ⟨.hbm, 516, rfl⟩
abbrev main_call2_v0 : Ref sig .tc := ⟨.hbm, 517, rfl⟩
abbrev main_call2_v1 : Ref sig .tc := ⟨.hbm, 518, rfl⟩
abbrev main_call2_v2 : Ref sig .tc := ⟨.hbm, 519, rfl⟩
abbrev main_call2_v3 : Ref sig .tc := ⟨.hbm, 520, rfl⟩
abbrev main_call2_v4 : Ref sig .tc := ⟨.hbm, 521, rfl⟩
abbrev main_call2_v5 : Ref sig .tc := ⟨.hbm, 522, rfl⟩
abbrev main_call2_v6 : Ref sig .tc := ⟨.hbm, 523, rfl⟩
abbrev main_call2_v7 : Ref sig .tc := ⟨.hbm, 524, rfl⟩
abbrev main_call2_v8 : Ref sig .tc := ⟨.hbm, 525, rfl⟩
abbrev main_call2_c : Ref sig .tc := ⟨.hbm, 526, rfl⟩
abbrev main_call2_v9 : Ref sig .tc := ⟨.hbm, 527, rfl⟩
abbrev main_call2_v10 : Ref sig .tc := ⟨.hbm, 528, rfl⟩
abbrev main_call2_c_0 : Ref sig .tc := ⟨.hbm, 529, rfl⟩
abbrev main_call2_v11 : Ref sig .tc := ⟨.hbm, 530, rfl⟩
abbrev main_call2_v12 : Ref sig .tc := ⟨.hbm, 531, rfl⟩
abbrev main_call2_v13 : Ref sig .tc := ⟨.hbm, 532, rfl⟩
abbrev main_call2_v14 : Ref sig .tc := ⟨.hbm, 533, rfl⟩
abbrev main_call2_call0_v0 : Ref sig .tc := ⟨.hbm, 534, rfl⟩
abbrev main_call2_call0_c : Ref sig .tc := ⟨.hbm, 535, rfl⟩
abbrev main_call2_call0_v1 : Ref sig .tc := ⟨.hbm, 536, rfl⟩
abbrev main_call2_call0_v2 : Ref sig .tc := ⟨.hbm, 537, rfl⟩
abbrev main_call2_call0_v3 : Ref sig .tc := ⟨.hbm, 538, rfl⟩
abbrev main_call2_call0_v4 : Ref sig .tc := ⟨.hbm, 539, rfl⟩
abbrev main_call2_call0_v5 : Ref sig .tc := ⟨.hbm, 540, rfl⟩
abbrev main_call2_call0_v6 : Ref sig .tc := ⟨.hbm, 541, rfl⟩
abbrev main_call2_call0_c_0 : Ref sig .tc := ⟨.hbm, 542, rfl⟩
abbrev main_call2_call0_v7 : Ref sig .tc := ⟨.hbm, 543, rfl⟩
abbrev main_call2_call0_v8 : Ref sig .tc := ⟨.hbm, 544, rfl⟩
abbrev main_call2_call0_c_1 : Ref sig .tc := ⟨.hbm, 545, rfl⟩
abbrev main_call2_call0_v9 : Ref sig .tc := ⟨.hbm, 546, rfl⟩
abbrev main_call2_call0_v10 : Ref sig .tc := ⟨.hbm, 547, rfl⟩
abbrev main_call2_call0_v11 : Ref sig .tc := ⟨.hbm, 548, rfl⟩
abbrev main_call2_call0_v12 : Ref sig .tc := ⟨.hbm, 549, rfl⟩
abbrev main_call2_call0_v13 : Ref sig .tc := ⟨.hbm, 550, rfl⟩
abbrev main_call2_call0_c_2 : Ref sig .tc := ⟨.hbm, 551, rfl⟩
abbrev main_call2_call0_v14 : Ref sig .tc := ⟨.hbm, 552, rfl⟩
abbrev main_call2_call0_v15 : Ref sig .tc := ⟨.hbm, 553, rfl⟩
abbrev main_call2_call0_c_3 : Ref sig .tc := ⟨.hbm, 554, rfl⟩
abbrev main_call2_call0_v16 : Ref sig .tc := ⟨.hbm, 555, rfl⟩
abbrev main_call2_call0_v17 : Ref sig .tc := ⟨.hbm, 556, rfl⟩
abbrev main_call2_call0_v18 : Ref sig .tc := ⟨.hbm, 557, rfl⟩
abbrev main_call2_call0_v19 : Ref sig .tc := ⟨.hbm, 558, rfl⟩
abbrev main_call2_call0_v20 : Ref sig .tc := ⟨.hbm, 559, rfl⟩
abbrev main_call2_call0_c_4 : Ref sig .tc := ⟨.hbm, 560, rfl⟩
abbrev main_call2_call0_v21 : Ref sig .tc := ⟨.hbm, 561, rfl⟩
abbrev main_call2_call0_v22 : Ref sig .tc := ⟨.hbm, 562, rfl⟩
abbrev main_call2_call0_c_5 : Ref sig .tc := ⟨.hbm, 563, rfl⟩
abbrev main_call2_call0_v23 : Ref sig .tc := ⟨.hbm, 564, rfl⟩
abbrev main_call2_call0_v24 : Ref sig .tc := ⟨.hbm, 565, rfl⟩
abbrev main_call2_call0_v25 : Ref sig .tc := ⟨.hbm, 566, rfl⟩
abbrev main_call2_call0_v26 : Ref sig .tc := ⟨.hbm, 567, rfl⟩
abbrev main_call2_call0_v27 : Ref sig .tc := ⟨.hbm, 568, rfl⟩
abbrev main_call2_call0_c_6 : Ref sig .tc := ⟨.hbm, 569, rfl⟩
abbrev main_call2_call0_v28 : Ref sig .tc := ⟨.hbm, 570, rfl⟩
abbrev main_call2_call0_v29 : Ref sig .tc := ⟨.hbm, 571, rfl⟩
abbrev main_call2_call0_c_7 : Ref sig .tc := ⟨.hbm, 572, rfl⟩
abbrev main_call2_call0_v30 : Ref sig .tc := ⟨.hbm, 573, rfl⟩
abbrev main_call2_call0_v31 : Ref sig .tc := ⟨.hbm, 574, rfl⟩
abbrev main_call2_call0_v32 : Ref sig .tc := ⟨.hbm, 575, rfl⟩
abbrev main_call2_call0_v33 : Ref sig .tc := ⟨.hbm, 576, rfl⟩
abbrev main_call2_call0_v34 : Ref sig .tc := ⟨.hbm, 577, rfl⟩
abbrev main_call2_call0_v35 : Ref sig .tc := ⟨.hbm, 578, rfl⟩
abbrev main_call2_call0_v36 : Ref sig .tc := ⟨.hbm, 579, rfl⟩
abbrev main_call2_call0_v37 : Ref sig .tc := ⟨.hbm, 580, rfl⟩
abbrev main_call2_call0_c_8 : Ref sig .tc := ⟨.hbm, 581, rfl⟩
abbrev main_call2_call0_v38 : Ref sig .tc := ⟨.hbm, 582, rfl⟩
abbrev main_call2_call0_v39 : Ref sig .tc := ⟨.hbm, 583, rfl⟩
abbrev main_call2_call0_v40 : Ref sig .tc := ⟨.hbm, 584, rfl⟩
abbrev main_call2_call0_c_9 : Ref sig .tc := ⟨.hbm, 585, rfl⟩
abbrev main_call2_call0_v41 : Ref sig .tc := ⟨.hbm, 586, rfl⟩
abbrev main_call2_call0_v42 : Ref sig .tc := ⟨.hbm, 587, rfl⟩
abbrev main_call2_call0_c_10 : Ref sig .tc := ⟨.hbm, 588, rfl⟩
abbrev main_call2_call0_v43 : Ref sig .tc := ⟨.hbm, 589, rfl⟩
abbrev main_call2_call0_v44 : Ref sig .tc := ⟨.hbm, 590, rfl⟩
abbrev main_call2_call0_v45 : Ref sig .tc := ⟨.hbm, 591, rfl⟩
abbrev main_call2_call0_v46 : Ref sig .tc := ⟨.hbm, 592, rfl⟩
abbrev main_call2_call0_v47 : Ref sig .tc := ⟨.hbm, 593, rfl⟩
abbrev main_call2_call0_c_11 : Ref sig .tc := ⟨.hbm, 594, rfl⟩
abbrev main_call2_call0_v48 : Ref sig .tc := ⟨.hbm, 595, rfl⟩
abbrev main_call2_call0_v49 : Ref sig .tc := ⟨.hbm, 596, rfl⟩
abbrev main_call2_call0_c_12 : Ref sig .tc := ⟨.hbm, 597, rfl⟩
abbrev main_call2_call0_v50 : Ref sig .tc := ⟨.hbm, 598, rfl⟩
abbrev main_call2_call0_v51 : Ref sig .tc := ⟨.hbm, 599, rfl⟩
abbrev main_call2_call0_v52 : Ref sig .tc := ⟨.hbm, 600, rfl⟩
abbrev main_call2_call0_v53 : Ref sig .tc := ⟨.hbm, 601, rfl⟩
abbrev main_call2_call0_v54 : Ref sig .tc := ⟨.hbm, 602, rfl⟩
abbrev main_call2_call0_c_13 : Ref sig .tc := ⟨.hbm, 603, rfl⟩
abbrev main_call2_call0_v55 : Ref sig .tc := ⟨.hbm, 604, rfl⟩
abbrev main_call2_call0_v56 : Ref sig .tc := ⟨.hbm, 605, rfl⟩
abbrev main_call2_call0_c_14 : Ref sig .tc := ⟨.hbm, 606, rfl⟩
abbrev main_call2_call0_v57 : Ref sig .tc := ⟨.hbm, 607, rfl⟩
abbrev main_call2_call0_v58 : Ref sig .tc := ⟨.hbm, 608, rfl⟩
abbrev main_call2_call0_v59 : Ref sig .tc := ⟨.hbm, 609, rfl⟩
abbrev main_call2_call0_v60 : Ref sig .tc := ⟨.hbm, 610, rfl⟩
abbrev main_call2_call0_v61 : Ref sig .tc := ⟨.hbm, 611, rfl⟩
abbrev main_call2_call0_c_15 : Ref sig .tc := ⟨.hbm, 612, rfl⟩
abbrev main_call2_call0_v62 : Ref sig .tc := ⟨.hbm, 613, rfl⟩
abbrev main_call2_call0_v63 : Ref sig .tc := ⟨.hbm, 614, rfl⟩
abbrev main_call2_call0_c_16 : Ref sig .tc := ⟨.hbm, 615, rfl⟩
abbrev main_call2_call0_v64 : Ref sig .tc := ⟨.hbm, 616, rfl⟩
abbrev main_call2_call0_v65 : Ref sig .tc := ⟨.hbm, 617, rfl⟩
abbrev main_call2_call0_v66 : Ref sig .tc := ⟨.hbm, 618, rfl⟩
abbrev main_call2_call0_v67 : Ref sig .tc := ⟨.hbm, 619, rfl⟩
abbrev main_call2_call0_v68 : Ref sig .tc := ⟨.hbm, 620, rfl⟩
abbrev main_call2_call0_v69 : Ref sig .tc := ⟨.hbm, 621, rfl⟩
abbrev main_call2_call0_v70 : Ref sig .tc := ⟨.hbm, 622, rfl⟩
abbrev main_call2_call0_v71 : Ref sig .tc := ⟨.hbm, 623, rfl⟩
abbrev main_call2_call0_c_17 : Ref sig .tc := ⟨.hbm, 624, rfl⟩
abbrev main_call2_call0_v72 : Ref sig .tc := ⟨.hbm, 625, rfl⟩
abbrev main_call2_call0_v73 : Ref sig .tc := ⟨.hbm, 626, rfl⟩
abbrev main_call2_call0_v74 : Ref sig .tc := ⟨.hbm, 627, rfl⟩
abbrev main_call2_call0_c_18 : Ref sig .tc := ⟨.hbm, 628, rfl⟩
abbrev main_call2_call0_v75 : Ref sig .tc := ⟨.hbm, 629, rfl⟩
abbrev main_call2_call0_v76 : Ref sig .tc := ⟨.hbm, 630, rfl⟩
abbrev main_call2_call0_c_19 : Ref sig .tc := ⟨.hbm, 631, rfl⟩
abbrev main_call2_call0_v77 : Ref sig .tc := ⟨.hbm, 632, rfl⟩
abbrev main_call2_call0_v78 : Ref sig .tc := ⟨.hbm, 633, rfl⟩
abbrev main_call2_call0_v79 : Ref sig .tc := ⟨.hbm, 634, rfl⟩
abbrev main_call2_call0_v80 : Ref sig .tc := ⟨.hbm, 635, rfl⟩
abbrev main_call2_call0_v81 : Ref sig .tc := ⟨.hbm, 636, rfl⟩
abbrev main_call2_call0_c_20 : Ref sig .tc := ⟨.hbm, 637, rfl⟩
abbrev main_call2_call0_v82 : Ref sig .tc := ⟨.hbm, 638, rfl⟩
abbrev main_call2_call0_v83 : Ref sig .tc := ⟨.hbm, 639, rfl⟩
abbrev main_call2_call0_c_21 : Ref sig .tc := ⟨.hbm, 640, rfl⟩
abbrev main_call2_call0_v84 : Ref sig .tc := ⟨.hbm, 641, rfl⟩
abbrev main_call2_call0_v85 : Ref sig .tc := ⟨.hbm, 642, rfl⟩
abbrev main_call2_call0_v86 : Ref sig .tc := ⟨.hbm, 643, rfl⟩
abbrev main_call2_call0_v87 : Ref sig .tc := ⟨.hbm, 644, rfl⟩
abbrev main_call2_call0_v88 : Ref sig .tc := ⟨.hbm, 645, rfl⟩
abbrev main_call2_call0_c_22 : Ref sig .tc := ⟨.hbm, 646, rfl⟩
abbrev main_call2_call0_v89 : Ref sig .tc := ⟨.hbm, 647, rfl⟩
abbrev main_call2_call0_v90 : Ref sig .tc := ⟨.hbm, 648, rfl⟩
abbrev main_call2_call0_c_23 : Ref sig .tc := ⟨.hbm, 649, rfl⟩
abbrev main_call2_call0_v91 : Ref sig .tc := ⟨.hbm, 650, rfl⟩
abbrev main_call2_call0_v92 : Ref sig .tc := ⟨.hbm, 651, rfl⟩
abbrev main_call2_call0_v93 : Ref sig .tc := ⟨.hbm, 652, rfl⟩
abbrev main_call2_call0_v94 : Ref sig .tc := ⟨.hbm, 653, rfl⟩
abbrev main_call2_call0_v95 : Ref sig .tc := ⟨.hbm, 654, rfl⟩
abbrev main_call2_call0_c_24 : Ref sig .tc := ⟨.hbm, 655, rfl⟩
abbrev main_call2_call0_v96 : Ref sig .tc := ⟨.hbm, 656, rfl⟩
abbrev main_call2_call0_v97 : Ref sig .tc := ⟨.hbm, 657, rfl⟩
abbrev main_call2_call0_c_25 : Ref sig .tc := ⟨.hbm, 658, rfl⟩
abbrev main_call2_call0_v98 : Ref sig .tc := ⟨.hbm, 659, rfl⟩
abbrev main_call2_call0_v99 : Ref sig .tc := ⟨.hbm, 660, rfl⟩
abbrev main_call2_call0_v100 : Ref sig .tc := ⟨.hbm, 661, rfl⟩
abbrev main_call2_call0_v101 : Ref sig .tc := ⟨.hbm, 662, rfl⟩
abbrev main_call2_call0_v102 : Ref sig .tc := ⟨.hbm, 663, rfl⟩
abbrev main_call2_call0_v103 : Ref sig .tc := ⟨.hbm, 664, rfl⟩
abbrev main_call2_call0_v104 : Ref sig .tc := ⟨.hbm, 665, rfl⟩
abbrev main_call2_call0_v105 : Ref sig .tc := ⟨.hbm, 666, rfl⟩
abbrev main_call2_call0_c_26 : Ref sig .tc := ⟨.hbm, 667, rfl⟩
abbrev main_call2_call0_v106 : Ref sig .tc := ⟨.hbm, 668, rfl⟩
abbrev main_call2_call0_v107 : Ref sig .tc := ⟨.hbm, 669, rfl⟩
abbrev main_call2_call0_v108 : Ref sig .tc := ⟨.hbm, 670, rfl⟩
abbrev main_call2_call0_c_27 : Ref sig .tc := ⟨.hbm, 671, rfl⟩
abbrev main_call2_call0_v109 : Ref sig .tc := ⟨.hbm, 672, rfl⟩
abbrev main_call2_call0_v110 : Ref sig .tc := ⟨.hbm, 673, rfl⟩
abbrev main_call2_call0_c_28 : Ref sig .tc := ⟨.hbm, 674, rfl⟩
abbrev main_call2_call0_v111 : Ref sig .tc := ⟨.hbm, 675, rfl⟩
abbrev main_call2_call0_v112 : Ref sig .tc := ⟨.hbm, 676, rfl⟩
abbrev main_call2_call0_v113 : Ref sig .tc := ⟨.hbm, 677, rfl⟩
abbrev main_call2_call0_v114 : Ref sig .tc := ⟨.hbm, 678, rfl⟩
abbrev main_call2_call0_v115 : Ref sig .tc := ⟨.hbm, 679, rfl⟩
abbrev main_call2_call0_c_29 : Ref sig .tc := ⟨.hbm, 680, rfl⟩
abbrev main_call2_call0_v116 : Ref sig .tc := ⟨.hbm, 681, rfl⟩
abbrev main_call2_call0_v117 : Ref sig .tc := ⟨.hbm, 682, rfl⟩
abbrev main_call2_call0_c_30 : Ref sig .tc := ⟨.hbm, 683, rfl⟩
abbrev main_call2_call0_v118 : Ref sig .tc := ⟨.hbm, 684, rfl⟩
abbrev main_call2_call0_v119 : Ref sig .tc := ⟨.hbm, 685, rfl⟩
abbrev main_call2_call0_v120 : Ref sig .tc := ⟨.hbm, 686, rfl⟩
abbrev main_call2_call0_v121 : Ref sig .tc := ⟨.hbm, 687, rfl⟩
abbrev main_call2_call0_v122 : Ref sig .tc := ⟨.hbm, 688, rfl⟩
abbrev main_call2_call0_c_31 : Ref sig .tc := ⟨.hbm, 689, rfl⟩
abbrev main_call2_call0_v123 : Ref sig .tc := ⟨.hbm, 690, rfl⟩
abbrev main_call2_call0_v124 : Ref sig .tc := ⟨.hbm, 691, rfl⟩
abbrev main_call2_call0_c_32 : Ref sig .tc := ⟨.hbm, 692, rfl⟩
abbrev main_call2_call0_v125 : Ref sig .tc := ⟨.hbm, 693, rfl⟩
abbrev main_call2_call0_v126 : Ref sig .tc := ⟨.hbm, 694, rfl⟩
abbrev main_call2_call0_v127 : Ref sig .tc := ⟨.hbm, 695, rfl⟩
abbrev main_call2_call0_v128 : Ref sig .tc := ⟨.hbm, 696, rfl⟩
abbrev main_call2_call0_v129 : Ref sig .tc := ⟨.hbm, 697, rfl⟩
abbrev main_call2_call0_c_33 : Ref sig .tc := ⟨.hbm, 698, rfl⟩
abbrev main_call2_call0_v130 : Ref sig .tc := ⟨.hbm, 699, rfl⟩
abbrev main_call2_call0_v131 : Ref sig .tc := ⟨.hbm, 700, rfl⟩
abbrev main_call2_call0_c_34 : Ref sig .tc := ⟨.hbm, 701, rfl⟩
abbrev main_call2_call0_v132 : Ref sig .tc := ⟨.hbm, 702, rfl⟩
abbrev main_call2_call0_v133 : Ref sig .tc := ⟨.hbm, 703, rfl⟩
abbrev main_call2_call0_v134 : Ref sig .tc := ⟨.hbm, 704, rfl⟩
abbrev main_call2_call0_v135 : Ref sig .tc := ⟨.hbm, 705, rfl⟩
abbrev main_call2_call0_v136 : Ref sig .tc := ⟨.hbm, 706, rfl⟩
abbrev main_call2_call0_v137 : Ref sig .tc := ⟨.hbm, 707, rfl⟩
abbrev main_call2_call0_v138 : Ref sig .tc := ⟨.hbm, 708, rfl⟩
abbrev main_call2_call0_v139 : Ref sig .tc := ⟨.hbm, 709, rfl⟩
abbrev main_call2_call0_c_35 : Ref sig .tc := ⟨.hbm, 710, rfl⟩
abbrev main_call2_call0_v140 : Ref sig .tc := ⟨.hbm, 711, rfl⟩
abbrev main_call2_call0_v141 : Ref sig .tc := ⟨.hbm, 712, rfl⟩
abbrev main_call2_call0_v142 : Ref sig .tc := ⟨.hbm, 713, rfl⟩
abbrev main_call2_call0_c_36 : Ref sig .tc := ⟨.hbm, 714, rfl⟩
abbrev main_call2_call0_v143 : Ref sig .tc := ⟨.hbm, 715, rfl⟩
abbrev main_call2_call0_v144 : Ref sig .tc := ⟨.hbm, 716, rfl⟩
abbrev main_call2_call0_c_37 : Ref sig .tc := ⟨.hbm, 717, rfl⟩
abbrev main_call2_call0_v145 : Ref sig .tc := ⟨.hbm, 718, rfl⟩
abbrev main_call2_call0_v146 : Ref sig .tc := ⟨.hbm, 719, rfl⟩
abbrev main_call2_call0_v147 : Ref sig .tc := ⟨.hbm, 720, rfl⟩
abbrev main_call2_call0_v148 : Ref sig .tc := ⟨.hbm, 721, rfl⟩
abbrev main_call2_call0_v149 : Ref sig .tc := ⟨.hbm, 722, rfl⟩
abbrev main_call2_call0_c_38 : Ref sig .tc := ⟨.hbm, 723, rfl⟩
abbrev main_call2_call0_v150 : Ref sig .tc := ⟨.hbm, 724, rfl⟩
abbrev main_call2_call0_v151 : Ref sig .tc := ⟨.hbm, 725, rfl⟩
abbrev main_call2_call0_c_39 : Ref sig .tc := ⟨.hbm, 726, rfl⟩
abbrev main_call2_call0_v152 : Ref sig .tc := ⟨.hbm, 727, rfl⟩
abbrev main_call2_call0_v153 : Ref sig .tc := ⟨.hbm, 728, rfl⟩
abbrev main_call2_call0_v154 : Ref sig .tc := ⟨.hbm, 729, rfl⟩
abbrev main_call2_call0_v155 : Ref sig .tc := ⟨.hbm, 730, rfl⟩
abbrev main_call2_call0_v156 : Ref sig .tc := ⟨.hbm, 731, rfl⟩
abbrev main_call2_call0_c_40 : Ref sig .tc := ⟨.hbm, 732, rfl⟩
abbrev main_call2_call0_v157 : Ref sig .tc := ⟨.hbm, 733, rfl⟩
abbrev main_call2_call0_v158 : Ref sig .tc := ⟨.hbm, 734, rfl⟩
abbrev main_call2_call0_c_41 : Ref sig .tc := ⟨.hbm, 735, rfl⟩
abbrev main_call2_call0_v159 : Ref sig .tc := ⟨.hbm, 736, rfl⟩
abbrev main_call2_call0_v160 : Ref sig .tc := ⟨.hbm, 737, rfl⟩
abbrev main_call2_call0_v161 : Ref sig .tc := ⟨.hbm, 738, rfl⟩
abbrev main_call2_call0_v162 : Ref sig .tc := ⟨.hbm, 739, rfl⟩
abbrev main_call2_call0_v163 : Ref sig .tc := ⟨.hbm, 740, rfl⟩
abbrev main_call2_call0_c_42 : Ref sig .tc := ⟨.hbm, 741, rfl⟩
abbrev main_call2_call0_v164 : Ref sig .tc := ⟨.hbm, 742, rfl⟩
abbrev main_call2_call0_v165 : Ref sig .tc := ⟨.hbm, 743, rfl⟩
abbrev main_call2_call0_c_43 : Ref sig .tc := ⟨.hbm, 744, rfl⟩
abbrev main_call2_call0_v166 : Ref sig .tc := ⟨.hbm, 745, rfl⟩
abbrev main_call2_call0_v167 : Ref sig .tc := ⟨.hbm, 746, rfl⟩
abbrev main_call2_call0_v168 : Ref sig .tc := ⟨.hbm, 747, rfl⟩
abbrev main_call2_call0_v169 : Ref sig .tc := ⟨.hbm, 748, rfl⟩
abbrev main_call2_call0_v170 : Ref sig .tc := ⟨.hbm, 749, rfl⟩
abbrev main_call2_v15_0 : Ref sig .tc := ⟨.hbm, 750, rfl⟩
abbrev main_call2_call0_v172 : Ref sig .tc := ⟨.hbm, 751, rfl⟩
abbrev main_call2_call0_v173 : Ref sig .tc := ⟨.hbm, 752, rfl⟩
abbrev main_call2_call0_c_44 : Ref sig .tc := ⟨.hbm, 753, rfl⟩
abbrev main_call2_call0_v174 : Ref sig .tc := ⟨.hbm, 754, rfl⟩
abbrev main_call2_v15_1 : Ref sig .tc := ⟨.hbm, 755, rfl⟩
abbrev main_call2_v16 : Ref sig .tc := ⟨.hbm, 756, rfl⟩
abbrev main_call2_c_1 : Ref sig .tc := ⟨.hbm, 757, rfl⟩
abbrev main_call2_v17 : Ref sig .tc := ⟨.hbm, 758, rfl⟩
abbrev main_call2_v18 : Ref sig .tc := ⟨.hbm, 759, rfl⟩
abbrev main_call2_c_2 : Ref sig .tc := ⟨.hbm, 760, rfl⟩
abbrev main_call2_v19 : Ref sig .tc := ⟨.hbm, 761, rfl⟩
abbrev main_call2_v20 : Ref sig .tc := ⟨.hbm, 762, rfl⟩
abbrev main_call2_v21 : Ref sig .tc := ⟨.hbm, 763, rfl⟩
abbrev main_call2_cst : Ref sig .tc := ⟨.hbm, 764, rfl⟩
abbrev main_call2_v22 : Ref sig .tc := ⟨.hbm, 765, rfl⟩
abbrev main_call2_v23 : Ref sig .tc := ⟨.hbm, 766, rfl⟩
abbrev main_call2_v24 : Ref sig .tc := ⟨.hbm, 767, rfl⟩
abbrev main_call2_v25 : Ref sig .tc := ⟨.hbm, 768, rfl⟩
abbrev main_call2_v26 : Ref sig .tc := ⟨.hbm, 769, rfl⟩
abbrev main_call2_v27 : Ref sig .tc := ⟨.hbm, 770, rfl⟩
abbrev main_call2_v28 : Ref sig .tc := ⟨.hbm, 771, rfl⟩
abbrev main_call2_v29 : Ref sig .tc := ⟨.hbm, 772, rfl⟩
abbrev main_v15 : Ref sig .tc := ⟨.hbm, 773, rfl⟩
abbrev main_cst_6 : Ref sig .tc := ⟨.hbm, 774, rfl⟩
abbrev main_v16 : Ref sig .tc := ⟨.hbm, 775, rfl⟩
abbrev main_v17 : Ref sig .tc := ⟨.hbm, 776, rfl⟩
abbrev main_c_7 : Ref sig .tc := ⟨.hbm, 777, rfl⟩
abbrev main_c_8 : Ref sig .tc := ⟨.hbm, 778, rfl⟩
abbrev main_call3_v0 : Ref sig .tc := ⟨.hbm, 779, rfl⟩
abbrev main_call3_v1 : Ref sig .tc := ⟨.hbm, 780, rfl⟩
abbrev main_v18 : Ref sig .tc := ⟨.hbm, 781, rfl⟩
abbrev main_v19 : Ref sig .tc := ⟨.hbm, 782, rfl⟩
abbrev main_c_9 : Ref sig .tc := ⟨.hbm, 783, rfl⟩
abbrev main_v20 : Ref sig .tc := ⟨.hbm, 784, rfl⟩
abbrev main_v21 : Ref sig .tc := ⟨.hbm, 785, rfl⟩
abbrev main_c_10 : Ref sig .tc := ⟨.hbm, 786, rfl⟩
abbrev main_v22 : Ref sig .tc := ⟨.hbm, 787, rfl⟩
abbrev main_v23 : Ref sig .tc := ⟨.hbm, 788, rfl⟩
abbrev main_c_11 : Ref sig .tc := ⟨.hbm, 789, rfl⟩
abbrev main_call4_v0 : Ref sig .tc := ⟨.hbm, 790, rfl⟩
abbrev main_v24 : Ref sig .tc := ⟨.hbm, 791, rfl⟩
abbrev main_c_12 : Ref sig .tc := ⟨.hbm, 792, rfl⟩
abbrev main_call5_v0 : Ref sig .tc := ⟨.hbm, 793, rfl⟩
abbrev main_v25 : Ref sig .tc := ⟨.hbm, 794, rfl⟩
abbrev main_v26 : Ref sig .tc := ⟨.hbm, 795, rfl⟩
abbrev main_v27 : Ref sig .tc := ⟨.hbm, 796, rfl⟩
abbrev main_v28 : Ref sig .tc := ⟨.hbm, 797, rfl⟩
abbrev main_call7_c : Ref sig .tc := ⟨.hbm, 798, rfl⟩
abbrev main_call7_v0 : Ref sig .tc := ⟨.hbm, 799, rfl⟩
abbrev main_call7_v1 : Ref sig .tc := ⟨.hbm, 800, rfl⟩
abbrev main_call7_c_0 : Ref sig .tc := ⟨.hbm, 801, rfl⟩
abbrev main_call7_v2 : Ref sig .tc := ⟨.hbm, 802, rfl⟩
abbrev main_call7_v3 : Ref sig .tc := ⟨.hbm, 803, rfl⟩
abbrev main_call7_v4 : Ref sig .tc := ⟨.hbm, 804, rfl⟩
abbrev main_call7_v5 : Ref sig .tc := ⟨.hbm, 805, rfl⟩
abbrev main_call7_c_1 : Ref sig .tc := ⟨.hbm, 806, rfl⟩
abbrev main_call7_c_2 : Ref sig .tc := ⟨.hbm, 807, rfl⟩
abbrev main_call7_v6 : Ref sig .tc := ⟨.hbm, 808, rfl⟩
abbrev main_call7_v7 : Ref sig .tc := ⟨.hbm, 809, rfl⟩
abbrev main_call7_v8 : Ref sig .tc := ⟨.hbm, 810, rfl⟩
abbrev main_call7_v9 : Ref sig .tc := ⟨.hbm, 811, rfl⟩
abbrev main_call7_v10 : Ref sig .tc := ⟨.hbm, 812, rfl⟩
abbrev main_call7_v11 : Ref sig .tc := ⟨.hbm, 813, rfl⟩
abbrev main_call7_c_3 : Ref sig .tc := ⟨.hbm, 814, rfl⟩
abbrev main_call7_v12 : Ref sig .tc := ⟨.hbm, 815, rfl⟩
abbrev main_call7_v13 : Ref sig .tc := ⟨.hbm, 816, rfl⟩
abbrev main_call7_v14 : Ref sig .tc := ⟨.hbm, 817, rfl⟩
abbrev main_call7_cst : Ref sig .tc := ⟨.hbm, 818, rfl⟩
abbrev main_call7_v15 : Ref sig .tc := ⟨.hbm, 819, rfl⟩
abbrev main_v29 : Ref sig .tc := ⟨.hbm, 820, rfl⟩

abbrev nD : Nat := 1
abbrev τ : Topo := Topo.v7x

variable {F : FTy → Type} [FloatOps F]
-- ==== Proof.Peek.lean ====
/-
  Reading the whole of a scratch buffer while parts of it are still being written by copies in flight.

  A gather reads a scratch buffer of several slots as one array, although copies are landing in the other slots. The
  buffer's ownership is therefore cut in two halves by share. The left half of every element stays in an invariant
  (`Half`); the right half is cut by slots, and each slot's piece travels with whoever uses the slot: the copy that
  fills it, or the loop that reads it. A writer joins the two halves of its elements inside one atomic step
  (`half_writeUpdate`), and a reader takes the left half of everything for one load (`half_load`): what it reads
  of a slot is what the right half of that slot says.
-/
module

public import Idealize.ShloMosaic.Lib.Transfers
public import Idealize.ShloMosaic.Adequacy
public import Idealize.ShloMosaic.Init

@[expose] public section

noncomputable section

namespace Cert.Jitter

open Idealize.ShloMosaic Idealize.SL
open Idealize.SL.BI (sProp Storable)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-- The half of a share that stays in the invariant. -/
abbrev qIn : PosShare TreeShare := fullShare.left
/-- The half of a share that travels with a slot. -/
abbrev qOut : PosShare TreeShare := fullShare.right

/-- The invariant's body: the left half of the whole buffer at some contents, or, once the buffer has been taken back,
    the tokens `Z` that were paid for it. -/
def Half (ℓ : Loc nD τ sig) (Z : sProp 𝕄) : sProp 𝕄 :=
  iprop((∃ f, ℓ ↦[Finset.univ]{qIn} f) ∨ Z)

variable [Preorder Lvl]

/-- The two halves of the elements `S`, the left one part of the whole buffer's, make the full share of `S`; what is left
    is the left half of the other elements. -/
theorem half_join {ℓ : Loc nD τ sig} {S : Finset (Idx ℓ)} {f g : Buf Val ℓ} :
    iprop((ℓ ↦[Finset.univ]{qIn} f) ∗ (ℓ ↦[S]{qOut} g))
      ⊢ (iprop((ℓ ↦[S]{fullShare} g) ∗ (ℓ ↦[Finset.univ \ S]{qIn} f)) : sProp 𝕄) := by
  iintro ⟨Hf, Hg⟩
  icombine Hf Hg gives %hag
  ihave Hf := (pointsTo_split_subset (Finset.subset_univ S)).1 $$ Hf
  icases Hf with ⟨Hf, Hr⟩
  isplitr [Hr]
  · ihave Hf := (Entails.of_eq (pointsTo_congr (ℓ := ℓ) (I := S) (f := f) (g := g) (fun i hi => (hag i (by simpa using hi)).1))) $$ Hf
    iapply (pointsTo_share (PosShare.mem_left_op_right fullShare)).2
    isplitl [Hf] <;> iassumption
  · iexact Hr

/-- The full share of the elements `S` beside the left half of the others gives back the left half of everything and
    the right half of `S`. -/
theorem half_split {ℓ : Loc nD τ sig} {S : Finset (Idx ℓ)} {f g : Buf Val ℓ} :
    iprop((ℓ ↦[S]{fullShare} g) ∗ (ℓ ↦[Finset.univ \ S]{qIn} f))
      ⊢ (iprop((∃ f, ℓ ↦[Finset.univ]{qIn} f) ∗ (ℓ ↦[S]{qOut} g)) : sProp 𝕄) := by
  iintro ⟨Hg, Hr⟩
  ihave Hg := (pointsTo_share (PosShare.mem_left_op_right fullShare)).1 $$ Hg
  icases Hg with ⟨Hl, Hg⟩
  isplitr [Hg]
  · iexists (S.piecewise g f)
    iapply (pointsTo_join_subset (Finset.subset_univ S))
    isplitl [Hl] <;> iassumption
  · iexact Hg

variable {κ : Name} {Z Tk : sProp (MT nD τ sig Ix Val Name U Lvl)}

/-- One store through a view whose elements' right halves are held: the left halves come out of the invariant for it. -/
theorem half_storeSpec (hZ : iprop(Tk ∗ Z) ⊢ (False : sProp 𝕄)) (c : Thread nD τ) {sp : Space} {s : Shape} {e : EltTy}
    {v : View sig c.2.kind sp s e} {w : s.Idx → Val e} {Mk : Finset s.Idx} {S : Finset (Idx (v.loc c))} {g : Buf Val (v.loc c)}
    (hS : v.setOn Mk ⊆ S) :
    (iprop(inv κ (Half (v.loc c) Z) ∗ Tk ∗ (v.loc c ↦[S]{qOut} g)) : sProp 𝕄)
      ⊢ atomically frame Set.univ (storeSpec c v w Mk)
          (fun _ => iprop(Tk ∗ (v.loc c ↦[S]{qOut} (v.write Val g w Mk)))) := by
  iintro ⟨#Hinv, HT, Hg⟩
  imod (inv_acc (Set.mem_univ κ)) $$ Hinv with ⟨HP, Hclose⟩
  imodintro
  rw [storeSpec_apply]
  unfold Half
  icases HP with (⟨%f, Hf⟩ | HZ)
  · ihave H := half_join $$ [Hf Hg]
    · isplitl [Hf] <;> iassumption
    icases H with ⟨HS, Hr⟩
    iexists S, g
    isplitl [HS]; · iexact HS
    isplitr; · ipureintro; exact hS
    iintro HS
    ihave H := half_split $$ [HS Hr]
    · isplitl [HS] <;> iassumption
    icases H with ⟨Hall, Hg⟩
    imod Hclose $$ [Hall] with -
    · ileft; iexact Hall
    imodintro
    isplitl [HT] <;> iassumption
  · ihave H := hZ $$ [HT HZ]
    · isplitl [HT] <;> iassumption
    icases H with %hf
    exact hf.elim

/-- A copy into elements whose right halves are held may be issued: it leaves them at what it wrote. -/
theorem half_writeUpdate (hZ : iprop(Tk ∗ Z) ⊢ (False : sProp 𝕄)) (c : Thread nD τ) {sp : Space} {s : Shape} {e : EltTy}
    {v : View sig c.2.kind sp s e} {w : s.Idx → Val e} {S : Finset (Idx (v.loc c))} {g : Buf Val (v.loc c)} (hS : v.set ⊆ S) :
    (iprop(inv κ (Half (v.loc c) Z) ∗ Tk ∗ (v.loc c ↦[S]{qOut} g)) : sProp 𝕄)
      ⊢ writeUpdate c v w iprop(Tk ∗ (v.loc c ↦[S]{qOut} (v.write Val g w Finset.univ))) := by
  rw [writeUpdate, writeUpdateFrom_def]
  iintro ⟨#Hinv, HT, Hg⟩
  iexists (fun M => iprop(Tk ∗ (v.loc c ↦[S]{qOut} (v.write Val g w M))))
  simp only [View.write_empty]
  isplitl [HT Hg]; · isplitl [HT] <;> iassumption
  isplitr
  · rw [writeSteps_def]
    imodintro
    iintro %M %M' ⟨HT, Hg⟩
    rw [← View.write_write_union]
    iapply (half_storeSpec hZ c (fun i hi => hS (v.setOn_subset_set _ hi)))
    isplitr; · iexact Hinv
    isplitl [HT] <;> iassumption
  · iintro H; iexact H

section Steps

variable {Λ : Labels} {defs : Defs nD τ sig Val Λ}
variable (𝒱 : Variants) (c : Thread nD τ) (bd : Option 𝒱.V)
variable {α : Type} {Q : α → sProp (MT nD τ sig Ix Val Name U Lvl)}

/-- A load of the whole buffer while the right halves of the elements `I` are held at `g`: what it reads agrees with
    `g` on `I`, whatever is landing elsewhere. -/
theorem half_load (hZ : iprop(Tk ∗ Z) ⊢ (False : sProp 𝕄)) {cs : CoreSpace} {s : Shape} {e : EltTy}
    {m : Memref sig c.2.kind cs s e} {r : LoadRect s} {hl : m.view.LoadsAt r}
    {k : (r.shape.Idx → Val e) → Prog (TpuEff nD τ sig Val Λ c.2) α} {I : Finset (Idx (m.view.loc c))} {g : Buf Val (m.view.loc c)} :
    (iprop(inv κ (Half (m.view.loc c) Z) ∗ Tk ∗ (m.view.loc c ↦[I]{qOut} g)) : sProp 𝕄)
      ⊢ iprop((∀ cur, ⌜∀ i ∈ I, cur i = g i⌝ -∗ Tk -∗ (m.view.loc c ↦[I]{qOut} g)
            -∗ wp frame (wpE defs 𝒱 c bd) Set.univ (k (m.view.readAt Val r cur)) Q)
        -∗ wp frame (wpE defs 𝒱 c bd) Set.univ (.op (.load m r hl) k) Q) := by
  iintro ⟨#Hinv, HT, Hg⟩ Hk
  imod (inv_acc (Set.mem_univ κ)) $$ Hinv with ⟨HP, Hclose⟩
  imodintro
  unfold Half
  icases HP with (⟨%f, Hf⟩ | HZ)
  · icombine Hf Hg gives %hag
    iapply (fp_load c (Finset.subset_univ _)) $$ Hf
    iintro Hf
    imod Hclose $$ [Hf] with -
    · ileft; iexists f; iexact Hf
    imodintro
    iapply Hk $$ %f %(fun i hi => (hag i (by simpa using hi)).1) HT Hg
  · ihave H := hZ $$ [HT HZ]
    · isplitl [HT] <;> iassumption
    icases H with %hf
    exact hf.elim

/-- A local copy into elements whose right halves are held, on a counter at zero: the flight delivers the token, the
    elements' right halves at what was copied, and the source's points-to, which may hold more than what is read. -/
theorem wp_dmaHalf [Infinite Name] (EC : UEmb Counters (MT nD τ sig Ix Val Name U Lvl)) [EC.LandsIn (upEmb : UEmb _ 𝕄)]
    (hZ : iprop(Tk ∗ Z) ⊢ (False : sProp 𝕄)) [Storable (upEmb : UEmb _ 𝕄) Tk]
    {sp sp' : Space} {s s₀ : Shape} {e e₀ : EltTy}
    {src : Memref sig c.2.kind sp s₀ e₀} {via : ReadAs Val s₀ e₀ s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {Ss : Finset (Idx (src.view.loc c))}
    {fs : Buf Val (src.view.loc c)} {Sd : Finset (Idx (dst.view.loc c))} {g : Buf Val (dst.view.loc c)}
    (ι : Ix) (N : ℕ) (hN : dst.view.amount sm = N) (hN0 : 0 < N) (hSs : src.view.set ⊆ Ss) (hSd : dst.view.set ⊆ Sd) :
    (iprop(inv κ (Half (dst.view.loc c) Z) ∗ (src.view.loc c ↦[Ss]{q} fs) ∗ Tk ∗ (dst.view.loc c ↦[Sd]{qOut} g)
        ∗ semVal (c, sm) 0) : sProp 𝕄)
      ⊢ iprop((Transfers.Flight EC c sm ι N
            iprop((Tk ∗ (dst.view.loc c ↦[Sd]{qOut} (dst.view.write Val g (via.apply (src.view.read Val fs)) Finset.univ)))
              ∗ (src.view.loc c ↦[Ss]{q} fs))
            -∗ wp frame (wpE defs 𝒱 c bd) Set.univ (k ⟨⟩) Q)
        -∗ wp frame (wpE defs 𝒱 c bd) Set.univ (.op (.enqueueDmaAs src (.here dst) via sm hsrc hdst hsem) k) Q) := by
  iintro ⟨#Hinv, Hs, HT, Hd, Hv⟩ Hk
  ihave Hs := (pointsTo_split_subset hSs).1 $$ Hs
  icases Hs with ⟨Hs, Hrest⟩
  imod (Transfers.flight_alloc EC hN0
      iprop((Tk ∗ (dst.view.loc c ↦[Sd]{qOut} (dst.view.write Val g (via.apply (src.view.read Val fs)) Finset.univ)))
        ∗ (src.view.loc c ↦[Ss]{q} fs)) (g := (c, sm))) $$ Hv with ⟨%γ, %δ, %κ', #Hfl, Hγ, Hδ⟩
  iapply (wp_enqueueDmaAs 𝒱 c bd Set.univ ι N hN
      (R := iprop((Tk ∗ (dst.view.loc c ↦[Sd]{qOut} (dst.view.write Val g (via.apply (src.view.read Val fs)) Finset.univ)))
        ∗ (src.view.loc c ↦[Ss \ src.view.set]{q} fs)))) $$ [Hs HT Hd Hrest] [Hγ]
  · isplitl [Hs]; · iexact Hs
    iapply (writeUpdate_frame c)
    isplitr [Hrest]
    · iapply (half_writeUpdate hZ c hSd)
      isplitr; · iexact Hinv
      isplitl [HT] <;> iassumption
    · iexact Hrest
  · iapply (Transfers.creditUpdate_anti (R := iprop((Tk ∗ (dst.view.loc c ↦[Sd]{qOut} (dst.view.write Val g (via.apply (src.view.read Val fs)) Finset.univ)))
        ∗ (src.view.loc c ↦[Ss]{q} fs))) ?_)
    · iintro ⟨⟨HT, Hr⟩, Hs⟩
      isplitl [HT]; · iexact HT
      iapply (pointsTo_split_subset hSs).2
      isplitl [Hs] <;> iassumption
    · iapply (Transfers.flight_creditUpdate EC (δ := δ))
      isplitr; · iexact Hfl
      iexact Hγ
  iintro Hcred
  iapply Hk
  iapply (Transfers.flight_intro EC c (κ := κ'))
  isplitr; · iexact Hfl
  isplitl [Hδ] <;> iassumption

end Steps

/-- A buffer held whole may be put under the invariant, its right half kept. -/
theorem half_alloc [Infinite Name] {ℓ : Loc nD τ sig} [Storable (upEmb : UEmb _ 𝕄) Z] {f : Buf Val ℓ} {E : Set Name} :
    (ℓ ↦[Finset.univ]{fullShare} f : sProp 𝕄)
      ⊢ |={E}=> iprop(∃ κ, inv κ (Half ℓ Z) ∗ (ℓ ↦[Finset.univ]{qOut} f)) := by
  iintro H
  ihave H := (pointsTo_share (PosShare.mem_left_op_right fullShare)).1 $$ H
  icases H with ⟨Hl, Hr⟩
  haveI : Storable (upEmb : UEmb _ 𝕄) (Half ℓ Z) := by unfold Half; infer_instance
  imod (inv_alloc (P := Half ℓ Z) (E := E)) $$ [Hl] with ⟨%κ, Hinv⟩
  · unfold Half; ileft; iexists f; iexact Hl
  imodintro
  iexists κ
  isplitl [Hinv] <;> iassumption

/-- With all the right halves and the price `Z` the buffer comes back whole. -/
theorem half_close (hZ : iprop(Z ∗ Z) ⊢ (False : sProp 𝕄)) {ℓ : Loc nD τ sig} {g : Buf Val ℓ} :
    (iprop(inv κ (Half ℓ Z) ∗ Z ∗ (ℓ ↦[Finset.univ]{qOut} g)) : sProp 𝕄)
      ⊢ |={Set.univ}=> iprop(ℓ ↦[Finset.univ]{fullShare} g) := by
  iintro ⟨#Hinv, HT, Hg⟩
  imod (inv_acc (Set.mem_univ κ)) $$ Hinv with ⟨HP, Hclose⟩
  unfold Half
  icases HP with (⟨%f, Hf⟩ | HZ)
  · ihave H := half_join $$ [Hf Hg]
    · isplitl [Hf] <;> iassumption
    icases H with ⟨HS, -⟩
    imod Hclose $$ [HT] with -
    · iright; iexact HT
    imodintro
    iexact HS
  · ihave H := hZ $$ [HT HZ]
    · isplitl [HT] <;> iassumption
    icases H with %hf
    exact hf.elim

end Cert.Jitter

end
-- ==== Proof.Setup.lean ====
/-
  The SparseCore kernel as the launch theorem sees it, the algebra its proof works in, and the pieces its buffers are cut
  into: blocks of rows of the two arrays in memory (`rows`), slots of the two scratch rings (`slotIn`, `slotOut`). Each
  view the kernel takes of a buffer covers exactly such a piece, and the element it finds at an index is named by its
  coordinates.
-/
module

public import proofs.«01_k».proof.Defs
public import proofs.«01_k».proof.Proof.Peek
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Transfers
public import Idealize.ShloMosaic.Lib.ViewIndex
public import proofs.«01_k».proof.Proof.Gen.KernelIdeal
public import proofs.«01_k».proof.Proof.Gen.KernelIdeal.Skeleton

@[expose] public section

noncomputable section

namespace Cert.Jitter

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight tok)

variable {F : FTy → Type}

/-! ## The program -/

/-- The labels, the SparseCore calls and the labelled programs of the kernel; no variant is needed. -/
abbrev ΛP : Labels := Pipeline.Sig Λ₀ (Fin 0) fun p => (pcfgs (F := F) p).Adm
abbrev K : SparseCore.Cfg τ sig (ΛP (F := F)) 1 := sc (F := F)
/-- The call runs on 16 subcores of each SparseCore. -/
theorem nSub_zero : (K (F := F)).nSub 0 = 16 := rfl
/-- The call runs on two SparseCores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

set_option maxRecDepth 100000 in
/-- The launch's own requirements of the semaphores it signals by. -/
theorem launch_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra: the launch's rounds, and counters for the copies in flight -/

/-- The rounds of the launch's handshakes, and with them the counters. -/
abbrev UH : Type := URounds (GSem nD τ sig) ℕ
abbrev UU : Type := UH × Counters

local notation "𝕄" => MT nD τ sig (HIx 1) (Elt F) ℕ UU ℕ

/-- Where the rounds and the counters lie in the ghost state. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EC : UEmb Counters (MT nD τ sig (HIx 1) (Elt F) ℕ UU ℕ) :=
  (UEmb.inr : UEmb Counters UU).trans (uEmb (nD := nD) (sig := sig) (Ix := HIx 1) (Val := Elt F) (Name := ℕ) (U := UU) (Lvl := ℕ))

/-- The rounds may be kept inside an invariant. -/
instance EH_landsIn : (EH : Emb UH 𝕄).LandsIn (upEmb : UEmb _ 𝕄) := by unfold EH; infer_instance
/-- The counters may be kept inside an invariant. -/
instance EC_landsIn : (EC : UEmb Counters 𝕄).LandsIn (upEmb : UEmb _ 𝕄) := by unfold EC; infer_instance

/-! ## The buffers -/

/-- The array gathered from, the index row and the gathered array, as locations of device `d`. -/
abbrev xLoc (d : Dev nD) : Loc nD τ sig := (SparseCore.T d).loc main_v0
abbrev iLoc (d : Dev nD) : Loc nD τ sig := (SparseCore.T d).loc main_v29
abbrev oLoc (d : Dev nD) : Loc nD τ sig := (SparseCore.T d).loc main_v30

/-- The three arrays as the tile sees them. -/
abbrev xV : Memref sig .scVector .hbm S4096x4096 .f32 := Memref.whole main_v0_scv
abbrev iV : Memref sig .scVector .hbm S4096 .i32 := Memref.whole main_v29_scv
abbrev oV : Memref sig .scVector .hbm S4096x4096 .f32 := Memref.whole main_v30_scv
/-- A task's scratch: the index row, the ring of input slots, the ring of output slots. -/
abbrev sI : Memref sig .scVector .vmem S4096 .i32 := Memref.whole cc0_scratch0
abbrev sX : Memref sig .scVector .vmem S4x4x4096 .f32 := Memref.whole cc0_scratch1
abbrev sO : Memref sig .scVector .vmem S2x4x4096 .f32 := Memref.whole cc0_scratch2

/-! ## Pieces of the buffers -/

/-- Rows `lo ≤ r < hi` of an array of 4096 rows. -/
def rows (lo hi : ℕ) : Finset S4096x4096.Idx := Finset.univ.filter fun i => lo ≤ (i 0).val ∧ (i 0).val < hi
/-- Slot `b` of the input ring. -/
def slotIn (b : ℕ) : Finset S4x4x4096.Idx := Finset.univ.filter fun i => (i 0).val = b
/-- Slot `b` of the output ring. -/
def slotOut (b : ℕ) : Finset S2x4x4096.Idx := Finset.univ.filter fun i => (i 0).val = b

/-- An element is in rows `lo … hi` when its row is. -/
theorem mem_rows {lo hi : ℕ} {i : S4096x4096.Idx} : i ∈ rows lo hi ↔ lo ≤ (i 0).val ∧ (i 0).val < hi := by simp [rows]
/-- An element is in an input slot when its first coordinate is the slot. -/
theorem mem_slotIn {b : ℕ} {i : S4x4x4096.Idx} : i ∈ slotIn b ↔ (i 0).val = b := by simp [slotIn]
/-- An element is in an output slot when its first coordinate is the slot. -/
theorem mem_slotOut {b : ℕ} {i : S2x4x4096.Idx} : i ∈ slotOut b ↔ (i 0).val = b := by simp [slotOut]

/-- Consecutive blocks of rows are disjoint and make one block. -/
theorem rows_disjoint {a b c e : ℕ} (h : b ≤ c) : Disjoint (rows a b) (rows c e) :=
  Finset.disjoint_left.mpr fun i h1 h2 => by rw [mem_rows] at h1 h2; omega
/-- Neighbouring ranges of rows are one range. -/
theorem rows_union {a b c : ℕ} (h1 : a ≤ b) (h2 : b ≤ c) : rows a b ∪ rows b c = rows a c := by
  ext i; simp only [Finset.mem_union, mem_rows]; omega
/-- All the rows are the whole array. -/
theorem rows_all : rows 0 4096 = Finset.univ := by
  ext i; have := (i 0).isLt; simp only [mem_rows, Finset.mem_univ, iff_true]; exact ⟨Nat.zero_le _, this⟩
/-- A shorter range of rows is inside a longer. -/
theorem rows_subset {a b c e : ℕ} (h1 : c ≤ a) (h2 : b ≤ e) : rows a b ⊆ rows c e := fun i h => by
  rw [mem_rows] at h ⊢; omega
/-- Different input slots share nothing. -/
theorem slotIn_disjoint {a b : ℕ} (h : a ≠ b) : Disjoint (slotIn a) (slotIn b) :=
  Finset.disjoint_left.mpr fun i h1 h2 => by rw [mem_slotIn] at h1 h2; omega
/-- Different output slots share nothing. -/
theorem slotOut_disjoint {a b : ℕ} (h : a ≠ b) : Disjoint (slotOut a) (slotOut b) :=
  Finset.disjoint_left.mpr fun i h1 h2 => by rw [mem_slotOut] at h1 h2; omega
/-- The four input slots are the whole ring. -/
theorem slotIn_all : slotIn 0 ∪ (slotIn 1 ∪ (slotIn 2 ∪ slotIn 3)) = Finset.univ := by
  ext i; have : (i 0).val < 4 := (i 0).isLt
  simp only [Finset.mem_union, mem_slotIn, Finset.mem_univ, iff_true]; omega
/-- The two output slots are the whole ring. -/
theorem slotOut_all : slotOut 0 ∪ slotOut 1 = Finset.univ := by
  ext i; have : (i 0).val < 2 := (i 0).isLt
  simp only [Finset.mem_union, mem_slotOut, Finset.mem_univ, iff_true]; omega

/-! ## The views the kernel takes -/

/-- A block of four rows of an array in memory. -/
abbrev blk (m : Memref sig .scVector .hbm S4096x4096 .f32) (off : Fin 2 → ℕ) (h : ∀ a, off a + S4x4096.size a ≤ S4096x4096.size a) :
    Memref sig .scVector .hbm S4x4096 .f32 :=
  m.slice (Rect.unit (s := S4096x4096) off S4x4096.size h) (fun _ => rfl)
/-- A slot of the input ring, as four rows. -/
abbrev inSlot (off : Fin 3 → ℕ) (h : ∀ a, off a + S1x4x4096.size a ≤ S4x4x4096.size a) : Memref sig .scVector .vmem S4x4096 .f32 :=
  (sX.slice (Rect.unit (s := S4x4x4096) off S1x4x4096.size h) (fun _ => rfl)).squeeze S4x4096 squeezes_S1x4x4096_S4x4096
/-- A slot of the output ring, as four rows. -/
abbrev outSlot (off : Fin 3 → ℕ) (h : ∀ a, off a + S1x4x4096.size a ≤ S2x4x4096.size a) : Memref sig .scVector .vmem S4x4096 .f32 :=
  (sO.slice (Rect.unit (s := S2x4x4096) off S1x4x4096.size h) (fun _ => rfl)).squeeze S4x4096 squeezes_S1x4x4096_S4x4096

/-- A block of four rows is those rows, all columns. -/
theorem unit_rows_set {r : ℕ} {off : Fin 2 → ℕ} {h : ∀ a, off a + S4x4096.size a ≤ S4096x4096.size a} (ho : off = ![r, 0]) :
    (Rect.unit (s := S4096x4096) off S4x4096.size h).set = rows r (r + 4) := by
  subst ho
  ext i
  have h1 : (i 1).val < 4096 := (i 1).isLt
  rw [Rect.mem_set_unit, mem_rows, Fin.forall_fin_two]
  show (r ≤ (i 0).val ∧ (i 0).val < r + 4) ∧ (0 ≤ (i 1).val ∧ (i 1).val < 0 + 4096) ↔ _
  omega

/-- The elements of a block of the array gathered from. -/
theorem xBlk_set {r : ℕ} {off : Fin 2 → ℕ} {h : ∀ a, off a + S4x4096.size a ≤ S4096x4096.size a} (ho : off = ![r, 0]) :
    (blk xV off h).view.set = rows r (r + 4) :=
  (View.set_slice_whole _ _).trans (unit_rows_set ho)
/-- The elements of a block of the gathered array. -/
theorem oBlk_set {r : ℕ} {off : Fin 2 → ℕ} {h : ∀ a, off a + S4x4096.size a ≤ S4096x4096.size a} (ho : off = ![r, 0]) :
    (blk oV off h).view.set = rows r (r + 4) :=
  (View.set_slice_whole _ _).trans (unit_rows_set ho)

/-- The elements of an input slot's view. -/
theorem inSlot_set {b : ℕ} {off : Fin 3 → ℕ} {h : ∀ a, off a + S1x4x4096.size a ≤ S4x4x4096.size a} (ho : off = ![b, 0, 0]) :
    (inSlot off h).view.set = slotIn b := by
  subst ho
  refine (View.set_reshape _ _).trans ((View.set_slice_whole _ _).trans ?_)
  ext i
  have h1 : (i 1).val < 4 := (i 1).isLt
  have h2 : (i 2).val < 4096 := (i 2).isLt
  rw [Rect.mem_set_unit, mem_slotIn]
  constructor
  · intro ha; have := ha 0; change b ≤ (i 0).val ∧ (i 0).val < b + 1 at this; omega
  · intro ha a
    match a with
    | 0 => change b ≤ (i 0).val ∧ (i 0).val < b + 1; omega
    | 1 => change 0 ≤ (i 1).val ∧ (i 1).val < 0 + 4; omega
    | 2 => change 0 ≤ (i 2).val ∧ (i 2).val < 0 + 4096; omega

/-- The elements of an output slot's view. -/
theorem outSlot_set {b : ℕ} {off : Fin 3 → ℕ} {h : ∀ a, off a + S1x4x4096.size a ≤ S2x4x4096.size a} (ho : off = ![b, 0, 0]) :
    (outSlot off h).view.set = slotOut b := by
  subst ho
  refine (View.set_reshape _ _).trans ((View.set_slice_whole _ _).trans ?_)
  ext i
  have h1 : (i 1).val < 4 := (i 1).isLt
  have h2 : (i 2).val < 4096 := (i 2).isLt
  rw [Rect.mem_set_unit, mem_slotOut]
  constructor
  · intro ha; have := ha 0; change b ≤ (i 0).val ∧ (i 0).val < b + 1 at this; omega
  · intro ha a
    match a with
    | 0 => change b ≤ (i 0).val ∧ (i 0).val < b + 1; omega
    | 1 => change 0 ≤ (i 1).val ∧ (i 1).val < 0 + 4; omega
    | 2 => change 0 ≤ (i 2).val ∧ (i 2).val < 0 + 4096; omega

/-- The four-row index with the given coordinates. -/
abbrev at2 (r : Fin 4) (c : Fin 4096) : S4x4096.Idx := fun | 0 => r | 1 => c
/-- The index of an array in memory with the given coordinates. -/
abbrev atM (r c : Fin 4096) : S4096x4096.Idx := fun | 0 => r | 1 => c
/-- The index of an index row's entry. -/
abbrev at1 (c : Fin 4096) : S4096.Idx := fun | 0 => c
/-- The index of the input ring with the given coordinates. -/
abbrev atIn (b r : Fin 4) (c : Fin 4096) : S4x4x4096.Idx := fun | 0 => b | 1 => r | 2 => c
/-- The index of the output ring with the given coordinates. -/
abbrev atOut (b : Fin 2) (r : Fin 4) (c : Fin 4096) : S2x4x4096.Idx := fun | 0 => b | 1 => r | 2 => c
/-- The index of a one-slot piece with the given coordinates. -/
abbrev atOne (r : Fin 4) (c : Fin 4096) : S1x4x4096.Idx := fun | 0 => (⟨0, Nat.one_pos⟩ : Fin 1) | 1 => r | 2 => c

/-- Element `(r, c)` of a block of four rows, as the block finds it in the array. -/
theorem blk_emb (m : Ref sig .scVector) {r : ℕ} {off : Fin 2 → ℕ} {h : ∀ a, off a + S4x4096.size a ≤ S4096x4096.size a} (ho : off = ![r, 0])
    (x : S4x4096.Idx) (i : S4096x4096.Idx) (h0 : (i 0).val = r + (x 0).val) (h1 : (i 1).val = (x 1).val) :
    (Rect.unit (s := S4096x4096) off S4x4096.size h).emb x = i := by
  subst ho
  funext a
  apply Fin.ext
  match a with
  | 0 => exact (show r + 1 * (x 0).val = (i 0).val by omega)
  | 1 => exact (show 0 + 1 * (x 1).val = (i 1).val by omega)

/-- Dropping the leading axis of length one keeps row and column. -/
theorem slot_emb (x : S4x4096.Idx) :
    Shape.reshapeEquiv (Shape.Squeezes.numel_eq squeezes_S1x4x4096_S4x4096) x = atOne (x 0) (x 1) :=
  Shape.reshapeEquiv_eq_of_rowMajor _ (by
    rw [Shape.rowMajor_val_three, Shape.rowMajor_val_two]
    show (0 * 4 + (x 0).val) * 4096 + (x 1).val = (x 0).val * 4096 + (x 1).val
    omega)

/-- Element `(r, c)` of slot `b` of the input ring, as the slot's view finds it. -/
theorem inSlot_emb {b : ℕ} {off : Fin 3 → ℕ} {h : ∀ a, off a + S1x4x4096.size a ≤ S4x4x4096.size a} (ho : off = ![b, 0, 0])
    (x : S4x4096.Idx) (i : S4x4x4096.Idx) (h0 : (i 0).val = b) (h1 : (i 1).val = (x 0).val) (h2 : (i 2).val = (x 1).val) :
    (inSlot off h).view.emb x = i := by
  subst ho
  show (Rect.unit (s := S4x4x4096) ![b, 0, 0] S1x4x4096.size h).emb (Shape.reshapeEquiv _ x) = i
  rw [slot_emb]
  apply Shape.idx3_ext
  · exact (show b + 1 * 0 = (i 0).val by omega)
  · exact (show 0 + 1 * (x 0).val = (i 1).val by omega)
  · exact (show 0 + 1 * (x 1).val = (i 2).val by omega)

/-- Element `(r, c)` of slot `b` of the output ring, as the slot's view finds it. -/
theorem outSlot_emb {b : ℕ} {off : Fin 3 → ℕ} {h : ∀ a, off a + S1x4x4096.size a ≤ S2x4x4096.size a} (ho : off = ![b, 0, 0])
    (x : S4x4096.Idx) (i : S2x4x4096.Idx) (h0 : (i 0).val = b) (h1 : (i 1).val = (x 0).val) (h2 : (i 2).val = (x 1).val) :
    (outSlot off h).view.emb x = i := by
  subst ho
  show (Rect.unit (s := S2x4x4096) ![b, 0, 0] S1x4x4096.size h).emb (Shape.reshapeEquiv _ x) = i
  rw [slot_emb]
  apply Shape.idx3_ext
  · exact (show b + 1 * 0 = (i 0).val by omega)
  · exact (show 0 + 1 * (x 0).val = (i 1).val by omega)
  · exact (show 0 + 1 * (x 1).val = (i 2).val by omega)

/-! ## What the copies carry -/

variable (X : Vec F S4096x4096 .f32) (I : Vec F S4096 .i32)

/-- Row `lo + r` of the array, as far as it has one. -/
def rowAt (lo r : ℕ) : Fin 4096 := ⟨(lo + r) % 4096, Nat.mod_lt _ (by decide)⟩
/-- A row inside the array is what its number says. -/
theorem rowAt_val {lo r : ℕ} (h : lo + r < 4096) : (rowAt lo r).val = lo + r := Nat.mod_eq_of_lt h

/-- An input slot holding the four rows from `lo` on. -/
def gIn (lo : ℕ) : Vec F S4x4x4096 .f32 := fun i => X (atM (rowAt lo (i 1).val) (i 2))

/-- Column `c` of the index row, as a column of the array. -/
def colOf (c : Fin 4096) : Fin 4096 := ⟨(I (at1 c)).toNat % 4096, Nat.mod_lt _ (by decide)⟩

/-- An output slot holding the four rows from `lo` on, gathered. -/
def gOut (lo : ℕ) : Vec F S2x4x4096 .f32 := fun i => X (atM (rowAt lo (i 1).val) (colOf I (i 2)))

/-- The gathered array: element `(r, c)` is the array's at `(r, I c)`. -/
def gathered : Vec F S4096x4096 .f32 := fun i => X (atM (i 0) (colOf I (i 1)))

/-- Reading a block of four rows of the array. -/
theorem read_xBlk {r : ℕ} {off : Fin 2 → ℕ} {h : ∀ a, off a + S4x4096.size a ≤ S4096x4096.size a} (ho : off = ![r, 0]) (x : S4x4096.Idx) :
    (blk xV off h).view.read (Elt F) X x = X (atM (rowAt r (x 0).val) (x 1)) := by
  have hr : r + 4 ≤ 4096 := by have := h 0; subst ho; exact this
  have hx : (x 0).val < 4 := (x 0).isLt
  refine (View.read_apply _ _).trans ((cast_eq _ _).trans (congrArg X ?_))
  exact blk_emb main_v0_scv ho x _ (rowAt_val (by omega)) rfl

/-- A copy of four rows of the array into a slot leaves the slot holding them. -/
theorem land_in {r b : ℕ} {off : Fin 2 → ℕ} {h : ∀ a, off a + S4x4096.size a ≤ S4096x4096.size a} (ho : off = ![r, 0])
    {off' : Fin 3 → ℕ} {h' : ∀ a, off' a + S1x4x4096.size a ≤ S4x4x4096.size a} (ho' : off' = ![b, 0, 0])
    (g : Vec F S4x4x4096 .f32) (i : S4x4x4096.Idx) (hi : i ∈ slotIn b) :
    (inSlot off' h').view.write (Elt F) g ((blk xV off h).view.read (Elt F) X) Finset.univ i = gIn X r i := by
  rw [mem_slotIn] at hi
  have he := inSlot_emb (h := h') ho' (at2 (i 1) (i 2)) i hi rfl rfl
  have hw := View.write_emb_of_mem (v := (inSlot off' h').view) g ((blk xV off h).view.read (Elt F) X) (Finset.mem_univ (at2 (i 1) (i 2)))
  rw [he] at hw
  refine hw.trans ((cast_eq _ _).trans ?_)
  exact read_xBlk X ho _

/-- A copy of a gathered slot into a block of rows leaves the rows gathered. -/
theorem land_out {r b : ℕ} {off : Fin 2 → ℕ} {h : ∀ a, off a + S4x4096.size a ≤ S4096x4096.size a} (ho : off = ![r, 0])
    {off' : Fin 3 → ℕ} {h' : ∀ a, off' a + S1x4x4096.size a ≤ S2x4x4096.size a} (ho' : off' = ![b, 0, 0]) (hb : b < 2)
    (g : Vec F S4096x4096 .f32) (i : S4096x4096.Idx) (hi : i ∈ rows r (r + 4)) :
    (blk oV off h).view.write (Elt F) g ((outSlot off' h').view.read (Elt F) (gOut X I r)) Finset.univ i = gathered X I i := by
  rw [mem_rows] at hi
  have hl : (i 0).val < 4096 := (i 0).isLt
  let x : S4x4096.Idx := at2 ⟨(i 0).val - r, by omega⟩ (i 1)
  have he : (blk oV off h).view.emb x = i := blk_emb main_v30_scv ho x i (show (i 0).val = r + ((i 0).val - r) by omega) rfl
  have hw := View.write_emb_of_mem (v := (blk oV off h).view) g ((outSlot off' h').view.read (Elt F) (gOut X I r)) (Finset.mem_univ x)
  rw [he] at hw
  refine hw.trans ((cast_eq _ _).trans ((View.read_apply _ _).trans ((cast_eq _ _).trans ?_)))
  rw [outSlot_emb (h := h') ho' x (atOut ⟨b, hb⟩ (x 0) (x 1)) rfl rfl rfl]
  show X (atM (rowAt r ((i 0).val - r)) (colOf I (i 1))) = X (atM (i 0) (colOf I (i 1)))
  have : rowAt r ((i 0).val - r) = i 0 := Fin.ext ((rowAt_val (by omega)).trans (by omega))
  rw [this]

end Cert.Jitter

end
-- ==== Proof.Gather.lean ====
/-
  One pass of a tile over one block: sixteen columns at a time, the four rows of an input slot are read at the columns the
  index row names and written side by side into an output slot. `row_step` is one row of one trip; `Done` says how much of
  the output slot is filled, and a loop's 256 trips fill it all.
-/
module

public import proofs.«01_k».proof.Proof.Setup

@[expose] public section

noncomputable section

namespace Cert.Jitter

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight tok)

variable {F : FTy → Type} [FloatOps F]

local notation "𝕄" => MT nD τ sig (HIx 1) (Elt F) ℕ UU ℕ

/-- The SparseCore and the subcore that grid coordinates name. -/
abbrev cV (L : grid0.Coords) : Fin τ.nSC := (L 0).castLE hcore0
abbrev jV (L : grid0.Coords) : Fin τ.nSub := (L 1).castLE hsub0
/-- The thread of the tile at `L`. -/
abbrev th (d : Dev nD) (L : grid0.Coords) : Thread nD τ := V d (cV L) (jV L)

variable (X : Vec F S4096x4096 .f32) (I : Vec F S4096 .i32) (d : Dev nD) (L : grid0.Coords)

/-- How much of output slot `ob` holds what it shall: the columns of the trips before `t`, and of trip `t` the rows before `r`. -/
def Done (ob : Fin 2) (lo t r : ℕ) (g : Vec F S2x4x4096 .f32) : Prop :=
  ∀ (r' : Fin 4) (c : Fin 4096), (c.val < 16 * t ∨ (c.val < 16 * (t + 1) ∧ r'.val < r)) → g (atOut ob r' c) = gOut X I lo (atOut ob r' c)

omit [FloatOps F] in
/-- Before the first step nothing is asked. -/
theorem Done.zero {ob : Fin 2} {lo : ℕ} (g : Vec F S2x4x4096 .f32) : Done X I ob lo 0 0 g := fun _ _ h => by omega
omit [FloatOps F] in
/-- Four rows done in a step: the next step has none done. -/
theorem Done.next {ob : Fin 2} {lo t : ℕ} {g : Vec F S2x4x4096 .f32} (h : Done X I ob lo t 4 g) : Done X I ob lo (t + 1) 0 g :=
  fun r' c hc => h r' c (by have := r'.isLt; omega)
omit [FloatOps F] in
/-- After all 256 steps the whole slot is gathered. -/
theorem Done.all {ob : Fin 2} {lo : ℕ} {g : Vec F S2x4x4096 .f32} (h : Done X I ob lo 256 0 g) (i : S2x4x4096.Idx) (hi : i ∈ slotOut ob.val) :
    g i = gOut X I lo i := by
  have hi0 : i = atOut ob (i 1) (i 2) := Shape.idx3_ext (mem_slotOut.mp hi) rfl rfl
  have h2 : (i 2).val < 4096 := (i 2).isLt
  rw [hi0]; exact h (i 1) (i 2) (Or.inl (by omega))

omit [FloatOps F] in
/-- The sixteen elements a store of one row's chunk covers. -/
theorem chunk_set {b r t : ℕ} {off : Fin 3 → ℕ} {h : ∀ a, off a + S1x1x16.size a ≤ S2x4x4096.size a} (ho : off = ![b, r, 16 * t]) :
    (sO.access (Rect.unit (s := S2x4x4096) off S1x1x16.size h)).setOn Finset.univ ⊆ slotOut b := by
  subst ho
  refine (Finset.Subset.trans (subset_of_eq (View.set_slice_whole _ _)) fun i hi => ?_)
  rw [Rect.mem_set_unit] at hi
  have := hi 0
  change b ≤ (i 0).val ∧ (i 0).val < b + 1 at this
  rw [mem_slotOut]; omega

/-- The index of a sixteen-element chunk's lane. -/
abbrev atLane (k : Fin 16) : S1x1x16.Idx := fun | 0 => (⟨0, Nat.one_pos⟩ : Fin 1) | 1 => (⟨0, Nat.one_pos⟩ : Fin 1) | 2 => k
/-- The index of lane `k`. -/
abbrev lane (k : Fin 16) : S16.Idx := fun | 0 => k

omit [FloatOps F] in
/-- Filling row `r` of trip `t` by the gathered chunk takes `Done` one row on. -/
theorem Done.step {ob : Fin 2} {lo t : ℕ} {r : Fin 4} {g : Vec F S2x4x4096 .f32} (hg : Done X I ob lo t r.val g)
    {off : Fin 3 → ℕ} {h : ∀ a, off a + S1x1x16.size a ≤ S2x4x4096.size a} (ho : off = ![ob.val, r.val, 16 * t])
    (w : Vec F S1x1x16 .f32) (hw : ∀ (k : Fin 16) (c : Fin 4096), c.val = 16 * t + k.val → w (atLane k) = gOut X I lo (atOut ob r c)) :
    Done X I ob lo t (r.val + 1) ((sO.access (Rect.unit (s := S2x4x4096) off S1x1x16.size h)).write (Elt F) g w Finset.univ) := by
  subst ho
  intro r' c hc
  have hemb : ∀ (k : Fin 16) (c' : Fin 4096), c'.val = 16 * t + k.val →
      (sO.access (Rect.unit (s := S2x4x4096) ![ob.val, r.val, 16 * t] S1x1x16.size h)).emb (atLane k) = atOut ob r c' := fun k c' hk => by
    apply Shape.idx3_ext
    · exact (show ob.val + 1 * 0 = ob.val by omega)
    · exact (show r.val + 1 * 0 = r.val by omega)
    · exact (show 16 * t + 1 * k.val = c'.val by omega)
  by_cases hin : r' = r ∧ 16 * t ≤ c.val ∧ c.val < 16 * t + 16
  · obtain ⟨rfl, h1, h2⟩ := hin
    let k : Fin 16 := ⟨c.val - 16 * t, by omega⟩
    have hk : c.val = 16 * t + k.val := show c.val = 16 * t + (c.val - 16 * t) by omega
    have hws := View.write_emb_of_mem (v := sO.access (Rect.unit (s := S2x4x4096) ![ob.val, r'.val, 16 * t] S1x1x16.size h)) g w (Finset.mem_univ (atLane k))
    rw [hemb k c hk] at hws
    exact hws.trans ((cast_eq _ _).trans (hw k c hk))
  · have hn : atOut ob r' c ∉ (sO.access (Rect.unit (s := S2x4x4096) ![ob.val, r.val, 16 * t] S1x1x16.size h)).setOn Finset.univ := by
      intro hm
      have hm' := (subset_of_eq (View.set_slice_whole (cc0_scratch2 : Ref sig .scVector) (Rect.unit (s := S2x4x4096) ![ob.val, r.val, 16 * t] S1x1x16.size h))) hm
      rw [Rect.mem_set_unit] at hm'
      have h1 := hm' 1
      have h2 := hm' 2
      change r.val ≤ r'.val ∧ r'.val < r.val + 1 at h1
      change 16 * t ≤ c.val ∧ c.val < 16 * t + 16 at h2
      exact hin ⟨Fin.ext (by omega), h2⟩
    refine (View.write_of_not_mem _ _ _ hn).trans (hg r' c ?_)
    by_contra hno
    apply hin
    refine ⟨Fin.ext ?_, ?_, ?_⟩ <;> omega

/-- The four tokens that stand for the input ring's slots. -/
def toks (γ : Fin 4 → ℕ) : sProp 𝕄 := iprop(tok EC (γ 0) ∗ tok EC (γ 1) ∗ tok EC (γ 2) ∗ tok EC (γ 3))

omit [FloatOps F] in
/-- A slot's token is not there twice. -/
theorem tok_toks (γ : Fin 4 → ℕ) (b : Fin 4) : iprop(tok EC (γ b) ∗ toks γ) ⊢ (False : sProp 𝕄) := by
  unfold toks
  iintro ⟨H, H0, H1, H2, H3⟩
  match b with
  | 0 => iapply (Transfers.tok_tok_false EC (γ 0)); isplitl [H] <;> iassumption
  | 1 => iapply (Transfers.tok_tok_false EC (γ 1)); isplitl [H] <;> iassumption
  | 2 => iapply (Transfers.tok_tok_false EC (γ 2)); isplitl [H] <;> iassumption
  | 3 => iapply (Transfers.tok_tok_false EC (γ 3)); isplitl [H] <;> iassumption

/-- The input ring's invariant. -/
abbrev ring (κ : ℕ) (γ : Fin 4 → ℕ) : sProp 𝕄 := inv κ (Half (sX.view.loc (th d L)) (toks γ))

/-- What a pass over slot `b` works with: the slot's token and its right half at four rows of the array. -/
abbrev inPts (γ : Fin 4 → ℕ) (b : Fin 4) (lo : ℕ) : sProp 𝕄 :=
  iprop(tok EC (γ b) ∗ (sX.view.loc (th d L) ↦[slotIn b.val]{qOut} gIn X lo))
/-- An output slot filled as far as `Done` says. -/
abbrev outPts (ob : Fin 2) (lo t r : ℕ) : sProp 𝕄 :=
  iprop(∃ g, ⌜Done X I ob lo t r g⌝ ∗ (sO.view.loc (th d L) ↦[slotOut ob.val]{fullShare} g))

/-- One gather and one store: row `r` of step `t` is done, and the input slot is as it was. -/
theorem row_step {κ : ℕ} {γ : Fin 4 → ℕ} {P : Prop} {dec : Decidable P} {buf row v : IVec S16 32} {b : Fin 4} {ob : Fin 2} {r : Fin 4} {lo t : ℕ}
    {off : Fin 3 → ℕ} {h : ∀ a, off a + S1x1x16.size a ≤ S2x4x4096.size a} (ho : off = ![ob.val, r.val, 16 * t])
    (hP : P) {hin : P → ∀ a x, ((![buf, row, v] : Fin 3 → IVec S16 32) a x).toNat < S4x4x4096.size a}
    (hbuf : ∀ x, (buf x).toNat = b.val) (hrow : ∀ x, (row x).toNat = r.val)
    (hv : ∀ (k : Fin 16) (c : Fin 4096), c.val = 16 * t + k.val → (v (lane k)).toNat = (colOf I c).val)
    {hl : sX.view.Loads} {hl' : sO.view.LoadsAt (Rect.unit (s := S2x4x4096) off S1x1x16.size h).toLoadRect}
    {hsc : S16.ShapeCasts S1x1x16} {hst : (sO.access (Rect.unit (s := S2x4x4096) off S1x1x16.size h)).Stores Finset.univ}
    {hm : (Finset.univ : Finset (Rect.unit (s := S2x4x4096) off S1x1x16.size h).shape.Idx) = Finset.univ
      ∨ ∀ a, (Rect.unit (s := S2x4x4096) off S1x1x16.size h).stride a = 1}
    {k : Prog (TpuEff nD τ sig (Elt F) Λ₀ (th d L).2) Unit} {Q : Unit → sProp 𝕄} :
    iprop(ring d L κ γ ∗ inPts X d L γ b lo ∗ outPts X I d L ob lo t r.val)
      ⊢ iprop((iprop(inPts X d L γ b lo ∗ outPts X I d L ob lo t (r.val + 1)) -∗ wp frame (wpE (defs₀ (F := F)) 𝒱₀ (th d L) none) Set.univ k Q)
        -∗ wp frame (wpE (defs₀ (F := F)) 𝒱₀ (th d L) none) Set.univ
            (.op (.assume P dec) fun hw => SparseCore.vectorLoadIdx (p := (th d L).2) sX ![buf, row, v] (hin hw.down) hl >>= fun w =>
              .op (.load sO (Rect.unit (s := S2x4x4096) off S1x1x16.size h).toLoadRect hl') fun _ =>
              .op (.store sO (Rect.unit (s := S2x4x4096) off S1x1x16.size h) (shapeCast S1x1x16 w hsc) Finset.univ hst hm) fun _ => k) Q) := by
  rw [wp_assume_of _ _ _ _ hP]
  change _ ⊢ iprop(_ -∗ wp frame (wpE (defs₀ (F := F)) 𝒱₀ (th d L) none) Set.univ
    (.op (.load sX (Rect.whole S4x4x4096).toLoadRect (View.loadsAt_whole hl)) fun f =>
      .op (.load sO (Rect.unit (s := S2x4x4096) off S1x1x16.size h).toLoadRect hl') fun _ =>
      .op (.store sO (Rect.unit (s := S2x4x4096) off S1x1x16.size h) (shapeCast S1x1x16 (loadIdx f ![buf, row, v] (hin hP)) hsc) Finset.univ hst hm) fun _ => k) Q)
  iintro ⟨#Hring, ⟨Htok, Hin⟩, %g, %hg, Hout⟩ Hk
  iapply (half_load 𝒱₀ (th d L) none (tok_toks γ b)) $$ [Htok Hin]
  · isplitr; · iexact Hring
    isplitl [Htok] <;> iassumption
  iintro %cur %hcur Htok Hin
  iapply (wp_load 𝒱₀ (th d L) none Set.univ (m := sO) (S := slotOut ob.val) ((subset_of_eq (View.set_slice sO.view (Rect.unit (s := S2x4x4096) off S1x1x16.size h)).symm).trans (chunk_set ho))) $$ Hout
  iintro Hout
  iapply (wp_store 𝒱₀ (th d L) none Set.univ (m := sO) (r := Rect.unit (s := S2x4x4096) off S1x1x16.size h) (Mk := Finset.univ) (S := slotOut ob.val) (chunk_set ho)) $$ Hout
  iintro Hout
  iapply Hk
  isplitl [Htok Hin]
  · isplitl [Htok] <;> iassumption
  iexists ((sO.access (Rect.unit (s := S2x4x4096) off S1x1x16.size h)).write (Elt F) g
    (shapeCast S1x1x16 (loadIdx (sX.view.readAt (Elt F) (Rect.whole S4x4x4096).toLoadRect cur) ![buf, row, v] (hin hP)) hsc) Finset.univ)
  isplitr
  · ipureintro
    refine Done.step X I hg ho _ ?_
    intro k c hk
    refine (congrArg _ (Shape.reshapeEquiv_eq_of_rowMajor _ (x := atLane k) (y := lane k) ?_)).trans ?_
    · rw [Shape.rowMajor_val_one, Shape.rowMajor_val_three]
      show k.val = (0 * 1 + 0) * 16 + k.val
      omega
    have hi : idxAt ![buf, row, v] (hin hP) (lane k) = atIn b r (colOf I c) :=
      Shape.idx3_ext (hbuf _) (hrow _) (hv k c hk)
    show sX.view.readAt (Elt F) (Rect.whole S4x4x4096).toLoadRect cur (idxAt ![buf, row, v] (hin hP) (lane k)) = _
    rw [hi]
    refine (View.readAt_apply _ _ _).trans ((View.read_apply _ _).trans ((cast_eq _ _).trans ?_))
    have hw : sX.view.emb ((Rect.whole S4x4x4096).toLoadRect.idx (atIn b r (colOf I c))) = atIn b r (colOf I c) := by
      apply Shape.idx3_ext
      · exact (show 0 + 1 * b.val = b.val by omega)
      · exact (show 0 + 1 * r.val = r.val by omega)
      · exact (show 0 + 1 * (colOf I c).val = (colOf I c).val by omega)
    rw [hw]
    exact hcur _ (mem_slotIn.mpr rfl)
  · iexact Hout

end Cert.Jitter

end
-- ==== Proof.Passes.lean ====
/-
  The four passes of the kernel's loop body, one for each input slot: slots 0 and 2 gather into output slot 0, slots 1 and 3
  into output slot 1. Each is 256 trips of four row steps.
-/
module

public import proofs.«01_k».proof.Proof.Gather

@[expose] public section

noncomputable section

namespace Cert.Jitter

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight tok)

variable {F : FTy → Type} [FloatOps F]

local notation "𝕄" => MT nD τ sig (HIx 1) (Elt F) ℕ UU ℕ

variable (X : Vec F S4096x4096 .f32) (I : Vec F S4096 .i32) (d : Dev nD) (L : grid0.Coords)

/-- The tile's copy of the index row. -/
abbrev idxPts : sProp 𝕄 := sI.view.loc (th d L) ↦[Finset.univ]{fullShare} I

omit [FloatOps F] in
/-- Lane `k` of the sixteen indices that trip `t` loads is column `16 t + k`'s. -/
theorem idx_lane (hI : ∀ c, (I c).toNat < 4096) {t : ℕ} {off : Fin 1 → ℕ} {h : ∀ a, off a + S16.size a ≤ S4096.size a} (ho : off = ![16 * t])
    (k : Fin 16) (c : Fin 4096) (hc : c.val = 16 * t + k.val) :
    (sI.view.readAt (Elt F) (Rect.unit (s := S4096) off S16.size h).toLoadRect I (lane k)).toNat = (colOf I c).val := by
  subst ho
  have hw : sI.view.emb ((Rect.unit (s := S4096) ![16 * t] S16.size h).toLoadRect.idx (lane k)) = at1 c :=
    Shape.idx1_ext (show 16 * t + 1 * k.val = c.val by omega)
  have hr : sI.view.readAt (Elt F) (Rect.unit (s := S4096) ![16 * t] S16.size h).toLoadRect I (lane k) = I (at1 c) :=
    (View.readAt_apply _ _ _).trans ((View.read_apply _ _).trans ((cast_eq _ _).trans (congrArg I hw)))
  rw [hr]
  exact (Nat.mod_eq_of_lt (hI _)).symm

omit [FloatOps F] in
/-- Every index that a trip loads names a column. -/
theorem idx_lt (hI : ∀ c, (I c).toNat < 4096) {off : Fin 1 → ℕ} {h : ∀ a, off a + S16.size a ≤ S4096.size a} (x : S16.Idx) :
    (sI.view.readAt (Elt F) (Rect.unit (s := S4096) off S16.size h).toLoadRect I x).toNat < 4096 := by
  have hr : sI.view.readAt (Elt F) (Rect.unit (s := S4096) off S16.size h).toLoadRect I x
      = I (sI.view.emb ((Rect.unit (s := S4096) off S16.size h).toLoadRect.idx x)) :=
    (View.readAt_apply _ _ _).trans ((View.read_apply _ _).trans (cast_eq _ _))
  rw [hr]
  exact hI _

/-- The indices one row's indexed load uses are inside the input ring. -/
theorem chk_ok {buf row v : IVec S16 32} {b r : Fin 4} (hbuf : ∀ x, (buf x).toNat = b.val) (hrow : ∀ x, (row x).toNat = r.val)
    (hv : ∀ x, (v x).toNat < 4096) : ∀ a x, ((![buf, row, v] : Fin 3 → IVec S16 32) a x).toNat < S4x4x4096.size a := by
  intro a x
  match a with
  | 0 => exact (show (buf x).toNat < 4 by rw [hbuf]; exact b.isLt)
  | 1 => exact (show (row x).toNat < 4 by rw [hrow]; exact r.isLt)
  | 2 => exact hv x

/-- One trip of the pass over input slot 0: sixteen more columns of output slot 0 are filled. -/
theorem trip0 (hI : ∀ c, (I c).toNat < 4096) {κ : ℕ} {γ : Fin 4 → ℕ} {lo : ℕ} {a8 a9 a10 a11 a12 a13 a14 : DmaSems sig S_} (v2 c0 c1 : BitVec 32) (t1 : Fin k0_t1_loop.trips)
    (t : Fin k0_t2_loop.trips) :
    iprop(ring d L κ γ ∗ inPts X d L γ 0 lo ∗ idxPts I d L ∗ outPts X I d L 0 lo t.val 0)
      ⊢ wp frame (wpE (defs₀ (F := F)) 𝒱₀ (th d L) none) Set.univ
          (k0_t2_body (F := F) L xV (Memref.isWhole_whole _) iV (Memref.isWhole_whole _) oV (Memref.isWhole_whole _) sI (Memref.isWhole_whole _) sX (Memref.isWhole_whole _)
            sO (Memref.isWhole_whole _) a8 a9 a10 a11 a12 a13 a14 v2 c0 c1 t1 (broadcast S16 0#32) t ())
          fun _ => iprop(ring d L κ γ ∗ inPts X d L γ 0 lo ∗ idxPts I d L ∗ outPts X I d L 0 lo (t.val + 1) 0) := by
  unfold k0_t2_body
  simp only [Prog.lift, Prog.bind_op, Prog.bind_ret, Prog.pure_eq_ret]
  obtain ⟨v, hvd⟩ : ∃ v, v = sI.view.readAt (Elt F) (Rect.unit (s := S4096) (k0_off4 t) S16.size (k0_off4_inb t)).toLoadRect I := ⟨_, rfl⟩
  have hv : ∀ (k : Fin 16) (c : Fin 4096), c.val = 16 * t.val + k.val → (v (lane k)).toNat = (colOf I c).val := fun k c hc => by
    rw [hvd]; exact idx_lane I hI (k0_off4_eq t) k c hc
  have hlt : ∀ x, (v x).toNat < 4096 := fun x => by rw [hvd]; exact idx_lt I hI x
  have hc0 : k0_chk1 (broadcast S16 0#32) v (broadcast S16 0#32) := chk_ok (b := 0) (r := 0) (fun _ => rfl) (fun _ => rfl) hlt
  have hc1 : k0_chk2 (broadcast S16 0#32) v (broadcast S16 1#32) := chk_ok (b := 0) (r := 1) (fun _ => rfl) (fun _ => rfl) hlt
  have hc2 : k0_chk3 (broadcast S16 0#32) v (broadcast S16 2#32) := chk_ok (b := 0) (r := 2) (fun _ => rfl) (fun _ => rfl) hlt
  have hc3 : k0_chk4 (broadcast S16 0#32) v (broadcast S16 3#32) := chk_ok (b := 0) (r := 3) (fun _ => rfl) (fun _ => rfl) hlt
  iintro ⟨#Hring, Hin, Hidx, Hout⟩
  iapply (wp_load 𝒱₀ (th d L) none Set.univ (m := sI) (S := Finset.univ) (Finset.subset_univ _)) $$ Hidx
  iintro Hidx
  rw [← hvd]
  iapply (row_step X I d L (P := k0_chk1 (broadcast S16 0#32) v (broadcast S16 0#32)) (buf := broadcast S16 0#32) (row := broadcast S16 0#32) (v := v)
    (hin := k0_idx1_inb _ _ _) (b := 0) (ob := 0) (r := 0) (lo := lo) (t := t.val) (k0_off5_eq t) hc0 (fun _ => rfl) (fun _ => rfl) hv) $$ [Hin Hout]
  · isplitr; · iexact Hring
    isplitl [Hin]; · iexact Hin
    iexact Hout
  iintro ⟨Hin, Hout⟩
  iapply (row_step X I d L (P := k0_chk2 (broadcast S16 0#32) v (broadcast S16 1#32)) (buf := broadcast S16 0#32) (row := broadcast S16 1#32) (v := v)
    (hin := k0_idx2_inb _ _ _) (b := 0) (ob := 0) (r := 1) (lo := lo) (t := t.val) (k0_off6_eq t) hc1 (fun _ => rfl) (fun _ => rfl) hv) $$ [Hin Hout]
  · isplitr; · iexact Hring
    isplitl [Hin]; · iexact Hin
    iexact Hout
  iintro ⟨Hin, Hout⟩
  iapply (row_step X I d L (P := k0_chk3 (broadcast S16 0#32) v (broadcast S16 2#32)) (buf := broadcast S16 0#32) (row := broadcast S16 2#32) (v := v)
    (hin := k0_idx3_inb _ _ _) (b := 0) (ob := 0) (r := 2) (lo := lo) (t := t.val) (k0_off7_eq t) hc2 (fun _ => rfl) (fun _ => rfl) hv) $$ [Hin Hout]
  · isplitr; · iexact Hring
    isplitl [Hin]; · iexact Hin
    iexact Hout
  iintro ⟨Hin, Hout⟩
  iapply (row_step X I d L (P := k0_chk4 (broadcast S16 0#32) v (broadcast S16 3#32)) (buf := broadcast S16 0#32) (row := broadcast S16 3#32) (v := v)
    (hin := k0_idx4_inb _ _ _) (b := 0) (ob := 0) (r := 3) (lo := lo) (t := t.val) (k0_off8_eq t) hc3 (fun _ => rfl) (fun _ => rfl) hv) $$ [Hin Hout]
  · isplitr; · iexact Hring
    isplitl [Hin]; · iexact Hin
    iexact Hout
  iintro ⟨Hin, %g, %hg, Hout⟩
  rw [wp_ret]
  imodintro
  isplitr; · iexact Hring
  isplitl [Hin]; · iexact Hin
  isplitl [Hidx]; · iexact Hidx
  iexists g
  isplitr; · ipureintro; exact Done.next X I hg
  iexact Hout

/-- The pass over input slot 0: output slot 0 ends at the block's rows gathered. -/
theorem pass0 (hI : ∀ c, (I c).toNat < 4096) {κ : ℕ} {γ : Fin 4 → ℕ} {lo : ℕ} {a8 a9 a10 a11 a12 a13 a14 : DmaSems sig S_} (v2 c0 c1 : BitVec 32) (t1 : Fin k0_t1_loop.trips)
    {β : Type} {kk : Unit → Prog (TpuEff nD τ sig (Elt F) Λ₀ (th d L).2) β} {Q : β → sProp 𝕄} :
    iprop(ring d L κ γ ∗ inPts X d L γ 0 lo ∗ idxPts I d L ∗ (∃ g, sO.view.loc (th d L) ↦[slotOut 0]{fullShare} g))
      ⊢ iprop((iprop(inPts X d L γ 0 lo ∗ idxPts I d L ∗ (sO.view.loc (th d L) ↦[slotOut 0]{fullShare} gOut X I lo))
            -∗ wp frame (wpE (defs₀ (F := F)) 𝒱₀ (th d L) none) Set.univ (kk ⟨⟩) Q)
        -∗ wp frame (wpE (defs₀ (F := F)) 𝒱₀ (th d L) none) Set.univ
          (Scf.Loop.for k0_t2_loop k0_t2_ok ⟨⟩ (k0_t2_body (F := F) L xV (Memref.isWhole_whole _) iV (Memref.isWhole_whole _) oV (Memref.isWhole_whole _)
            sI (Memref.isWhole_whole _) sX (Memref.isWhole_whole _) sO (Memref.isWhole_whole _) a8 a9 a10 a11 a12 a13 a14 v2 c0 c1 t1 (broadcast S16 0#32)) >>= kk) Q) := by
  iintro ⟨#Hring, Hin, Hidx, %g, Hout⟩ Hk
  iapply (Scf.wp_for_bind frame (wpE (defs₀ (F := F)) 𝒱₀ (th d L) none) Set.univ _ _ _ k0_t2_ok _ _
    (fun n _ => iprop(ring d L κ γ ∗ inPts X d L γ 0 lo ∗ idxPts I d L ∗ outPts X I d L 0 lo n 0))
    (fun t _ => trip0 X I d L hI v2 c0 c1 t1 t)) $$ [Hin Hidx Hout]
  · isplitr; · iexact Hring
    isplitl [Hin]; · iexact Hin
    isplitl [Hidx]; · iexact Hidx
    iexists g
    isplitr; · ipureintro; exact Done.zero X I g
    iexact Hout
  iintro %acc ⟨-, Hin, Hidx, %g', %hg', Hout⟩
  iapply Hk
  isplitl [Hin]; · iexact Hin
  isplitl [Hidx]; · iexact Hidx
  ihave Hout := (Entails.of_eq (pointsTo_congr (fun i hi => Done.all X I hg' i hi))) $$ Hout
  iexact Hout

/-- One trip of the pass over input slot 1: sixteen more columns of output slot 1 are filled. -/
theorem trip1 (hI : ∀ c, (I c).toNat < 4096) {κ : ℕ} {γ : Fin 4 → ℕ} {lo : ℕ} {a8 a9 a10 a11 a12 a13 a14 : DmaSems sig S_} (v2 : BitVec 32) (t1 : Fin k0_t1_loop.trips) (c0 c1 : BitVec 32)
    (t : Fin k0_t3_loop.trips) :
    iprop(ring d L κ γ ∗ inPts X d L γ 1 lo ∗ idxPts I d L ∗ outPts X I d L 1 lo t.val 0)
      ⊢ wp frame (wpE (defs₀ (F := F)) 𝒱₀ (th d L) none) Set.univ
          (k0_t3_body (F := F) L xV (Memref.isWhole_whole _) iV (Memref.isWhole_whole _) oV (Memref.isWhole_whole _) sI (Memref.isWhole_whole _) sX (Memref.isWhole_whole _)
            sO (Memref.isWhole_whole _) a8 a9 a10 a11 a12 a13 a14 v2 t1 c0 c1 (broadcast S16 1#32) t ())
          fun _ => iprop(ring d L κ γ ∗ inPts X d L γ 1 lo ∗ idxPts I d L ∗ outPts X I d L 1 lo (t.val + 1) 0) := by
  unfold k0_t3_body
  simp only [Prog.lift, Prog.bind_op, Prog.bind_ret, Prog.pure_eq_ret]
  obtain ⟨v, hvd⟩ : ∃ v, v = sI.view.readAt (Elt F) (Rect.unit (s := S4096) (k0_off12 t) S16.size (k0_off12_inb t)).toLoadRect I := ⟨_, rfl⟩
  have hv : ∀ (k : Fin 16) (c : Fin 4096), c.val = 16 * t.val + k.val → (v (lane k)).toNat = (colOf I c).val := fun k c hc => by
    rw [hvd]; exact idx_lane I hI (k0_off12_eq t) k c hc
  have hlt : ∀ x, (v x).toNat < 4096 := fun x => by rw [hvd]; exact idx_lt I hI x
  have hc0 : k0_chk5 (broadcast S16 1#32) v (broadcast S16 0#32) := chk_ok (b := 1) (r := 0) (fun _ => rfl) (fun _ => rfl) hlt
  have hc1 : k0_chk6 (broadcast S16 1#32) v (broadcast S16 1#32) := chk_ok (b := 1) (r := 1) (fun _ => rfl) (fun _ => rfl) hlt
  have hc2 : k0_chk7 (broadcast S16 1#32) v (broadcast S16 2#32) := chk_ok (b := 1) (r := 2) (fun _ => rfl) (fun _ => rfl) hlt
  have hc3 : k0_chk8 (broadcast S16 1#32) v (broadcast S16 3#32) := chk_ok (b := 1) (r := 3) (fun _ => rfl) (fun _ => rfl) hlt
  iintro ⟨#Hring, Hin, Hidx, Hout⟩
  iapply (wp_load 𝒱₀ (th d L) none Set.univ (m := sI) (S := Finset.univ) (Finset.subset_univ _)) $$ Hidx
  iintro Hidx
  rw [← hvd]
  iapply (row_step X I d L (P := k0_chk5 (broadcast S16 1#32) v (broadcast S16 0#32)) (buf := broadcast S16 1#32) (row := broadcast S16 0#32) (v := v)
    (hin := k0_idx5_inb _ _ _) (b := 1) (ob := 1) (r := 0) (lo := lo) (t := t.val) (k0_off13_eq t) hc0 (fun _ => rfl) (fun _ => rfl) hv) $$ [Hin Hout]
  · isplitr; · iexact Hring
    isplitl [Hin]; · iexact Hin
    iexact Hout
  iintro ⟨Hin, Hout⟩
  iapply (row_step X I d L (P := k0_chk6 (broadcast S16 1#32) v (broadcast S16 1#32)) (buf := broadcast S16 1#32) (row := broadcast S16 1#32) (v := v)
    (hin := k0_idx6_inb _ _ _) (b := 1) (ob := 1) (r := 1) (lo := lo) (t := t.val) (k0_off14_eq t) hc1 (fun _ => rfl) (fun _ => rfl) hv) $$ [Hin Hout]
  · isplitr; · iexact Hring
    isplitl [Hin]; · iexact Hin
    iexact Hout
  iintro ⟨Hin, Hout⟩
  iapply (row_step X I d L (P := k0_chk7 (broadcast S16 1#32) v (broadcast S16 2#32)) (buf := broadcast S16 1#32) (row := broadcast S16 2#32) (v := v)
    (hin := k0_idx7_inb _ _ _) (b := 1) (ob := 1) (r := 2) (lo := lo) (t := t.val) (k0_off15_eq t) hc2 (fun _ => rfl) (fun _ => rfl) hv) $$ [Hin Hout]
  · isplitr; · iexact Hring
    isplitl [Hin]; · iexact Hin
    iexact Hout
  iintro ⟨Hin, Hout⟩
  iapply (row_step X I d L (P := k0_chk8 (broadcast S16 1#32) v (broadcast S16 3#32)) (buf := broadcast S16 1#32) (row := broadcast S16 3#32) (v := v)
    (hin := k0_idx8_inb _ _ _) (b := 1) (ob := 1) (r := 3) (lo := lo) (t := t.val) (k0_off16_eq t) hc3 (fun _ => rfl) (fun _ => rfl) hv) $$ [Hin Hout]
  · isplitr; · iexact Hring
    isplitl [Hin]; · iexact Hin
    iexact Hout
  iintro ⟨Hin, %g, %hg, Hout⟩
  rw [wp_ret]
  imodintro
  isplitr; · iexact Hring
  isplitl [Hin]; · iexact Hin
  isplitl [Hidx]; · iexact Hidx
  iexists g
  isplitr; · ipureintro; exact Done.next X I hg
  iexact Hout

/-- The pass over input slot 1: output slot 1 ends at the block's rows gathered. -/
theorem pass1 (hI : ∀ c, (I c).toNat < 4096) {κ : ℕ} {γ : Fin 4 → ℕ} {lo : ℕ} {a8 a9 a10 a11 a12 a13 a14 : DmaSems sig S_} (v2 : BitVec 32) (t1 : Fin k0_t1_loop.trips) (c0 c1 : BitVec 32)
    {β : Type} {kk : Unit → Prog (TpuEff nD τ sig (Elt F) Λ₀ (th d L).2) β} {Q : β → sProp 𝕄} :
    iprop(ring d L κ γ ∗ inPts X d L γ 1 lo ∗ idxPts I d L ∗ (∃ g, sO.view.loc (th d L) ↦[slotOut 1]{fullShare} g))
      ⊢ iprop((iprop(inPts X d L γ 1 lo ∗ idxPts I d L ∗ (sO.view.loc (th d L) ↦[slotOut 1]{fullShare} gOut X I lo))
            -∗ wp frame (wpE (defs₀ (F := F)) 𝒱₀ (th d L) none) Set.univ (kk ⟨⟩) Q)
        -∗ wp frame (wpE (defs₀ (F := F)) 𝒱₀ (th d L) none) Set.univ
          (Scf.Loop.for k0_t3_loop k0_t3_ok ⟨⟩ (k0_t3_body (F := F) L xV (Memref.isWhole_whole _) iV (Memref.isWhole_whole _) oV (Memref.isWhole_whole _)
            sI (Memref.isWhole_whole _) sX (Memref.isWhole_whole _) sO (Memref.isWhole_whole _) a8 a9 a10 a11 a12 a13 a14 v2 t1 c0 c1 (broadcast S16 1#32)) >>= kk) Q) := by
  iintro ⟨#Hring, Hin, Hidx, %g, Hout⟩ Hk
  iapply (Scf.wp_for_bind frame (wpE (defs₀ (F := F)) 𝒱₀ (th d L) none) Set.univ _ _ _ k0_t3_ok _ _
    (fun n _ => iprop(ring d L κ γ ∗ inPts X d L γ 1 lo ∗ idxPts I d L ∗ outPts X I d L 1 lo n 0))
    (fun t _ => trip1 X I d L hI v2 t1 c0 c1 t)) $$ [Hin Hidx Hout]
  · isplitr; · iexact Hring
    isplitl [Hin]; · iexact Hin
    isplitl [Hidx]; · iexact Hidx
    iexists g
    isplitr; · ipureintro; exact Done.zero X I g
    iexact Hout
  iintro %acc ⟨-, Hin, Hidx, %g', %hg', Hout⟩
  iapply Hk
  isplitl [Hin]; · iexact Hin
  isplitl [Hidx]; · iexact Hidx
  ihave Hout := (Entails.of_eq (pointsTo_congr (fun i hi => Done.all X I hg' i hi))) $$ Hout
  iexact Hout

/-- One trip of the pass over input slot 2: sixteen more columns of output slot 0 are filled. -/
theorem trip2 (hI : ∀ c, (I c).toNat < 4096) {κ : ℕ} {γ : Fin 4 → ℕ} {lo : ℕ} {a8 a9 a10 a11 a12 a13 a14 : DmaSems sig S_} (v2 : BitVec 32) (t1 : Fin k0_t1_loop.trips) (c0 c1 : BitVec 32)
    (t : Fin k0_t4_loop.trips) :
    iprop(ring d L κ γ ∗ inPts X d L γ 2 lo ∗ idxPts I d L ∗ outPts X I d L 0 lo t.val 0)
      ⊢ wp frame (wpE (defs₀ (F := F)) 𝒱₀ (th d L) none) Set.univ
          (k0_t4_body (F := F) L xV (Memref.isWhole_whole _) iV (Memref.isWhole_whole _) oV (Memref.isWhole_whole _) sI (Memref.isWhole_whole _) sX (Memref.isWhole_whole _)
            sO (Memref.isWhole_whole _) a8 a9 a10 a11 a12 a13 a14 v2 t1 c0 c1 (broadcast S16 2#32) t ())
          fun _ => iprop(ring d L κ γ ∗ inPts X d L γ 2 lo ∗ idxPts I d L ∗ outPts X I d L 0 lo (t.val + 1) 0) := by
  unfold k0_t4_body
  simp only [Prog.lift, Prog.bind_op, Prog.bind_ret, Prog.pure_eq_ret]
  obtain ⟨v, hvd⟩ : ∃ v, v = sI.view.readAt (Elt F) (Rect.unit (s := S4096) (k0_off20 t) S16.size (k0_off20_inb t)).toLoadRect I := ⟨_, rfl⟩
  have hv : ∀ (k : Fin 16) (c : Fin 4096), c.val = 16 * t.val + k.val → (v (lane k)).toNat = (colOf I c).val := fun k c hc => by
    rw [hvd]; exact idx_lane I hI (k0_off20_eq t) k c hc
  have hlt : ∀ x, (v x).toNat < 4096 := fun x => by rw [hvd]; exact idx_lt I hI x
  have hc0 : k0_chk9 (broadcast S16 2#32) v (broadcast S16 0#32) := chk_ok (b := 2) (r := 0) (fun _ => rfl) (fun _ => rfl) hlt
  have hc1 : k0_chk10 (broadcast S16 2#32) v (broadcast S16 1#32) := chk_ok (b := 2) (r := 1) (fun _ => rfl) (fun _ => rfl) hlt
  have hc2 : k0_chk11 (broadcast S16 2#32) v (broadcast S16 2#32) := chk_ok (b := 2) (r := 2) (fun _ => rfl) (fun _ => rfl) hlt
  have hc3 : k0_chk12 (broadcast S16 2#32) v (broadcast S16 3#32) := chk_ok (b := 2) (r := 3) (fun _ => rfl) (fun _ => rfl) hlt
  iintro ⟨#Hring, Hin, Hidx, Hout⟩
  iapply (wp_load 𝒱₀ (th d L) none Set.univ (m := sI) (S := Finset.univ) (Finset.subset_univ _)) $$ Hidx
  iintro Hidx
  rw [← hvd]
  iapply (row_step X I d L (P := k0_chk9 (broadcast S16 2#32) v (broadcast S16 0#32)) (buf := broadcast S16 2#32) (row := broadcast S16 0#32) (v := v)
    (hin := k0_idx9_inb _ _ _) (b := 2) (ob := 0) (r := 0) (lo := lo) (t := t.val) (k0_off21_eq t) hc0 (fun _ => rfl) (fun _ => rfl) hv) $$ [Hin Hout]
  · isplitr; · iexact Hring
    isplitl [Hin]; · iexact Hin
    iexact Hout
  iintro ⟨Hin, Hout⟩
  iapply (row_step X I d L (P := k0_chk10 (broadcast S16 2#32) v (broadcast S16 1#32)) (buf := broadcast S16 2#32) (row := broadcast S16 1#32) (v := v)
    (hin := k0_idx10_inb _ _ _) (b := 2) (ob := 0) (r := 1) (lo := lo) (t := t.val) (k0_off22_eq t) hc1 (fun _ => rfl) (fun _ => rfl) hv) $$ [Hin Hout]
  · isplitr; · iexact Hring
    isplitl [Hin]; · iexact Hin
    iexact Hout
  iintro ⟨Hin, Hout⟩
  iapply (row_step X I d L (P := k0_chk11 (broadcast S16 2#32) v (broadcast S16 2#32)) (buf := broadcast S16 2#32) (row := broadcast S16 2#32) (v := v)
    (hin := k0_idx11_inb _ _ _) (b := 2) (ob := 0) (r := 2) (lo := lo) (t := t.val) (k0_off23_eq t) hc2 (fun _ => rfl) (fun _ => rfl) hv) $$ [Hin Hout]
  · isplitr; · iexact Hring
    isplitl [Hin]; · iexact Hin
    iexact Hout
  iintro ⟨Hin, Hout⟩
  iapply (row_step X I d L (P := k0_chk12 (broadcast S16 2#32) v (broadcast S16 3#32)) (buf := broadcast S16 2#32) (row := broadcast S16 3#32) (v := v)
    (hin := k0_idx12_inb _ _ _) (b := 2) (ob := 0) (r := 3) (lo := lo) (t := t.val) (k0_off24_eq t) hc3 (fun _ => rfl) (fun _ => rfl) hv) $$ [Hin Hout]
  · isplitr; · iexact Hring
    isplitl [Hin]; · iexact Hin
    iexact Hout
  iintro ⟨Hin, %g, %hg, Hout⟩
  rw [wp_ret]
  imodintro
  isplitr; · iexact Hring
  isplitl [Hin]; · iexact Hin
  isplitl [Hidx]; · iexact Hidx
  iexists g
  isplitr; · ipureintro; exact Done.next X I hg
  iexact Hout

/-- The pass over input slot 2: output slot 0 ends at the block's rows gathered. -/
theorem pass2 (hI : ∀ c, (I c).toNat < 4096) {κ : ℕ} {γ : Fin 4 → ℕ} {lo : ℕ} {a8 a9 a10 a11 a12 a13 a14 : DmaSems sig S_} (v2 : BitVec 32) (t1 : Fin k0_t1_loop.trips) (c0 c1 : BitVec 32)
    {β : Type} {kk : Unit → Prog (TpuEff nD τ sig (Elt F) Λ₀ (th d L).2) β} {Q : β → sProp 𝕄} :
    iprop(ring d L κ γ ∗ inPts X d L γ 2 lo ∗ idxPts I d L ∗ (∃ g, sO.view.loc (th d L) ↦[slotOut 0]{fullShare} g))
      ⊢ iprop((iprop(inPts X d L γ 2 lo ∗ idxPts I d L ∗ (sO.view.loc (th d L) ↦[slotOut 0]{fullShare} gOut X I lo))
            -∗ wp frame (wpE (defs₀ (F := F)) 𝒱₀ (th d L) none) Set.univ (kk ⟨⟩) Q)
        -∗ wp frame (wpE (defs₀ (F := F)) 𝒱₀ (th d L) none) Set.univ
          (Scf.Loop.for k0_t4_loop k0_t4_ok ⟨⟩ (k0_t4_body (F := F) L xV (Memref.isWhole_whole _) iV (Memref.isWhole_whole _) oV (Memref.isWhole_whole _)
            sI (Memref.isWhole_whole _) sX (Memref.isWhole_whole _) sO (Memref.isWhole_whole _) a8 a9 a10 a11 a12 a13 a14 v2 t1 c0 c1 (broadcast S16 2#32)) >>= kk) Q) := by
  iintro ⟨#Hring, Hin, Hidx, %g, Hout⟩ Hk
  iapply (Scf.wp_for_bind frame (wpE (defs₀ (F := F)) 𝒱₀ (th d L) none) Set.univ _ _ _ k0_t4_ok _ _
    (fun n _ => iprop(ring d L κ γ ∗ inPts X d L γ 2 lo ∗ idxPts I d L ∗ outPts X I d L 0 lo n 0))
    (fun t _ => trip2 X I d L hI v2 t1 c0 c1 t)) $$ [Hin Hidx Hout]
  · isplitr; · iexact Hring
    isplitl [Hin]; · iexact Hin
    isplitl [Hidx]; · iexact Hidx
    iexists g
    isplitr; · ipureintro; exact Done.zero X I g
    iexact Hout
  iintro %acc ⟨-, Hin, Hidx, %g', %hg', Hout⟩
  iapply Hk
  isplitl [Hin]; · iexact Hin
  isplitl [Hidx]; · iexact Hidx
  ihave Hout := (Entails.of_eq (pointsTo_congr (fun i hi => Done.all X I hg' i hi))) $$ Hout
  iexact Hout

/-- One trip of the pass over input slot 3: sixteen more columns of output slot 1 are filled. -/
theorem trip3 (hI : ∀ c, (I c).toNat < 4096) {κ : ℕ} {γ : Fin 4 → ℕ} {lo : ℕ} {a8 a9 a10 a11 a12 a13 a14 : DmaSems sig S_} (v2 : BitVec 32) (t1 : Fin k0_t1_loop.trips) (c0 c1 : BitVec 32)
    (t : Fin k0_t5_loop.trips) :
    iprop(ring d L κ γ ∗ inPts X d L γ 3 lo ∗ idxPts I d L ∗ outPts X I d L 1 lo t.val 0)
      ⊢ wp frame (wpE (defs₀ (F := F)) 𝒱₀ (th d L) none) Set.univ
          (k0_t5_body (F := F) L xV (Memref.isWhole_whole _) iV (Memref.isWhole_whole _) oV (Memref.isWhole_whole _) sI (Memref.isWhole_whole _) sX (Memref.isWhole_whole _)
            sO (Memref.isWhole_whole _) a8 a9 a10 a11 a12 a13 a14 v2 t1 c0 c1 (broadcast S16 3#32) t ())
          fun _ => iprop(ring d L κ γ ∗ inPts X d L γ 3 lo ∗ idxPts I d L ∗ outPts X I d L 1 lo (t.val + 1) 0) := by
  unfold k0_t5_body
  simp only [Prog.lift, Prog.bind_op, Prog.bind_ret, Prog.pure_eq_ret]
  obtain ⟨v, hvd⟩ : ∃ v, v = sI.view.readAt (Elt F) (Rect.unit (s := S4096) (k0_off28 t) S16.size (k0_off28_inb t)).toLoadRect I := ⟨_, rfl⟩
  have hv : ∀ (k : Fin 16) (c : Fin 4096), c.val = 16 * t.val + k.val → (v (lane k)).toNat = (colOf I c).val := fun k c hc => by
    rw [hvd]; exact idx_lane I hI (k0_off28_eq t) k c hc
  have hlt : ∀ x, (v x).toNat < 4096 := fun x => by rw [hvd]; exact idx_lt I hI x
  have hc0 : k0_chk13 (broadcast S16 3#32) v (broadcast S16 0#32) := chk_ok (b := 3) (r := 0) (fun _ => rfl) (fun _ => rfl) hlt
  have hc1 : k0_chk14 (broadcast S16 3#32) v (broadcast S16 1#32) := chk_ok (b := 3) (r := 1) (fun _ => rfl) (fun _ => rfl) hlt
  have hc2 : k0_chk15 (broadcast S16 3#32) v (broadcast S16 2#32) := chk_ok (b := 3) (r := 2) (fun _ => rfl) (fun _ => rfl) hlt
  have hc3 : k0_chk16 (broadcast S16 3#32) v (broadcast S16 3#32) := chk_ok (b := 3) (r := 3) (fun _ => rfl) (fun _ => rfl) hlt
  iintro ⟨#Hring, Hin, Hidx, Hout⟩
  iapply (wp_load 𝒱₀ (th d L) none Set.univ (m := sI) (S := Finset.univ) (Finset.subset_univ _)) $$ Hidx
  iintro Hidx
  rw [← hvd]
  iapply (row_step X I d L (P := k0_chk13 (broadcast S16 3#32) v (broadcast S16 0#32)) (buf := broadcast S16 3#32) (row := broadcast S16 0#32) (v := v)
    (hin := k0_idx13_inb _ _ _) (b := 3) (ob := 1) (r := 0) (lo := lo) (t := t.val) (k0_off29_eq t) hc0 (fun _ => rfl) (fun _ => rfl) hv) $$ [Hin Hout]
  · isplitr; · iexact Hring
    isplitl [Hin]; · iexact Hin
    iexact Hout
  iintro ⟨Hin, Hout⟩
  iapply (row_step X I d L (P := k0_chk14 (broadcast S16 3#32) v (broadcast S16 1#32)) (buf := broadcast S16 3#32) (row := broadcast S16 1#32) (v := v)
    (hin := k0_idx14_inb _ _ _) (b := 3) (ob := 1) (r := 1) (lo := lo) (t := t.val) (k0_off30_eq t) hc1 (fun _ => rfl) (fun _ => rfl) hv) $$ [Hin Hout]
  · isplitr; · iexact Hring
    isplitl [Hin]; · iexact Hin
    iexact Hout
  iintro ⟨Hin, Hout⟩
  iapply (row_step X I d L (P := k0_chk15 (broadcast S16 3#32) v (broadcast S16 2#32)) (buf := broadcast S16 3#32) (row := broadcast S16 2#32) (v := v)
    (hin := k0_idx15_inb _ _ _) (b := 3) (ob := 1) (r := 2) (lo := lo) (t := t.val) (k0_off31_eq t) hc2 (fun _ => rfl) (fun _ => rfl) hv) $$ [Hin Hout]
  · isplitr; · iexact Hring
    isplitl [Hin]; · iexact Hin
    iexact Hout
  iintro ⟨Hin, Hout⟩
  iapply (row_step X I d L (P := k0_chk16 (broadcast S16 3#32) v (broadcast S16 3#32)) (buf := broadcast S16 3#32) (row := broadcast S16 3#32) (v := v)
    (hin := k0_idx16_inb _ _ _) (b := 3) (ob := 1) (r := 3) (lo := lo) (t := t.val) (k0_off32_eq t) hc3 (fun _ => rfl) (fun _ => rfl) hv) $$ [Hin Hout]
  · isplitr; · iexact Hring
    isplitl [Hin]; · iexact Hin
    iexact Hout
  iintro ⟨Hin, %g, %hg, Hout⟩
  rw [wp_ret]
  imodintro
  isplitr; · iexact Hring
  isplitl [Hin]; · iexact Hin
  isplitl [Hidx]; · iexact Hidx
  iexists g
  isplitr; · ipureintro; exact Done.next X I hg
  iexact Hout

/-- The pass over input slot 3: output slot 1 ends at the block's rows gathered. -/
theorem pass3 (hI : ∀ c, (I c).toNat < 4096) {κ : ℕ} {γ : Fin 4 → ℕ} {lo : ℕ} {a8 a9 a10 a11 a12 a13 a14 : DmaSems sig S_} (v2 : BitVec 32) (t1 : Fin k0_t1_loop.trips) (c0 c1 : BitVec 32)
    {β : Type} {kk : Unit → Prog (TpuEff nD τ sig (Elt F) Λ₀ (th d L).2) β} {Q : β → sProp 𝕄} :
    iprop(ring d L κ γ ∗ inPts X d L γ 3 lo ∗ idxPts I d L ∗ (∃ g, sO.view.loc (th d L) ↦[slotOut 1]{fullShare} g))
      ⊢ iprop((iprop(inPts X d L γ 3 lo ∗ idxPts I d L ∗ (sO.view.loc (th d L) ↦[slotOut 1]{fullShare} gOut X I lo))
            -∗ wp frame (wpE (defs₀ (F := F)) 𝒱₀ (th d L) none) Set.univ (kk ⟨⟩) Q)
        -∗ wp frame (wpE (defs₀ (F := F)) 𝒱₀ (th d L) none) Set.univ
          (Scf.Loop.for k0_t5_loop k0_t5_ok ⟨⟩ (k0_t5_body (F := F) L xV (Memref.isWhole_whole _) iV (Memref.isWhole_whole _) oV (Memref.isWhole_whole _)
            sI (Memref.isWhole_whole _) sX (Memref.isWhole_whole _) sO (Memref.isWhole_whole _) a8 a9 a10 a11 a12 a13 a14 v2 t1 c0 c1 (broadcast S16 3#32)) >>= kk) Q) := by
  iintro ⟨#Hring, Hin, Hidx, %g, Hout⟩ Hk
  iapply (Scf.wp_for_bind frame (wpE (defs₀ (F := F)) 𝒱₀ (th d L) none) Set.univ _ _ _ k0_t5_ok _ _
    (fun n _ => iprop(ring d L κ γ ∗ inPts X d L γ 3 lo ∗ idxPts I d L ∗ outPts X I d L 1 lo n 0))
    (fun t _ => trip3 X I d L hI v2 t1 c0 c1 t)) $$ [Hin Hidx Hout]
  · isplitr; · iexact Hring
    isplitl [Hin]; · iexact Hin
    isplitl [Hidx]; · iexact Hidx
    iexists g
    isplitr; · ipureintro; exact Done.zero X I g
    iexact Hout
  iintro %acc ⟨-, Hin, Hidx, %g', %hg', Hout⟩
  iapply Hk
  isplitl [Hin]; · iexact Hin
  isplitl [Hidx]; · iexact Hidx
  ihave Hout := (Entails.of_eq (pointsTo_congr (fun i hi => Done.all X I hg' i hi))) $$ Hout
  iexact Hout

end Cert.Jitter

end
-- ==== Proof.Steps.lean ====
/-
  What a tile holds while its rings turn, and the steps that turn them: a copy of four rows into an input slot and the wait
  for it, a copy of a gathered slot out to its rows and the wait for it.
-/
module

public import proofs.«01_k».proof.Proof.Passes

@[expose] public section

noncomputable section

namespace Cert.Jitter

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight tok)

variable {F : FTy → Type} [FloatOps F]

local notation "𝕄" => MT nD τ sig (HIx 1) (Elt F) ℕ UU ℕ

variable (X : Vec F S4096x4096 .f32) (I : Vec F S4096 .i32) (d : Dev nD) (L : grid0.Coords)

/-- The first of the tile's 128 rows. -/
def row0 (L : grid0.Coords) : ℕ := 256 * (L 1).val + 128 * (L 0).val

/-- The share of the tile's rows of the array that the copies into each input slot read by. -/
def qx : Fin 4 → PosShare TreeShare
  | 0 => fullShare.left.left
  | 1 => fullShare.left.right
  | 2 => fullShare.right.left
  | 3 => fullShare.right.right

/-- The tile's rows of the array gathered from, and rows of the gathered array. -/
abbrev xPts (q : PosShare TreeShare) : sProp 𝕄 := xV.view.loc (th d L) ↦[rows (row0 L) (row0 L + 128)]{q} X
abbrev oPts (lo hi : ℕ) (f : Vec F S4096x4096 .f32) : sProp 𝕄 := oV.view.loc (th d L) ↦[rows lo hi]{fullShare} f
/-- An output slot nobody uses. -/
abbrev outFree (ob : ℕ) : sProp 𝕄 := iprop(∃ g, sO.view.loc (th d L) ↦[slotOut ob]{fullShare} g)

/-- What a copy of four rows credits. -/
abbrev NI : ℕ := sig.dmaCredit .scVector (Kind.scVector.table .vmem) (cc0_scratch1 : Ref sig .scVector).idx S4x4096 .f32
abbrev NO : ℕ := sig.dmaCredit .scVector (Kind.scVector.table .hbm) (main_v30_scv : Ref sig .scVector).idx S4x4096 .f32
/-- A copy in credits something. -/
theorem NI_pos : 0 < NI := sig.dmaCredit_pos _ _ _ _ _ (by decide)
/-- A copy out credits something. -/
theorem NO_pos : 0 < NO := sig.dmaCredit_pos _ _ _ _ _ (by decide)

/-- The semaphore of each input slot and of each output slot. -/
def semIn : Fin 4 → DmaSem sig
  | 0 => cc0_scratch3.sem
  | 1 => cc0_scratch4.sem
  | 2 => cc0_scratch5.sem
  | 3 => cc0_scratch6.sem
/-- The semaphore of each output slot. -/
def semOut : Fin 2 → DmaSem sig
  | 0 => cc0_scratch7.sem
  | 1 => cc0_scratch8.sem

/-- The rows from `lo` on are on their way into input slot `b`. -/
abbrev flyIn (γ : Fin 4 → ℕ) (b : Fin 4) (lo : ℕ) : sProp 𝕄 :=
  Flight EC (th d L) (.dma (semIn b)) none NI iprop(inPts X d L γ b lo ∗ xPts X d L (qx b))
/-- Input slot `b` is idle. -/
abbrev idleIn (γ : Fin 4 → ℕ) (b : Fin 4) : sProp 𝕄 :=
  iprop(semVal (th d L, .dma (semIn b)) 0 ∗ tok EC (γ b) ∗ (∃ g, sX.view.loc (th d L) ↦[slotIn b.val]{qOut} g) ∗ xPts X d L (qx b))
/-- Input slot `b`'s rows have arrived. -/
abbrev fullIn (γ : Fin 4 → ℕ) (b : Fin 4) (lo : ℕ) : sProp 𝕄 :=
  iprop(semVal (th d L, .dma (semIn b)) 0 ∗ inPts X d L γ b lo ∗ xPts X d L (qx b))
/-- Output slot `ob` is on its way out to the rows from `lo` on. -/
abbrev flyOut (ob : Fin 2) (lo : ℕ) : sProp 𝕄 :=
  Flight EC (th d L) (.dma (semOut ob)) none NO iprop(oPts d L lo (lo + 4) (gathered X I) ∗ outFree d L ob.val)
/-- Output slot `ob` is idle. -/
abbrev idleOut (ob : Fin 2) : sProp 𝕄 := iprop(semVal (th d L, .dma (semOut ob)) 0 ∗ outFree d L ob.val)

/-- An input slot whose rows have arrived may be given up as idle. -/
theorem fullIn_idle {γ : Fin 4 → ℕ} {b : Fin 4} {lo : ℕ} : fullIn X d L γ b lo ⊢ idleIn X d L γ b := by
  iintro ⟨Hv, ⟨Ht, Hs⟩, Hx⟩
  isplitl [Hv]; · iexact Hv
  isplitl [Ht]; · iexact Ht
  isplitl [Hs]
  · iexists _; iexact Hs
  · iexact Hx

section Steps

variable {α : Type} {Q : α → sProp (MT nD τ sig (HIx 1) (Elt F) ℕ UU ℕ)}

/-- Starting the copy of the rows from `r` on into input slot `b`. -/
theorem start_in {κ : ℕ} {γ : Fin 4 → ℕ} (b : Fin 4) {r : ℕ} (h1 : row0 L ≤ r) (h2 : r + 4 ≤ row0 L + 128)
    {off : Fin 2 → ℕ} {h : ∀ a, off a + S4x4096.size a ≤ S4096x4096.size a} (ho : off = ![r, 0])
    {off' : Fin 3 → ℕ} {h' : ∀ a, off' a + S1x4x4096.size a ≤ S4x4x4096.size a} (ho' : off' = ![b.val, 0, 0])
    {hsrc : (blk xV off h).view.WordExact} {hdst : (inSlot off' h').view.WordExact}
    {hsem : DmaTarget.Typed (nD := nD) .hbm (.dma (semIn b)) (DmaTarget.here (inSlot off' h') : DmaTarget nD τ sig (th d L).2 .vmem S4x4096 .f32)}
    {k : PUnit → Prog (TpuEff nD τ sig (Elt F) Λ₀ (th d L).2) α} :
    iprop(ring d L κ γ ∗ idleIn X d L γ b)
      ⊢ iprop((flyIn X d L γ b r -∗ wp frame (wpE (defs₀ (F := F)) 𝒱₀ (th d L) none) Set.univ (k ⟨⟩) Q)
        -∗ wp frame (wpE (defs₀ (F := F)) 𝒱₀ (th d L) none) Set.univ
          (.op (.enqueueDma (blk xV off h) (.here (inSlot off' h')) (.dma (semIn b)) hsrc hdst hsem) k) Q) := by
  iintro ⟨#Hring, Hv, Ht, ⟨%g, Hs⟩, Hx⟩ Hk
  iapply (wp_dmaHalf 𝒱₀ (th d L) none EC (tok_toks γ b) (src := blk xV off h) (dst := inSlot off' h') (Ss := rows (row0 L) (row0 L + 128)) (Sd := slotIn b.val)
    none NI rfl NI_pos ((subset_of_eq (xBlk_set ho)).trans (rows_subset h1 h2)) (subset_of_eq (inSlot_set ho'))) $$ [Hx Ht Hs Hv]
  · isplitr; · iexact Hring
    isplitl [Hx]; · iexact Hx
    isplitl [Ht]; · iexact Ht
    isplitl [Hs]; · iexact Hs
    iexact Hv
  iintro Hfl
  iapply Hk
  iapply (Transfers.Flight_mono EC (th d L) ?_) $$ Hfl
  iintro ⟨⟨Ht, Hs⟩, Hx⟩
  isplitr [Hx]
  · isplitl [Ht]; · iexact Ht
    ihave Hs := (Entails.of_eq (pointsTo_congr (fun i hi => land_in X ho ho' g i hi))) $$ Hs
    iexact Hs
  · iexact Hx

/-- Starting the copy of a gathered output slot out to the rows from `r` on. -/
theorem start_out (ob : Fin 2) {r : ℕ} (f : Vec F S4096x4096 .f32)
    {off : Fin 2 → ℕ} {h : ∀ a, off a + S4x4096.size a ≤ S4096x4096.size a} (ho : off = ![r, 0])
    {off' : Fin 3 → ℕ} {h' : ∀ a, off' a + S1x4x4096.size a ≤ S2x4x4096.size a} (ho' : off' = ![ob.val, 0, 0])
    {hsrc : (outSlot off' h').view.WordExact} {hdst : (blk oV off h).view.WordExact}
    {hsem : DmaTarget.Typed (nD := nD) .vmem (.dma (semOut ob)) (DmaTarget.here (blk oV off h) : DmaTarget nD τ sig (th d L).2 .hbm S4x4096 .f32)}
    {k : PUnit → Prog (TpuEff nD τ sig (Elt F) Λ₀ (th d L).2) α} :
    iprop(semVal (th d L, .dma (semOut ob)) 0 ∗ (sO.view.loc (th d L) ↦[slotOut ob.val]{fullShare} gOut X I r) ∗ oPts d L r (r + 4) f)
      ⊢ iprop((flyOut X I d L ob r -∗ wp frame (wpE (defs₀ (F := F)) 𝒱₀ (th d L) none) Set.univ (k ⟨⟩) Q)
        -∗ wp frame (wpE (defs₀ (F := F)) 𝒱₀ (th d L) none) Set.univ
          (.op (.enqueueDma (outSlot off' h') (.here (blk oV off h)) (.dma (semOut ob)) hsrc hdst hsem) k) Q) := by
  iintro ⟨Hv, Hs, Ho⟩ Hk
  ihave Hs := (Entails.of_eq (congrArg (fun S : Finset S2x4x4096.Idx => (sO.view.loc (th d L) ↦[S]{fullShare} gOut X I r : sProp 𝕄)) (outSlot_set (h := h') ho').symm)) $$ Hs
  iapply (Transfers.wp_dmaLocal EC 𝒱₀ (th d L) none (src := outSlot off' h') (dst := blk oV off h) (Sd := rows r (r + 4)) none NO rfl NO_pos
    (subset_of_eq (oBlk_set ho))) $$ [Hs Ho Hv]
  · isplitl [Hs]; · iexact Hs
    isplitl [Ho]; · iexact Ho
    iexact Hv
  iintro Hfl
  iapply Hk
  iapply (Transfers.Flight_mono EC (th d L) ?_) $$ Hfl
  iintro ⟨Ho, Hs⟩
  isplitl [Ho]
  · ihave Ho := (Entails.of_eq (pointsTo_congr (fun i hi => land_out X I ho ho' ob.isLt f i hi))) $$ Ho
    iexact Ho
  · iexists (gOut X I r)
    ihave Hs := (Entails.of_eq (congrArg (fun S : Finset S2x4x4096.Idx => (sO.view.loc (th d L) ↦[S]{fullShare} gOut X I r : sProp 𝕄)) (outSlot_set (h := h') ho'))) $$ Hs
    iexact Hs

/-- What the tile owes, having waited for nothing of the launch's. -/
abbrev owing (O : CellTallies nD τ sig (HIx 1)) (W : Waits sig (HIx 1)) : sProp 𝕄 :=
  iprop(∃ W', ⌜∀ p ∈ W', p ∈ W ∨ p.2 = none⌝ ∗ owes (th d L) O W')

/-- A wait for a copy in flight. -/
theorem wait_fly {O : CellTallies nD τ sig (HIx 1)} {W : Waits sig (HIx 1)} (hO : ∀ g, O g none = 0)
    {sp sp' : Space} {s' s : Shape} {e' e : EltTy} {κ' : Kind} {sem : DmaSem sig}
    {srcw : Memref sig (th d L).2.kind sp' s' e'} {dstw : Memref sig κ' sp s e} {hsrc : srcw.view.WordExact} {hdst : dstw.view.WordExact}
    {k : PUnit → Prog (TpuEff nD τ sig (Elt F) Λ₀ (th d L).2) α} {N : ℕ} (hN : dstw.view.dmaCredit = N) {DD : sProp 𝕄} :
    iprop(levAts (K (F := F)).L (K (F := F)).lev ∗ Flight EC (th d L) (.dma sem) none N DD ∗ owing d L O W)
      ⊢ iprop((iprop(DD ∗ semVal (th d L, .dma sem) 0 ∗ owing d L O W) -∗ wp frame (wpE (defs₀ (F := F)) 𝒱₀ (th d L) none) Set.univ (k ⟨⟩) Q)
        -∗ wp frame (wpE (defs₀ (F := F)) 𝒱₀ (th d L) none) Set.univ (.op (.waitDma2 sem srcw dstw hsrc hdst) k) Q) := by
  iintro ⟨#Hlv, Hfl, %W', %hW', HO⟩ Hk
  iapply (Transfers.wp_waitLocalO EC 𝒱₀ (th d L) none none hN) $$ [Hfl HO]
  · isplitl [Hfl]; · iexact Hfl
    isplitl [HO]; · iexact HO
    iapply ((K (F := F)).mayWait_none (SemLoc.dma sem) hO); iexact Hlv
  iintro ⟨HD, Hv, HO⟩
  iapply Hk
  isplitl [HD]; · iexact HD
  isplitl [Hv]; · iexact Hv
  iexists (insert (SemLoc.dma sem, none) W')
  isplitr
  · ipureintro
    intro p hp
    rcases Finset.mem_insert.mp hp with h | h
    · exact Or.inr (by rw [h])
    · exact hW' p h
  · iexact HO

end Steps

/-- A block of rows is its first part and the rest. -/
theorem oPts_split {a b c : ℕ} (h1 : a ≤ b) (h2 : b ≤ c) {f : Vec F S4096x4096 .f32} :
    oPts d L a c f ⊢ (iprop(oPts d L a b f ∗ oPts d L b c f) : sProp 𝕄) := by
  show (oV.view.loc (th d L) ↦[rows a c]{fullShare} f : sProp 𝕄) ⊢ _
  rw [← rows_union h1 h2]
  exact (pointsTo_union (rows_disjoint le_rfl)).1
/-- Neighbouring ranges of written rows are one range. -/
theorem oPts_join {a b c : ℕ} (h1 : a ≤ b) (h2 : b ≤ c) {f : Vec F S4096x4096 .f32} :
    (iprop(oPts d L a b f ∗ oPts d L b c f) : sProp 𝕄) ⊢ oPts d L a c f := by
  show _ ⊢ (oV.view.loc (th d L) ↦[rows a c]{fullShare} f : sProp 𝕄)
  rw [← rows_union h1 h2]
  exact (pointsTo_union (rows_disjoint le_rfl)).2

end Cert.Jitter

end
-- ==== Proof.Parts.lean ====
/-
  One block of four rows through a tile, in the four parts of a trip: wait for the block's rows, free the output slot, gather,
  send the gathered rows out, and start the copy of the block four later.
-/
module

public import proofs.«01_k».proof.Proof.Steps

@[expose] public section

noncomputable section

namespace Cert.Jitter

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight tok)

variable {F : FTy → Type} [FloatOps F]

local notation "𝕄" => MT nD τ sig (HIx 1) (Elt F) ℕ UU ℕ

/-- Block `4 t + 0` waits for the output slot from the third block on. -/
theorem cond1_iff : ∀ t : Fin k0_t1_loop.trips, k0_cond1 t = 1#1 ↔ 2 ≤ 4 * t.val := by decide +kernel
/-- Block `4 t + 0` starts the copy of the block four later as long as there is one. -/
theorem cond2_iff : ∀ t : Fin k0_t1_loop.trips, k0_cond2 t = 1#1 ↔ 4 * t.val + 4 < 32 := by decide +kernel
/-- Block `4 t + 1` waits for the output slot from the third block on. -/
theorem cond3_iff : ∀ t : Fin k0_t1_loop.trips, k0_cond3 t = 1#1 ↔ 2 ≤ 4 * t.val + 1 := by decide +kernel
/-- Block `4 t + 1` starts the copy of the block four later as long as there is one. -/
theorem cond4_iff : ∀ t : Fin k0_t1_loop.trips, k0_cond4 t = 1#1 ↔ 4 * t.val + 1 + 4 < 32 := by decide +kernel
/-- Block `4 t + 2` waits for the output slot from the third block on. -/
theorem cond5_iff : ∀ t : Fin k0_t1_loop.trips, k0_cond5 t = 1#1 ↔ 2 ≤ 4 * t.val + 2 := by decide +kernel
/-- Block `4 t + 2` starts the copy of the block four later as long as there is one. -/
theorem cond6_iff : ∀ t : Fin k0_t1_loop.trips, k0_cond6 t = 1#1 ↔ 4 * t.val + 2 + 4 < 32 := by decide +kernel
/-- Block `4 t + 3` waits for the output slot from the third block on. -/
theorem cond7_iff : ∀ t : Fin k0_t1_loop.trips, k0_cond7 t = 1#1 ↔ 2 ≤ 4 * t.val + 3 := by decide +kernel
/-- Block `4 t + 3` starts the copy of the block four later as long as there is one. -/
theorem cond8_iff : ∀ t : Fin k0_t1_loop.trips, k0_cond8 t = 1#1 ↔ 4 * t.val + 3 + 4 < 32 := by decide +kernel
/-- The outer loop has eight trips. -/
theorem trips_eq : k0_t1_loop.trips = 8 := by decide +kernel
/-- Where the copies of a trip start: so many rows after the tile's first row. -/
theorem off1_eq : ∀ (i : grid0.Coords) (r : Fin 6), k0_off1 i (k0_off1_at r) = ![row0 i + (k0_off1_at r).toNat, 0] := by decide +kernel

variable (X : Vec F S4096x4096 .f32) (I : Vec F S4096 .i32) (d : Dev nD) (L : grid0.Coords)

/-- Input slot `b` when the next of the tile's 32 blocks it takes is `m`: that block's rows are on their way in, or the blocks
    are all done. -/
def inSt (γ : Fin 4 → ℕ) (b : Fin 4) (m : ℕ) : sProp 𝕄 :=
  if m < 32 then flyIn X d L γ b (row0 L + 4 * m) else idleIn X d L γ b
/-- Output slot `ob` when the next block it takes is `m`: the block two earlier is on its way out, if there was one. -/
def outSt (ob : Fin 2) (m : ℕ) : sProp 𝕄 :=
  if 2 ≤ m then flyOut X I d L ob (row0 L + 4 * (m - 2)) else idleOut d L ob
/-- The rows known to be written when the next block is `m`. -/
abbrev oDone (m : ℕ) : sProp 𝕄 := oPts d L (row0 L) (row0 L + 4 * (m - 2)) (gathered X I)
/-- The rows no block has reached yet. -/
abbrev oRest (m : ℕ) (f : Vec F S4096x4096 .f32) : sProp 𝕄 := oPts d L (row0 L + 4 * m) (row0 L + 128) f

section Steps

variable {α : Type} {Q : α → sProp (MT nD τ sig (HIx 1) (Elt F) ℕ UU ℕ)}
variable {O : CellTallies nD τ sig (HIx 1)} {W : Waits sig (HIx 1)}

/-- The wait for block `m`'s rows. -/
theorem wait_in (hO : ∀ g, O g none = 0) {γ : Fin 4 → ℕ} (b : Fin 4) {m : ℕ} (hm : m < 32)
    {sp sp' : Space} {s' s : Shape} {e' e : EltTy} {κ' : Kind}
    {srcw : Memref sig (th d L).2.kind sp' s' e'} {dstw : Memref sig κ' sp s e} {hsrc : srcw.view.WordExact} {hdst : dstw.view.WordExact}
    {k : PUnit → Prog (TpuEff nD τ sig (Elt F) Λ₀ (th d L).2) α} (hN : dstw.view.dmaCredit = NI) :
    iprop(levAts (K (F := F)).L (K (F := F)).lev ∗ inSt X d L γ b m ∗ owing d L O W)
      ⊢ iprop((iprop(fullIn X d L γ b (row0 L + 4 * m) ∗ owing d L O W) -∗ wp frame (wpE (defs₀ (F := F)) 𝒱₀ (th d L) none) Set.univ (k ⟨⟩) Q)
        -∗ wp frame (wpE (defs₀ (F := F)) 𝒱₀ (th d L) none) Set.univ (.op (.waitDma2 (semIn b) srcw dstw hsrc hdst) k) Q) := by
  unfold inSt; rw [if_pos hm]
  iintro ⟨#Hlv, Hfl, HO⟩ Hk
  iapply (wait_fly d L hO hN) $$ [Hfl HO]
  · isplitr; · iexact Hlv
    isplitl [Hfl]; · iexact Hfl
    iexact HO
  iintro ⟨⟨Hi, Hx⟩, Hv, HO⟩
  iapply Hk
  isplitr [HO]
  · isplitl [Hv]; · iexact Hv
    isplitl [Hi]; · iexact Hi
    iexact Hx
  · iexact HO

/-- The wait, where there is one, for the block two before `m` to have gone out of the output slot. -/
theorem wait_out (hO : ∀ g, O g none = 0) (ob : Fin 2) {m : ℕ} {c : Prop} [Decidable c] (hc : c ↔ 2 ≤ m)
    {sp sp' : Space} {s' s : Shape} {e' e : EltTy} {κ' : Kind}
    {srcw : c → Memref sig (th d L).2.kind sp' s' e'} {dstw : c → Memref sig κ' sp s e} {hsrc : ∀ h, (srcw h).view.WordExact} {hdst : ∀ h, (dstw h).view.WordExact}
    {k : PUnit → Prog (TpuEff nD τ sig (Elt F) Λ₀ (th d L).2) α} (hN : ∀ h, (dstw h).view.dmaCredit = NO) :
    iprop(levAts (K (F := F)).L (K (F := F)).lev ∗ outSt X I d L ob m ∗ oDone X I d L m ∗ owing d L O W)
      ⊢ iprop((iprop(idleOut d L ob ∗ oDone X I d L (m + 1) ∗ owing d L O W) -∗ wp frame (wpE (defs₀ (F := F)) 𝒱₀ (th d L) none) Set.univ (k ⟨⟩) Q)
        -∗ wp frame (wpE (defs₀ (F := F)) 𝒱₀ (th d L) none) Set.univ
          (if h : c then .op (.waitDma2 (semOut ob) (srcw h) (dstw h) (hsrc h) (hdst h)) k else k ⟨⟩) Q) := by
  unfold outSt
  by_cases h : c
  · have hm := hc.mp h
    rw [dif_pos h, if_pos hm]
    iintro ⟨#Hlv, Hfl, Hd, HO⟩ Hk
    iapply (wait_fly d L hO (hN h)) $$ [Hfl HO]
    · isplitr; · iexact Hlv
      isplitl [Hfl]; · iexact Hfl
      iexact HO
    iintro ⟨⟨Ho, Hs⟩, Hv, HO⟩
    iapply Hk
    isplitl [Hv Hs]
    · isplitl [Hv]; · iexact Hv
      iexact Hs
    isplitr [HO]
    · ihave H := (oPts_join d L (a := row0 L) (b := row0 L + 4 * (m - 2)) (c := row0 L + 4 * (m - 2) + 4) (by omega) (by omega)) $$ [Hd Ho]
      · isplitl [Hd]; · iexact Hd
        iexact Ho
      ihave H := (Entails.of_eq (congrArg (fun n => oPts d L (row0 L) n (gathered X I)) (show row0 L + 4 * (m - 2) + 4 = row0 L + 4 * (m + 1 - 2) by omega))) $$ H
      iexact H
    · iexact HO
  · have hm : ¬ 2 ≤ m := fun h' => h (hc.mpr h')
    rw [dif_neg h, if_neg hm]
    iintro ⟨#Hlv, Hid, Hd, HO⟩ Hk
    iapply Hk
    isplitl [Hid]; · iexact Hid
    isplitr [HO]
    · ihave H := (Entails.of_eq (congrArg (fun n => oPts d L (row0 L) n (gathered X I)) (show row0 L + 4 * (m - 2) = row0 L + 4 * (m + 1 - 2) by omega))) $$ Hd
      iexact H
    · iexact HO

/-- The copy out of block `m`. -/
theorem send (ob : Fin 2) {m : ℕ} (hm : m < 32) (f : Vec F S4096x4096 .f32)
    {off : Fin 2 → ℕ} {h : ∀ a, off a + S4x4096.size a ≤ S4096x4096.size a} (ho : off = ![row0 L + 4 * m, 0])
    {off' : Fin 3 → ℕ} {h' : ∀ a, off' a + S1x4x4096.size a ≤ S2x4x4096.size a} (ho' : off' = ![ob.val, 0, 0])
    {hsrc : (outSlot off' h').view.WordExact} {hdst : (blk oV off h).view.WordExact}
    {hsem : DmaTarget.Typed (nD := nD) .vmem (.dma (semOut ob)) (DmaTarget.here (blk oV off h) : DmaTarget nD τ sig (th d L).2 .hbm S4x4096 .f32)}
    {k : PUnit → Prog (TpuEff nD τ sig (Elt F) Λ₀ (th d L).2) α} :
    iprop(semVal (th d L, .dma (semOut ob)) 0 ∗ (sO.view.loc (th d L) ↦[slotOut ob.val]{fullShare} gOut X I (row0 L + 4 * m)) ∗ oRest d L m f)
      ⊢ iprop((iprop(outSt X I d L ob (m + 2) ∗ oRest d L (m + 1) f) -∗ wp frame (wpE (defs₀ (F := F)) 𝒱₀ (th d L) none) Set.univ (k ⟨⟩) Q)
        -∗ wp frame (wpE (defs₀ (F := F)) 𝒱₀ (th d L) none) Set.univ
          (.op (.enqueueDma (outSlot off' h') (.here (blk oV off h)) (.dma (semOut ob)) hsrc hdst hsem) k) Q) := by
  unfold outSt
  rw [if_pos (by omega), show m + 2 - 2 = m by omega]
  iintro ⟨Hv, Hs, Hr⟩ Hk
  ihave ⟨Ho, Hr⟩ := (oPts_split d L (a := row0 L + 4 * m) (b := row0 L + 4 * m + 4) (c := row0 L + 128) (by omega) (by omega)) $$ Hr
  iapply (start_out X I d L ob f ho ho') $$ [Hv Hs Ho]
  · isplitl [Hv]; · iexact Hv
    isplitl [Hs]; · iexact Hs
    iexact Ho
  iintro Hfl
  iapply Hk
  isplitl [Hfl]; · iexact Hfl
  ihave H := (Entails.of_eq (congrArg (fun n => oPts d L n (row0 L + 128) f) (show row0 L + 4 * m + 4 = row0 L + 4 * (m + 1) by omega))) $$ Hr
  iexact H

/-- The start, where there is one, of the copy of the block four after `m` into the slot `m` has left. -/
theorem prefetch {κ : ℕ} {γ : Fin 4 → ℕ} (b : Fin 4) {m : ℕ} {c : Prop} [Decidable c] (hc : c ↔ m + 4 < 32)
    {off : Fin 2 → ℕ} {h : c → ∀ a, off a + S4x4096.size a ≤ S4096x4096.size a} (ho : off = ![row0 L + 4 * (m + 4), 0])
    {off' : Fin 3 → ℕ} {h' : ∀ a, off' a + S1x4x4096.size a ≤ S4x4x4096.size a} (ho' : off' = ![b.val, 0, 0])
    {hsrc : ∀ p, (blk xV off (h p)).view.WordExact} {hdst : (inSlot off' h').view.WordExact}
    {hsem : DmaTarget.Typed (nD := nD) .hbm (.dma (semIn b)) (DmaTarget.here (inSlot off' h') : DmaTarget nD τ sig (th d L).2 .vmem S4x4096 .f32)}
    {k : PUnit → Prog (TpuEff nD τ sig (Elt F) Λ₀ (th d L).2) α} :
    iprop(ring d L κ γ ∗ fullIn X d L γ b (row0 L + 4 * m))
      ⊢ iprop((inSt X d L γ b (m + 4) -∗ wp frame (wpE (defs₀ (F := F)) 𝒱₀ (th d L) none) Set.univ (k ⟨⟩) Q)
        -∗ wp frame (wpE (defs₀ (F := F)) 𝒱₀ (th d L) none) Set.univ
          (if p : c then .op (.enqueueDma (blk xV off (h p)) (.here (inSlot off' h')) (.dma (semIn b)) (hsrc p) hdst hsem) k else k ⟨⟩) Q) := by
  unfold inSt
  by_cases p : c
  · have hm := hc.mp p
    rw [dif_pos p, if_pos hm]
    iintro ⟨#Hring, Hf⟩ Hk
    ihave Hi := (fullIn_idle X d L) $$ Hf
    iapply (start_in X d L b (r := row0 L + 4 * (m + 4)) (by omega) (by omega) ho ho') $$ [Hi]
    · isplitr; · iexact Hring
      iexact Hi
    iexact Hk
  · have hm : ¬ m + 4 < 32 := fun h' => p (hc.mpr h')
    rw [dif_neg p, if_neg hm]
    iintro ⟨#Hring, Hf⟩ Hk
    ihave Hi := (fullIn_idle X d L) $$ Hf
    iapply Hk
    iexact Hi

end Steps

variable {O : CellTallies nD τ sig (HIx 1)} {W : Waits sig (HIx 1)}

/-- What the tile holds all along: the levels, the ring's invariant. -/
abbrev always (κ : ℕ) (γ : Fin 4 → ℕ) : sProp 𝕄 := iprop(levAts (K (F := F)).L (K (F := F)).lev ∗ ring d L κ γ)

/-- The first part of a trip: block `4 t`. -/
theorem part1 (hI : ∀ c, (I c).toNat < 4096) (hO : ∀ g, O g none = 0) (f : Vec F S4096x4096 .f32) {κ : ℕ} {γ : Fin 4 → ℕ} (v2 : BitVec 32) (t : Fin k0_t1_loop.trips)
    {Q : (_ : BitVec 32) ×' BitVec 32 → sProp (MT nD τ sig (HIx 1) (Elt F) ℕ UU ℕ)} :
    iprop(always d L κ γ ∗ inSt X d L γ 0 (4 * t.val) ∗ outSt X I d L 0 (4 * t.val) ∗ oDone X I d L (4 * t.val) ∗ oRest d L (4 * t.val) f ∗ idxPts I d L ∗ owing d L O W)
      ⊢ iprop((∀ r, iprop(fullIn X d L γ 0 (row0 L + 4 * (4 * t.val)) ∗ outSt X I d L 0 (4 * t.val + 2) ∗ oDone X I d L (4 * t.val + 1) ∗ oRest d L (4 * t.val + 1) f ∗ idxPts I d L ∗ owing d L O W) -∗ Q r)
        -∗ wp frame (wpE (defs₀ (F := F)) 𝒱₀ (th d L) none) Set.univ
          (k0_part1 (F := F) L xV (Memref.isWhole_whole _) iV (Memref.isWhole_whole _) oV (Memref.isWhole_whole _) sI (Memref.isWhole_whole _) sX (Memref.isWhole_whole _) sO (Memref.isWhole_whole _) cc0_scratch3 cc0_scratch4 cc0_scratch5 cc0_scratch6 cc0_scratch7 cc0_scratch8 cc0_scoped0 v2 0#32 1#32 t) Q) := by
  have ht : t.val < 8 := lt_of_lt_of_eq t.isLt trips_eq
  rw [k0_part1_eq_skeleton]
  unfold k0_part1_skel
  simp only [Prog.lift, Prog.bind_op, Prog.bind_ret, Prog.pure_eq_ret]
  iintro ⟨⟨#Hlv, #Hring⟩, Hi, Ho, Hd, Hr, HI, HO⟩ Hk
  iapply (wait_in X d L hO 0 (m := 4 * t.val) (by omega) rfl) $$ [Hi HO]
  · isplitr; · iexact Hlv
    isplitl [Hi]; · iexact Hi
    iexact HO
  iintro ⟨⟨Hv, Hi, Hx⟩, HO⟩
  iapply (wait_out X I d L hO 0 (m := 4 * t.val) (cond1_iff t) (fun _ => rfl)) $$ [Ho Hd HO]
  · isplitr; · iexact Hlv
    isplitl [Ho]; · iexact Ho
    isplitl [Hd]; · iexact Hd
    iexact HO
  iintro ⟨⟨Hvo, Hs⟩, Hd, HO⟩
  iapply (pass0 X I d L hI v2 0#32 1#32 t) $$ [Hi HI Hs]
  · isplitr; · iexact Hring
    isplitl [Hi]; · iexact Hi
    isplitl [HI]; · iexact HI
    iexact Hs
  iintro ⟨Hi, HI, Hs⟩
  iapply (send X I d L 0 (m := 4 * t.val) (by omega) f ((k0_off9_eq L t 0).trans (by simp only [row0]; congr 1; omega)) rfl) $$ [Hvo Hs Hr]
  · isplitl [Hvo]; · iexact Hvo
    isplitl [Hs]; · iexact Hs
    iexact Hr
  iintro ⟨Ho, Hr⟩
  rw [wp_ret]; imodintro
  iapply Hk
  isplitl [Hv Hi Hx]
  · isplitl [Hv]; · iexact Hv
    isplitl [Hi]; · iexact Hi
    iexact Hx
  isplitl [Ho]; · iexact Ho
  isplitl [Hd]; · iexact Hd
  isplitl [Hr]; · iexact Hr
  isplitl [HI]; · iexact HI
  iexact HO

/-- Part 2 of a trip: the copy of the block four after the one before, then block `4 t + 1`. -/
theorem part2 (hI : ∀ c, (I c).toNat < 4096) (hO : ∀ g, O g none = 0) (f : Vec F S4096x4096 .f32) {κ : ℕ} {γ : Fin 4 → ℕ} (v2 a v : BitVec 32) (t : Fin k0_t1_loop.trips)
    {Q : BitVec 32 → sProp (MT nD τ sig (HIx 1) (Elt F) ℕ UU ℕ)} :
    iprop(always d L κ γ ∗ fullIn X d L γ 0 (row0 L + 4 * (4 * t.val)) ∗ inSt X d L γ 1 (4 * t.val + 1) ∗ outSt X I d L 1 (4 * t.val + 1) ∗ oDone X I d L (4 * t.val + 1) ∗ oRest d L (4 * t.val + 1) f ∗ idxPts I d L ∗ owing d L O W)
      ⊢ iprop((∀ r, iprop(inSt X d L γ 0 (4 * t.val + 4) ∗ fullIn X d L γ 1 (row0 L + 4 * (4 * t.val + 1)) ∗ outSt X I d L 1 (4 * t.val + 1 + 2) ∗ oDone X I d L (4 * t.val + 1 + 1) ∗ oRest d L (4 * t.val + 1 + 1) f ∗ idxPts I d L ∗ owing d L O W) -∗ Q r)
        -∗ wp frame (wpE (defs₀ (F := F)) 𝒱₀ (th d L) none) Set.univ
          (k0_part2 (F := F) L xV (Memref.isWhole_whole _) iV (Memref.isWhole_whole _) oV (Memref.isWhole_whole _) sI (Memref.isWhole_whole _) sX (Memref.isWhole_whole _) sO (Memref.isWhole_whole _) cc0_scratch3 cc0_scratch4 cc0_scratch5 cc0_scratch6 cc0_scratch7 cc0_scratch8 cc0_scoped0 v2 t a v) Q) := by
  have ht : t.val < 8 := lt_of_lt_of_eq t.isLt trips_eq
  rw [k0_part2_eq_skeleton]
  unfold k0_part2_skel
  simp only [Prog.lift, Prog.bind_op, Prog.bind_ret, Prog.pure_eq_ret]
  iintro ⟨⟨#Hlv, #Hring⟩, Hp, Hi, Ho, Hd, Hr, HI, HO⟩ Hk
  iapply (prefetch X d L (κ := κ) 0 (m := 4 * t.val) (cond2_iff t) ((k0_off10_eq L t).trans (by simp only [row0]; congr 1; omega)) rfl) $$ [Hp]
  · isplitr; · iexact Hring
    iexact Hp
  iintro Hp
  iapply (wait_in X d L hO 1 (m := 4 * t.val + 1) (by omega) rfl) $$ [Hi HO]
  · isplitr; · iexact Hlv
    isplitl [Hi]; · iexact Hi
    iexact HO
  iintro ⟨⟨Hv, Hi, Hx⟩, HO⟩
  iapply (wait_out X I d L hO 1 (m := 4 * t.val + 1) (cond3_iff t) (fun _ => rfl)) $$ [Ho Hd HO]
  · isplitr; · iexact Hlv
    isplitl [Ho]; · iexact Ho
    isplitl [Hd]; · iexact Hd
    iexact HO
  iintro ⟨⟨Hvo, Hs⟩, Hd, HO⟩
  iapply (pass1 X I d L hI v2 t a v) $$ [Hi HI Hs]
  · isplitr; · iexact Hring
    isplitl [Hi]; · iexact Hi
    isplitl [HI]; · iexact HI
    iexact Hs
  iintro ⟨Hi, HI, Hs⟩
  iapply (send X I d L 1 (m := 4 * t.val + 1) (by omega) f ((k0_off17_eq L t 0).trans (by simp only [row0]; congr 1; omega)) rfl) $$ [Hvo Hs Hr]
  · isplitl [Hvo]; · iexact Hvo
    isplitl [Hs]; · iexact Hs
    iexact Hr
  iintro ⟨Ho, Hr⟩
  rw [wp_ret]; imodintro
  iapply Hk
  isplitl [Hp]; · iexact Hp
  isplitl [Hv Hi Hx]
  · isplitl [Hv]; · iexact Hv
    isplitl [Hi]; · iexact Hi
    iexact Hx
  isplitl [Ho]; · iexact Ho
  isplitl [Hd]; · iexact Hd
  isplitl [Hr]; · iexact Hr
  isplitl [HI]; · iexact HI
  iexact HO

/-- Part 3 of a trip: the copy of the block four after the one before, then block `4 t + 2`. -/
theorem part3 (hI : ∀ c, (I c).toNat < 4096) (hO : ∀ g, O g none = 0) (f : Vec F S4096x4096 .f32) {κ : ℕ} {γ : Fin 4 → ℕ} (v2 a v : BitVec 32) (t : Fin k0_t1_loop.trips)
    {Q : BitVec 32 → sProp (MT nD τ sig (HIx 1) (Elt F) ℕ UU ℕ)} :
    iprop(always d L κ γ ∗ fullIn X d L γ 1 (row0 L + 4 * (4 * t.val + 1)) ∗ inSt X d L γ 2 (4 * t.val + 2) ∗ outSt X I d L 0 (4 * t.val + 2) ∗ oDone X I d L (4 * t.val + 2) ∗ oRest d L (4 * t.val + 2) f ∗ idxPts I d L ∗ owing d L O W)
      ⊢ iprop((∀ r, iprop(inSt X d L γ 1 (4 * t.val + 1 + 4) ∗ fullIn X d L γ 2 (row0 L + 4 * (4 * t.val + 2)) ∗ outSt X I d L 0 (4 * t.val + 2 + 2) ∗ oDone X I d L (4 * t.val + 2 + 1) ∗ oRest d L (4 * t.val + 2 + 1) f ∗ idxPts I d L ∗ owing d L O W) -∗ Q r)
        -∗ wp frame (wpE (defs₀ (F := F)) 𝒱₀ (th d L) none) Set.univ
          (k0_part3 (F := F) L xV (Memref.isWhole_whole _) iV (Memref.isWhole_whole _) oV (Memref.isWhole_whole _) sI (Memref.isWhole_whole _) sX (Memref.isWhole_whole _) sO (Memref.isWhole_whole _) cc0_scratch3 cc0_scratch4 cc0_scratch5 cc0_scratch6 cc0_scratch7 cc0_scratch8 cc0_scoped0 v2 t a v) Q) := by
  have ht : t.val < 8 := lt_of_lt_of_eq t.isLt trips_eq
  rw [k0_part3_eq_skeleton]
  unfold k0_part3_skel
  simp only [Prog.lift, Prog.bind_op, Prog.bind_ret, Prog.pure_eq_ret]
  iintro ⟨⟨#Hlv, #Hring⟩, Hp, Hi, Ho, Hd, Hr, HI, HO⟩ Hk
  iapply (prefetch X d L (κ := κ) 1 (m := 4 * t.val + 1) (cond4_iff t) ((k0_off18_eq L t).trans (by simp only [row0]; congr 1; omega)) rfl) $$ [Hp]
  · isplitr; · iexact Hring
    iexact Hp
  iintro Hp
  iapply (wait_in X d L hO 2 (m := 4 * t.val + 2) (by omega) rfl) $$ [Hi HO]
  · isplitr; · iexact Hlv
    isplitl [Hi]; · iexact Hi
    iexact HO
  iintro ⟨⟨Hv, Hi, Hx⟩, HO⟩
  iapply (wait_out X I d L hO 0 (m := 4 * t.val + 2) (cond5_iff t) (fun _ => rfl)) $$ [Ho Hd HO]
  · isplitr; · iexact Hlv
    isplitl [Ho]; · iexact Ho
    isplitl [Hd]; · iexact Hd
    iexact HO
  iintro ⟨⟨Hvo, Hs⟩, Hd, HO⟩
  iapply (pass2 X I d L hI v2 t a v) $$ [Hi HI Hs]
  · isplitr; · iexact Hring
    isplitl [Hi]; · iexact Hi
    isplitl [HI]; · iexact HI
    iexact Hs
  iintro ⟨Hi, HI, Hs⟩
  iapply (send X I d L 0 (m := 4 * t.val + 2) (by omega) f ((k0_off25_eq L t 0).trans (by simp only [row0]; congr 1; omega)) rfl) $$ [Hvo Hs Hr]
  · isplitl [Hvo]; · iexact Hvo
    isplitl [Hs]; · iexact Hs
    iexact Hr
  iintro ⟨Ho, Hr⟩
  rw [wp_ret]; imodintro
  iapply Hk
  isplitl [Hp]; · iexact Hp
  isplitl [Hv Hi Hx]
  · isplitl [Hv]; · iexact Hv
    isplitl [Hi]; · iexact Hi
    iexact Hx
  isplitl [Ho]; · iexact Ho
  isplitl [Hd]; · iexact Hd
  isplitl [Hr]; · iexact Hr
  isplitl [HI]; · iexact HI
  iexact HO

/-- Part 4 of a trip: the copy of the block four after the one before, then block `4 t + 3`. -/
theorem part4 (hI : ∀ c, (I c).toNat < 4096) (hO : ∀ g, O g none = 0) (f : Vec F S4096x4096 .f32) {κ : ℕ} {γ : Fin 4 → ℕ} (v2 a v : BitVec 32) (t : Fin k0_t1_loop.trips)
    {Q : BitVec 32 → sProp (MT nD τ sig (HIx 1) (Elt F) ℕ UU ℕ)} :
    iprop(always d L κ γ ∗ fullIn X d L γ 2 (row0 L + 4 * (4 * t.val + 2)) ∗ inSt X d L γ 3 (4 * t.val + 3) ∗ outSt X I d L 1 (4 * t.val + 3) ∗ oDone X I d L (4 * t.val + 3) ∗ oRest d L (4 * t.val + 3) f ∗ idxPts I d L ∗ owing d L O W)
      ⊢ iprop((∀ r, iprop(inSt X d L γ 2 (4 * t.val + 2 + 4) ∗ fullIn X d L γ 3 (row0 L + 4 * (4 * t.val + 3)) ∗ outSt X I d L 1 (4 * t.val + 3 + 2) ∗ oDone X I d L (4 * t.val + 3 + 1) ∗ oRest d L (4 * t.val + 3 + 1) f ∗ idxPts I d L ∗ owing d L O W) -∗ Q r)
        -∗ wp frame (wpE (defs₀ (F := F)) 𝒱₀ (th d L) none) Set.univ
          (k0_part4 (F := F) L xV (Memref.isWhole_whole _) iV (Memref.isWhole_whole _) oV (Memref.isWhole_whole _) sI (Memref.isWhole_whole _) sX (Memref.isWhole_whole _) sO (Memref.isWhole_whole _) cc0_scratch3 cc0_scratch4 cc0_scratch5 cc0_scratch6 cc0_scratch7 cc0_scratch8 cc0_scoped0 v2 t a v) Q) := by
  have ht : t.val < 8 := lt_of_lt_of_eq t.isLt trips_eq
  rw [k0_part4_eq_skeleton]
  unfold k0_part4_skel
  simp only [Prog.lift, Prog.bind_op, Prog.bind_ret, Prog.pure_eq_ret]
  iintro ⟨⟨#Hlv, #Hring⟩, Hp, Hi, Ho, Hd, Hr, HI, HO⟩ Hk
  iapply (prefetch X d L (κ := κ) 2 (m := 4 * t.val + 2) (cond6_iff t) ((k0_off26_eq L t).trans (by simp only [row0]; congr 1; omega)) rfl) $$ [Hp]
  · isplitr; · iexact Hring
    iexact Hp
  iintro Hp
  iapply (wait_in X d L hO 3 (m := 4 * t.val + 3) (by omega) rfl) $$ [Hi HO]
  · isplitr; · iexact Hlv
    isplitl [Hi]; · iexact Hi
    iexact HO
  iintro ⟨⟨Hv, Hi, Hx⟩, HO⟩
  iapply (wait_out X I d L hO 1 (m := 4 * t.val + 3) (cond7_iff t) (fun _ => rfl)) $$ [Ho Hd HO]
  · isplitr; · iexact Hlv
    isplitl [Ho]; · iexact Ho
    isplitl [Hd]; · iexact Hd
    iexact HO
  iintro ⟨⟨Hvo, Hs⟩, Hd, HO⟩
  iapply (pass3 X I d L hI v2 t a v) $$ [Hi HI Hs]
  · isplitr; · iexact Hring
    isplitl [Hi]; · iexact Hi
    isplitl [HI]; · iexact HI
    iexact Hs
  iintro ⟨Hi, HI, Hs⟩
  iapply (send X I d L 1 (m := 4 * t.val + 3) (by omega) f ((k0_off33_eq L t).trans (by simp only [row0]; congr 1; omega)) rfl) $$ [Hvo Hs Hr]
  · isplitl [Hvo]; · iexact Hvo
    isplitl [Hs]; · iexact Hs
    iexact Hr
  iintro ⟨Ho, Hr⟩
  rw [wp_ret]; imodintro
  iapply Hk
  isplitl [Hp]; · iexact Hp
  isplitl [Hv Hi Hx]
  · isplitl [Hv]; · iexact Hv
    isplitl [Hi]; · iexact Hi
    iexact Hx
  isplitl [Ho]; · iexact Ho
  isplitl [Hd]; · iexact Hd
  isplitl [Hr]; · iexact Hr
  isplitl [HI]; · iexact HI
  iexact HO

end Cert.Jitter

end
-- ==== Proof.Tile.lean ====
/-
  A tile's whole call: fill the four input slots, fetch the columns to take, run eight trips of four blocks, and wait for the
  last two blocks to have gone out.
-/
module

public import proofs.«01_k».proof.Proof.Parts

@[expose] public section

noncomputable section

namespace Cert.Jitter

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight tok)

variable {F : FTy → Type} [FloatOps F]

local notation "𝕄" => MT nD τ sig (HIx 1) (Elt F) ℕ UU ℕ

variable (X : Vec F S4096x4096 .f32) (I : Vec F S4096 .i32) (d : Dev nD) (L : grid0.Coords)
variable {O : CellTallies nD τ sig (HIx 1)} {W : Waits sig (HIx 1)}

/-- Past the last block an input slot is idle. -/
theorem inSt_idle {γ : Fin 4 → ℕ} {b : Fin 4} {m : ℕ} (h : 32 ≤ m) : inSt X d L γ b m = idleIn X d L γ b := if_neg (by omega)
/-- Before the third block an output slot is idle. -/
theorem outSt_idle {ob : Fin 2} {m : ℕ} (h : m < 2) : outSt X I d L ob m = idleOut d L ob := if_neg (by omega)
/-- From the third block on an output slot is on its way out. -/
theorem outSt_fly {ob : Fin 2} {m : ℕ} (h : 2 ≤ m) : outSt X I d L ob m = flyOut X I d L ob (row0 L + 4 * (m - 2)) := if_pos h

/-- What the tile holds before trip `k`: each input slot waits for its block of the trip, each output slot has the block two
    before on its way out. -/
def tripInv (O : CellTallies nD τ sig (HIx 1)) (W : Waits sig (HIx 1)) (f : Vec F S4096x4096 .f32) (κ : ℕ) (γ : Fin 4 → ℕ) (k : ℕ) : sProp 𝕄 :=
  iprop(always d L κ γ ∗ inSt X d L γ 0 (4 * k) ∗ inSt X d L γ 1 (4 * k + 1) ∗ inSt X d L γ 2 (4 * k + 2) ∗ inSt X d L γ 3 (4 * k + 3)
    ∗ outSt X I d L 0 (4 * k) ∗ outSt X I d L 1 (4 * k + 1) ∗ oDone X I d L (4 * k) ∗ oRest d L (4 * k) f ∗ idxPts I d L ∗ owing d L O W)

set_option maxHeartbeats 2000000 in
/-- One trip: four blocks. -/
theorem trip (hI : ∀ c, (I c).toNat < 4096) (hO : ∀ g, O g none = 0) (f : Vec F S4096x4096 .f32) {κ : ℕ} {γ : Fin 4 → ℕ} (v2 : BitVec 32)
    (t : Fin k0_t1_loop.trips) (acc : BitVec 32) :
    tripInv X I d L O W f κ γ t.val
      ⊢ wp frame (wpE (defs₀ (F := F)) 𝒱₀ (th d L) none) Set.univ
          (k0_t1_body (F := F) L xV (Memref.isWhole_whole _) iV (Memref.isWhole_whole _) oV (Memref.isWhole_whole _) sI (Memref.isWhole_whole _) sX (Memref.isWhole_whole _) sO (Memref.isWhole_whole _) cc0_scratch3 cc0_scratch4 cc0_scratch5 cc0_scratch6 cc0_scratch7 cc0_scratch8 cc0_scoped0 v2 t acc) fun _ => tripInv X I d L O W f κ γ (t.val + 1) := by
  unfold tripInv k0_t1_body
  simp only [Prog.lift, Prog.bind_op, Prog.bind_ret, Prog.pure_eq_ret]
  iintro ⟨⟨#Hlv, #Hring⟩, H0, H1, H2, H3, Ho0, Ho1, Hd, Hr, HI, HO⟩
  rw [wp_bind]
  iapply (part1 X I d L hI hO f v2 t) $$ [H0 Ho0 Hd Hr HI HO]
  · isplitr
    · isplitr; · iexact Hlv
      iexact Hring
    isplitl [H0]; · iexact H0
    isplitl [Ho0]; · iexact Ho0
    isplitl [Hd]; · iexact Hd
    isplitl [Hr]; · iexact Hr
    isplitl [HI]; · iexact HI
    iexact HO
  iintro %r ⟨H0, Ho0, Hd, Hr, HI, HO⟩
  rcases r with ⟨a, v⟩
  simp only []
  rw [wp_bind]
  iapply (part2 X I d L hI hO f v2 a v t) $$ [H0 H1 Ho1 Hd Hr HI HO]
  · isplitr
    · isplitr; · iexact Hlv
      iexact Hring
    isplitl [H0]; · iexact H0
    isplitl [H1]; · iexact H1
    isplitl [Ho1]; · iexact Ho1
    isplitl [Hd]; · iexact Hd
    isplitl [Hr]; · iexact Hr
    isplitl [HI]; · iexact HI
    iexact HO
  iintro %v2 ⟨H0, H1, Ho1, Hd, Hr, HI, HO⟩
  rw [wp_bind]
  iapply (part3 X I d L hI hO f v2 a v2 t) $$ [H1 H2 Ho0 Hd Hr HI HO]
  · isplitr
    · isplitr; · iexact Hlv
      iexact Hring
    isplitl [H1]; · iexact H1
    isplitl [H2]; · iexact H2
    isplitl [Ho0]; · iexact Ho0
    isplitl [Hd]; · iexact Hd
    isplitl [Hr]; · iexact Hr
    isplitl [HI]; · iexact HI
    iexact HO
  iintro %v3 ⟨H1, H2, Ho0, Hd, Hr, HI, HO⟩
  rw [wp_bind]
  iapply (part4 X I d L hI hO f v2 a v3 t) $$ [H2 H3 Ho1 Hd Hr HI HO]
  · isplitr
    · isplitr; · iexact Hlv
      iexact Hring
    isplitl [H2]; · iexact H2
    isplitl [H3]; · iexact H3
    isplitl [Ho1]; · iexact Ho1
    isplitl [Hd]; · iexact Hd
    isplitl [Hr]; · iexact Hr
    isplitl [HI]; · iexact HI
    iexact HO
  iintro %v4 ⟨H2, H3, Ho1, Hd, Hr, HI, HO⟩
  iapply (prefetch X d L (κ := κ) 3 (m := 4 * t.val + 3) (cond8_iff t) ((k0_off34_eq L t).trans (by simp only [row0]; congr 1; omega)) rfl) $$ [H3]
  · isplitr; · iexact Hring
    iexact H3
  iintro H3
  rw [wp_ret]; imodintro
  isplitr
  · isplitr; · iexact Hlv
    iexact Hring
  isplitl [H0]; · iexact H0
  isplitl [H1]; · iexact H1
  isplitl [H2]; · iexact H2
  isplitl [H3]; · iexact H3
  isplitl [Ho0]; · iexact Ho0
  isplitl [Ho1]; · iexact Ho1
  isplitl [Hd]; · iexact Hd
  isplitl [Hr]; · iexact Hr
  isplitl [HI]; · iexact HI
  iexact HO

section First

variable {α : Type} {Q : α → sProp (MT nD τ sig (HIx 1) (Elt F) ℕ UU ℕ)}

/-- The start of the copy of an input slot's first block. -/
theorem first_in {κ : ℕ} {γ : Fin 4 → ℕ} (b : Fin 4)
    {off : Fin 2 → ℕ} {h : ∀ a, off a + S4x4096.size a ≤ S4096x4096.size a} (ho : off = ![row0 L + 4 * b.val, 0])
    {off' : Fin 3 → ℕ} {h' : ∀ a, off' a + S1x4x4096.size a ≤ S4x4x4096.size a} (ho' : off' = ![b.val, 0, 0])
    {hsrc : (blk xV off h).view.WordExact} {hdst : (inSlot off' h').view.WordExact}
    {hsem : DmaTarget.Typed (nD := nD) .hbm (.dma (semIn b)) (DmaTarget.here (inSlot off' h') : DmaTarget nD τ sig (th d L).2 .vmem S4x4096 .f32)}
    {k : PUnit → Prog (TpuEff nD τ sig (Elt F) Λ₀ (th d L).2) α} :
    iprop(ring d L κ γ ∗ idleIn X d L γ b)
      ⊢ iprop((inSt X d L γ b b.val -∗ wp frame (wpE (defs₀ (F := F)) 𝒱₀ (th d L) none) Set.univ (k ⟨⟩) Q)
        -∗ wp frame (wpE (defs₀ (F := F)) 𝒱₀ (th d L) none) Set.univ
          (.op (.enqueueDma (blk xV off h) (.here (inSlot off' h')) (.dma (semIn b)) hsrc hdst hsem) k) Q) := by
  unfold inSt
  have hb := b.isLt
  rw [if_pos (by omega)]
  exact start_in X d L b (by omega) (by omega) ho ho'

/-- The columns to take, brought into the tile's own memory. -/
theorem fetch_idx {q : PosShare TreeShare} {g : Vec F S4096 .i32} (hO : ∀ g, O g none = 0) {hsrc : iV.view.WordExact} {hdst : sI.view.WordExact} {hsrc' : iV.view.WordExact} {hdst' : sI.view.WordExact}
    {hsem : DmaTarget.Typed (nD := nD) .hbm (.dma cc0_scoped0.sem) (DmaTarget.here sI : DmaTarget nD τ sig (th d L).2 .vmem S4096 .i32)}
    {k : PUnit → Prog (TpuEff nD τ sig (Elt F) Λ₀ (th d L).2) α} :
    iprop(levAts (K (F := F)).L (K (F := F)).lev ∗ (iV.view.loc (th d L) ↦[Finset.univ]{q} I) ∗ (sI.view.loc (th d L) ↦[Finset.univ]{fullShare} g)
        ∗ semVal (th d L, .dma cc0_scoped0.sem) 0 ∗ owing d L O W)
      ⊢ iprop((iprop((iV.view.loc (th d L) ↦[Finset.univ]{q} I) ∗ idxPts I d L ∗ semVal (th d L, .dma cc0_scoped0.sem) 0 ∗ owing d L O W)
          -∗ wp frame (wpE (defs₀ (F := F)) 𝒱₀ (th d L) none) Set.univ (k ⟨⟩) Q)
        -∗ wp frame (wpE (defs₀ (F := F)) 𝒱₀ (th d L) none) Set.univ
          (.op (.enqueueDma iV (.here sI) (.dma cc0_scoped0.sem) hsrc hdst hsem)
            fun _ => .op (.waitDma2 cc0_scoped0.sem iV sI hsrc' hdst') k) Q) := by
  iintro ⟨#Hlv, Hi, Hs, Hv, HO⟩ Hk
  have hset : (iV.view.set : Finset S4096.Idx) = Finset.univ := View.set_whole _
  ihave Hi := (Entails.of_eq (congrArg (fun S : Finset S4096.Idx => (iV.view.loc (th d L) ↦[S]{q} I : sProp 𝕄)) hset.symm)) $$ Hi
  iapply (Transfers.wp_dmaLocal EC 𝒱₀ (th d L) none (src := iV) (dst := sI) (Sd := Finset.univ) none sI.view.dmaCredit rfl (View.dmaCredit_pos _ (by decide))
    (Finset.subset_univ _)) $$ [Hi Hs Hv]
  · isplitl [Hi]; · iexact Hi
    isplitl [Hs]; · iexact Hs
    iexact Hv
  iintro Hfl
  iapply (wait_fly d L hO (N := sI.view.dmaCredit) rfl) $$ [Hfl HO]
  · isplitr; · iexact Hlv
    isplitl [Hfl]; · iexact Hfl
    iexact HO
  iintro ⟨⟨Hs, Hi⟩, Hv, HO⟩
  iapply Hk
  isplitl [Hi]
  · ihave Hi := (Entails.of_eq (congrArg (fun S : Finset S4096.Idx => (iV.view.loc (th d L) ↦[S]{q} I : sProp 𝕄)) hset)) $$ Hi
    iexact Hi
  isplitl [Hs]
  · ihave Hs := (Entails.of_eq (congrArg (fun w : Vec F S4096 .i32 => (sI.view.loc (th d L) ↦[Finset.univ]{fullShare} w : sProp 𝕄)) (View.write_whole_univ _ _ _))) $$ Hs
    iexact Hs
  isplitl [Hv]; · iexact Hv
  iexact HO

end First

/-- A tile's whole call, from its slots idle to its slots idle: its 128 rows of the result hold the gathered rows. -/
theorem tile_run (hI : ∀ c, (I c).toNat < 4096) (hO : ∀ g, O g none = 0) (f : Vec F S4096x4096 .f32) (g : Vec F S4096 .i32) (q : PosShare TreeShare) {κ : ℕ} {γ : Fin 4 → ℕ} :
    iprop(always d L κ γ ∗ idleIn X d L γ 0 ∗ idleIn X d L γ 1 ∗ idleIn X d L γ 2 ∗ idleIn X d L γ 3 ∗ idleOut d L 0 ∗ idleOut d L 1
        ∗ oPts d L (row0 L) (row0 L + 128) f ∗ (iV.view.loc (th d L) ↦[Finset.univ]{q} I) ∗ (sI.view.loc (th d L) ↦[Finset.univ]{fullShare} g)
        ∗ semVal (th d L, .dma cc0_scoped0.sem) 0 ∗ owing d L O W)
      ⊢ wp frame (wpE (defs₀ (F := F)) 𝒱₀ (th d L) none) Set.univ
          (cc0_k (F := F) L xV (Memref.isWhole_whole _) iV (Memref.isWhole_whole _) oV (Memref.isWhole_whole _) sI (Memref.isWhole_whole _) sX (Memref.isWhole_whole _) sO (Memref.isWhole_whole _) cc0_scratch3 cc0_scratch4 cc0_scratch5 cc0_scratch6 cc0_scratch7 cc0_scratch8 cc0_scoped0)
          fun _ => iprop(idleIn X d L γ 0 ∗ idleIn X d L γ 1 ∗ idleIn X d L γ 2 ∗ idleIn X d L γ 3 ∗ idleOut d L 0 ∗ idleOut d L 1
            ∗ oPts d L (row0 L) (row0 L + 128) (gathered X I) ∗ (iV.view.loc (th d L) ↦[Finset.univ]{q} I) ∗ idxPts I d L
            ∗ semVal (th d L, .dma cc0_scoped0.sem) 0 ∗ owing d L O W) := by
  rw [cc0_k_eq_skeleton]
  unfold cc0_k_skel
  rw [k0_part5_eq_skeleton]
  unfold k0_part5_skel
  simp only [Prog.lift, Prog.bind_op, Prog.bind_ret, Prog.pure_eq_ret]
  iintro ⟨⟨#Hlv, #Hring⟩, H0, H1, H2, H3, Ho0, Ho1, Hr, Hi, Hs, Hv, HO⟩
  iapply (first_in X d L (κ := κ) 0 (off1_eq L 0) rfl) $$ [H0]
  · isplitr; · iexact Hring
    iexact H0
  iintro H0
  iapply (first_in X d L (κ := κ) 1 (off1_eq L 1) rfl) $$ [H1]
  · isplitr; · iexact Hring
    iexact H1
  iintro H1
  iapply (first_in X d L (κ := κ) 2 (off1_eq L 2) rfl) $$ [H2]
  · isplitr; · iexact Hring
    iexact H2
  iintro H2
  iapply (first_in X d L (κ := κ) 3 (off1_eq L 3) rfl) $$ [H3]
  · isplitr; · iexact Hring
    iexact H3
  iintro H3
  iapply (fetch_idx I d L hO) $$ [Hi Hs Hv HO]
  · isplitr; · iexact Hlv
    isplitl [Hi]; · iexact Hi
    isplitl [Hs]; · iexact Hs
    isplitl [Hv]; · iexact Hv
    iexact HO
  iintro ⟨Hi, HI, Hv, HO⟩
  ihave ⟨Hd, Hr⟩ := (oPts_split d L (a := row0 L) (b := row0 L) (c := row0 L + 128) le_rfl (by omega)) $$ Hr
  iapply (Scf.wp_for_bind frame (wpE (defs₀ (F := F)) 𝒱₀ (th d L) none) Set.univ _ _ _ k0_t1_ok _ _
    (fun n _ => tripInv X I d L O W f κ γ n)
    (fun t acc => trip X I d L hI hO f _ t acc)) $$ [H0 H1 H2 H3 Ho0 Ho1 Hd Hr HI HO]
  · unfold tripInv
    isplitr
    · isplitr; · iexact Hlv
      iexact Hring
    isplitl [H0]; · iexact H0
    isplitl [H1]; · iexact H1
    isplitl [H2]; · iexact H2
    isplitl [H3]; · iexact H3
    isplitl [Ho0]
    · ihave Ho0 := (Entails.of_eq (outSt_idle X I d L (ob := 0) (m := 4 * 0) (by omega)).symm) $$ Ho0
      iexact Ho0
    isplitl [Ho1]
    · ihave Ho1 := (Entails.of_eq (outSt_idle X I d L (ob := 1) (m := 4 * 0 + 1) (by omega)).symm) $$ Ho1
      iexact Ho1
    isplitl [Hd]
    · ihave Hd := (Entails.of_eq (pointsTo_congr (g := gathered X I) (fun i hi => by
        have := mem_rows.mp hi; omega))) $$ Hd
      iexact Hd
    isplitl [Hr]; · iexact Hr
    isplitl [HI]; · iexact HI
    iexact HO
  iintro %acc Hinv
  ihave Hinv := (Entails.of_eq (congrArg (fun n => tripInv X I d L O W f κ γ n) (show _ = 8 from trips_eq))) $$ Hinv
  unfold tripInv
  icases Hinv with ⟨-, H0, H1, H2, H3, Ho0, Ho1, Hd, Hr, HI, HO⟩
  ihave H0 := (Entails.of_eq (inSt_idle X d L (γ := γ) (b := 0) (m := 4 * 8) (by omega))) $$ H0
  ihave H1 := (Entails.of_eq (inSt_idle X d L (γ := γ) (b := 1) (m := 4 * 8 + 1) (by omega))) $$ H1
  ihave H2 := (Entails.of_eq (inSt_idle X d L (γ := γ) (b := 2) (m := 4 * 8 + 2) (by omega))) $$ H2
  ihave H3 := (Entails.of_eq (inSt_idle X d L (γ := γ) (b := 3) (m := 4 * 8 + 3) (by omega))) $$ H3
  ihave Ho0 := (Entails.of_eq (outSt_fly X I d L (ob := 0) (m := 4 * 8) (by omega))) $$ Ho0
  ihave Ho1 := (Entails.of_eq (outSt_fly X I d L (ob := 1) (m := 4 * 8 + 1) (by omega))) $$ Ho1
  iapply (wait_fly d L hO (N := NO) rfl) $$ [Ho0 HO]
  · isplitr; · iexact Hlv
    isplitl [Ho0]; · iexact Ho0
    iexact HO
  iintro ⟨⟨Hp, Hs0⟩, Hv0, HO⟩
  ihave Hd := (oPts_join d L (a := row0 L) (b := row0 L + 120) (c := row0 L + 120 + 4) (by omega) (by omega)) $$ [Hd Hp]
  · isplitl [Hd]; · iexact Hd
    iexact Hp
  iapply (wait_fly d L hO (N := NO) rfl) $$ [Ho1 HO]
  · isplitr; · iexact Hlv
    isplitl [Ho1]; · iexact Ho1
    iexact HO
  iintro ⟨⟨Hp, Hs1⟩, Hv1, HO⟩
  ihave Hd := (oPts_join d L (a := row0 L) (b := row0 L + 124) (c := row0 L + 124 + 4) (by omega) (by omega)) $$ [Hd Hp]
  · isplitl [Hd]; · iexact Hd
    iexact Hp
  rw [wp_ret]; imodintro
  isplitl [H0]; · iexact H0
  isplitl [H1]; · iexact H1
  isplitl [H2]; · iexact H2
  isplitl [H3]; · iexact H3
  isplitl [Hs0 Hv0]
  · isplitl [Hv0]; · iexact Hv0
    iexact Hs0
  isplitl [Hs1 Hv1]
  · isplitl [Hv1]; · iexact Hv1
    iexact Hs1
  isplitl [Hd]; · iexact Hd
  isplitl [Hi]; · iexact Hi
  isplitl [HI]; · iexact HI
  isplitl [Hv]; · iexact Hv
  iexact HO

end Cert.Jitter

end
-- ==== Proof.Body.lean ====
/-
  A tile's whole task: from the rows it is dealt and its own scratch buffers and semaphores, to its rows of the gathered
  array and the same scratch buffers and semaphores handed back.
-/
module

public import proofs.«01_k».proof.Proof.Tile

@[expose] public section

noncomputable section

namespace Cert.Jitter

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers (Flight tok)

variable {F : FTy → Type} [FloatOps F]

local notation "𝕄" => MT nD τ sig (HIx 1) (Elt F) ℕ UU ℕ

variable (X : Vec F S4096x4096 .f32) (I : Vec F S4096 .i32) (f : Vec F S4096x4096 .f32) (d : Dev nD) (L : grid0.Coords)

/-! ## A tile's own semaphores and scratch buffers -/

/-- The semaphores a tile uses. -/
def tileSems : Finset (SemLoc sig) :=
  {.dma (semIn 0), .dma (semIn 1), .dma (semIn 2), .dma (semIn 3), .dma (semOut 0), .dma (semOut 1), .dma cc0_scoped0.sem}
/-- The same as cells of the tile at `L`. -/
def tileCells : Finset (GSem nD τ sig) := tileSems.map ⟨fun sm => (th d L, sm), fun _ _ e => (Prod.mk.inj e).2⟩

/-- Each semaphore of the task is a scoped one of the tile. -/
theorem tileSems_scoped : ∀ sm ∈ tileSems, sm.isScoped .scVector = true := by decide

/-- The task's semaphore counters are among the tile's own. -/
theorem tileCells_own : tileCells d L ⊆ ownCells (th d L) := fun g hg => by
  obtain ⟨sm, hs, rfl⟩ := Finset.mem_map.mp hg
  exact mem_ownCells.mpr ⟨rfl, tileSems_scoped sm hs⟩

/-- A tile's semaphores at zero are the seven it uses and the others. -/
theorem ownSems0_tile : (ownSems0 (th d L) : sProp 𝕄)
    = iprop((semVal (th d L, .dma (semIn 0)) 0 ∗ semVal (th d L, .dma (semIn 1)) 0 ∗ semVal (th d L, .dma (semIn 2)) 0
        ∗ semVal (th d L, .dma (semIn 3)) 0 ∗ semVal (th d L, .dma (semOut 0)) 0 ∗ semVal (th d L, .dma (semOut 1)) 0
        ∗ semVal (th d L, .dma cc0_scoped0.sem) 0)
      ∗ bigSep (ownCells (th d L) \ tileCells d L) fun g => semVal g 0) := by
  unfold SparseCore.Cfg.ownSems0
  rw [SparseCore.bigSep_sdiff_split' (tileCells_own d L)]
  congr 1
  unfold tileCells tileSems
  rw [bigSep_map, SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

set_option maxRecDepth 100000 in
/-- A tile's buffers are its three scratch buffers and the others. -/
theorem ownBufs_tile : (ownBufs (th d L) : sProp 𝕄)
    = iprop((∃ g, (th d L).loc cc0_scratch0 ↦{fullShare} g) ∗ (∃ g, (th d L).loc cc0_scratch1 ↦{fullShare} g) ∗ (∃ g, (th d L).loc cc0_scratch2 ↦{fullShare} g)
      ∗ bigSep ((((ownRefs (τ := τ) (sig := sig) (.scVector (cV L) (jV L))).erase ((Proc.scVector (cV L) (jV L)).devRef cc0_scratch0)).erase ((Proc.scVector (cV L) (jV L)).devRef cc0_scratch1)).erase ((Proc.scVector (cV L) (jV L)).devRef cc0_scratch2))
          fun b => iprop(∃ g, ((d, b) : Loc nD τ sig) ↦{fullShare} g)) := by
  unfold SparseCore.Cfg.ownBufs
  have h10 : (Proc.scVector (cV L) (jV L)).devRef cc0_scratch1 ≠ (Proc.scVector (cV L) (jV L)).devRef cc0_scratch0 :=
    fun e => absurd (Proc.devRef_injective _ e) (show (cc0_scratch1 : Ref sig .scVector) ≠ cc0_scratch0 by decide)
  have h20 : (Proc.scVector (cV L) (jV L)).devRef cc0_scratch2 ≠ (Proc.scVector (cV L) (jV L)).devRef cc0_scratch0 :=
    fun e => absurd (Proc.devRef_injective _ e) (show (cc0_scratch2 : Ref sig .scVector) ≠ cc0_scratch0 by decide)
  have h21 : (Proc.scVector (cV L) (jV L)).devRef cc0_scratch2 ≠ (Proc.scVector (cV L) (jV L)).devRef cc0_scratch1 :=
    fun e => absurd (Proc.devRef_injective _ e) (show (cc0_scratch2 : Ref sig .scVector) ≠ cc0_scratch1 by decide)
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨h10, SparseCore.Cfg.mem_ownRefs_of_owner (p := Proc.scVector (cV L) (jV L)) (b := (Proc.scVector (cV L) (jV L)).devRef cc0_scratch1) rfl⟩),
    SparseCore.bigSep_erase' (Finset.mem_erase.mpr ⟨h21, Finset.mem_erase.mpr ⟨h20,
      SparseCore.Cfg.mem_ownRefs_of_owner (p := Proc.scVector (cV L) (jV L)) (b := (Proc.scVector (cV L) (jV L)).devRef cc0_scratch2) rfl⟩⟩)]

/-! ## The scratch buffers cut into slots and put together -/

/-- A points-to is its four quarters by share, one for each input slot. -/
theorem quarters {ℓ : Loc nD τ sig} {J : Finset (Idx ℓ)} {g : Buf (Elt F) ℓ} :
    (ℓ ↦[J]{fullShare} g : sProp 𝕄) ⊣⊢ iprop((ℓ ↦[J]{qx 0} g) ∗ (ℓ ↦[J]{qx 1} g) ∗ (ℓ ↦[J]{qx 2} g) ∗ (ℓ ↦[J]{qx 3} g)) := by
  constructor
  · iintro H
    ihave H := (pointsTo_share (PosShare.mem_left_op_right fullShare)).1 $$ H
    icases H with ⟨H, H'⟩
    ihave H := (pointsTo_share (PosShare.mem_left_op_right fullShare.left)).1 $$ H
    icases H with ⟨H0, H1⟩
    ihave H' := (pointsTo_share (PosShare.mem_left_op_right fullShare.right)).1 $$ H'
    icases H' with ⟨H2, H3⟩
    isplitl [H0]; · iexact H0
    isplitl [H1]; · iexact H1
    isplitl [H2]; · iexact H2
    iexact H3
  · iintro ⟨H0, H1, H2, H3⟩
    iapply (pointsTo_share (PosShare.mem_left_op_right fullShare)).2
    isplitl [H0 H1]
    · iapply (pointsTo_share (PosShare.mem_left_op_right fullShare.left)).2
      isplitl [H0]; · iexact H0
      iexact H1
    · iapply (pointsTo_share (PosShare.mem_left_op_right fullShare.right)).2
      isplitl [H2]; · iexact H2
      iexact H3

/-- One share of the input ring's buffer is that share of its four slots. -/
theorem slotsIn_cut {g : Vec F S4x4x4096 .f32} :
    (sX.view.loc (th d L) ↦[Finset.univ]{qOut} g : sProp 𝕄)
      ⊢ iprop((sX.view.loc (th d L) ↦[slotIn 0]{qOut} g) ∗ (sX.view.loc (th d L) ↦[slotIn 1]{qOut} g)
        ∗ (sX.view.loc (th d L) ↦[slotIn 2]{qOut} g) ∗ (sX.view.loc (th d L) ↦[slotIn 3]{qOut} g)) := by
  have h23 : Disjoint (slotIn 2) (slotIn 3) := slotIn_disjoint (by decide)
  have h1 : Disjoint (slotIn 1) (slotIn 2 ∪ slotIn 3) := Finset.disjoint_union_right.mpr ⟨slotIn_disjoint (by decide), slotIn_disjoint (by decide)⟩
  have h0 : Disjoint (slotIn 0) (slotIn 1 ∪ (slotIn 2 ∪ slotIn 3)) := Finset.disjoint_union_right.mpr
    ⟨slotIn_disjoint (by decide), Finset.disjoint_union_right.mpr ⟨slotIn_disjoint (by decide), slotIn_disjoint (by decide)⟩⟩
  iintro H
  ihave H := (Entails.of_eq (congrArg (fun J => (sX.view.loc (th d L) ↦[J]{qOut} g : sProp 𝕄)) slotIn_all.symm)) $$ H
  ihave H := (pointsTo_union h0).1 $$ H
  icases H with ⟨H0, H⟩
  ihave H := (pointsTo_union h1).1 $$ H
  icases H with ⟨H1, H⟩
  ihave H := (pointsTo_union h23).1 $$ H
  icases H with ⟨H2, H3⟩
  isplitl [H0]; · iexact H0
  isplitl [H1]; · iexact H1
  isplitl [H2]; · iexact H2
  iexact H3

/-- The four slots' shares, each at some contents, make the buffer's share at some contents. -/
theorem slotsIn_join {g0 g1 g2 g3 : Vec F S4x4x4096 .f32} :
    (iprop((sX.view.loc (th d L) ↦[slotIn 0]{qOut} g0) ∗ (sX.view.loc (th d L) ↦[slotIn 1]{qOut} g1)
        ∗ (sX.view.loc (th d L) ↦[slotIn 2]{qOut} g2) ∗ (sX.view.loc (th d L) ↦[slotIn 3]{qOut} g3)) : sProp 𝕄)
      ⊢ iprop(∃ g, sX.view.loc (th d L) ↦[Finset.univ]{qOut} g) := by
  have h23 : Disjoint (slotIn 2) (slotIn 3) := slotIn_disjoint (by decide)
  have h1 : Disjoint (slotIn 1) (slotIn 2 ∪ slotIn 3) := Finset.disjoint_union_right.mpr ⟨slotIn_disjoint (by decide), slotIn_disjoint (by decide)⟩
  have h0 : Disjoint (slotIn 0) (slotIn 1 ∪ (slotIn 2 ∪ slotIn 3)) := Finset.disjoint_union_right.mpr
    ⟨slotIn_disjoint (by decide), Finset.disjoint_union_right.mpr ⟨slotIn_disjoint (by decide), slotIn_disjoint (by decide)⟩⟩
  iintro ⟨H0, H1, H2, H3⟩
  ihave H := (pointsTo_join (ℓ := sX.view.loc (th d L)) (q := qOut) (I := slotIn 2) (J := slotIn 3) (f := g2) (g := g3) h23) $$ [H2 H3]
  · isplitl [H2] <;> iassumption
  ihave H := (pointsTo_join (ℓ := sX.view.loc (th d L)) (q := qOut) (I := slotIn 1) (J := slotIn 2 ∪ slotIn 3) (f := g1) h1) $$ [H1 H]
  · isplitl [H1] <;> iassumption
  ihave H := (pointsTo_join (ℓ := sX.view.loc (th d L)) (q := qOut) (I := slotIn 0) (J := slotIn 1 ∪ (slotIn 2 ∪ slotIn 3)) (f := g0) h0) $$ [H0 H]
  · isplitl [H0] <;> iassumption
  ihave H := (Entails.of_eq (congrArg (fun J => (sX.view.loc (th d L) ↦[J]{qOut} _ : sProp 𝕄)) slotIn_all)) $$ H
  iexists _; iexact H

/-- The output ring's buffer is its two slots. -/
theorem slotsOut_cut {g : Vec F S2x4x4096 .f32} :
    (sO.view.loc (th d L) ↦[Finset.univ]{fullShare} g : sProp 𝕄) ⊢ iprop(outFree d L 0 ∗ outFree d L 1) := by
  iintro H
  ihave H := (Entails.of_eq (congrArg (fun J => (sO.view.loc (th d L) ↦[J]{fullShare} g : sProp 𝕄)) slotOut_all.symm)) $$ H
  ihave H := (pointsTo_union (ℓ := sO.view.loc (th d L)) (I := slotOut 0) (J := slotOut 1) (slotOut_disjoint (by decide))).1 $$ H
  icases H with ⟨H0, H1⟩
  isplitl [H0]
  · iexists g; iexact H0
  · iexists g; iexact H1

/-- The two output slots, free, are the whole output ring. -/
theorem slotsOut_join :
    (iprop(outFree d L 0 ∗ outFree d L 1) : sProp 𝕄) ⊢ iprop(∃ g, sO.view.loc (th d L) ↦[Finset.univ]{fullShare} g) := by
  iintro ⟨⟨%g0, H0⟩, ⟨%g1, H1⟩⟩
  ihave H := (pointsTo_join (ℓ := sO.view.loc (th d L)) (q := fullShare) (I := slotOut 0) (J := slotOut 1) (f := g0) (g := g1) (slotOut_disjoint (by decide))) $$ [H0 H1]
  · isplitl [H0] <;> iassumption
  ihave H := (Entails.of_eq (congrArg (fun J => (sO.view.loc (th d L) ↦[J]{fullShare} _ : sProp 𝕄)) slotOut_all)) $$ H
  iexists _; iexact H

/-! ## The task -/

/-- The share of the index row a tile is dealt. -/
def ish : PosShare TreeShare :=
  Transfers.dealOf (Transfers.dealOf fullShare (Finset.univ : Finset (Fin 2)) (L 0)) (Finset.univ : Finset (Fin 16)) (L 1)

/-- What a tile is dealt: its rows of the array, a share of the index row, its rows of the result at `f`. -/
abbrev tilePts (f : Vec F S4096x4096 .f32) : sProp 𝕄 :=
  iprop((xLoc d ↦[rows (row0 L) (row0 L + 128)]{fullShare} X) ∗ (iLoc d ↦[Finset.univ]{ish L} I)
    ∗ (oLoc d ↦[rows (row0 L) (row0 L + 128)]{fullShare} f))

/-- The tokens may be kept inside an invariant. -/
instance toks_storable (γ : Fin 4 → ℕ) : Storable (upEmb : UEmb _ 𝕄) (toks (F := F) γ) := by unfold toks; infer_instance

set_option maxHeartbeats 2000000 in
/-- The task on the tile at `L`: from its rows at `f` to its rows gathered; its scratch buffers and semaphores handed back. -/
theorem tile_body (hI : ∀ c, (I c).toNat < 4096) (O : CellTallies nD τ sig (HIx 1)) (W : Waits sig (HIx 1)) (hO : ∀ g, O g none = 0) :
    iprop(levAts (K (F := F)).L (K (F := F)).lev ∗ emp ∗ tilePts X I d L f
        ∗ scopedBufs (th d L) ∗ scopedSems0 (th d L) ∗ owes (th d L) O W)
      ⊢ wp frame (wpE (defs₀ (F := F)) 𝒱₀ (th d L) none) Set.univ
          (cc0_k (F := F) L xV (Memref.isWhole_whole _) iV (Memref.isWhole_whole _) oV (Memref.isWhole_whole _)
            sI (Memref.isWhole_whole _) sX (Memref.isWhole_whole _) sO (Memref.isWhole_whole _)
            cc0_scratch3 cc0_scratch4 cc0_scratch5 cc0_scratch6 cc0_scratch7 cc0_scratch8 cc0_scoped0)
          fun _ => iprop(tilePts X I d L (gathered X I) ∗ scopedBufs (th d L) ∗ scopedSems0 (th d L)
            ∗ ∃ W', ⌜∀ p ∈ W', p ∈ W ∨ p.2 = none⌝ ∗ owes (th d L) O W') := by
  rw [(K (F := F)).scopedBufs_V launch_facts d (cV L) (jV L), SparseCore.Cfg.scopedSems0_V (Val := Elt F) d (cV L) (jV L), ownSems0_tile, ownBufs_tile]
  iintro ⟨#Hlv, -, ⟨Hx, Hi, Ho⟩, ⟨⟨%gI, HI⟩, ⟨%gX, HX⟩, ⟨%gO, HO⟩, Hbufs⟩, ⟨⟨Hv0, Hv1, Hv2, Hv3, Hw0, Hw1, Hs⟩, Hsems⟩, Hw⟩
  imod (count_alloc EC ∅) $$ [] with ⟨%γ0, -, -, T0⟩; · iempintro
  imod (count_alloc EC ∅) $$ [] with ⟨%γ1, -, -, T1⟩; · iempintro
  imod (count_alloc EC ∅) $$ [] with ⟨%γ2, -, -, T2⟩; · iempintro
  imod (count_alloc EC ∅) $$ [] with ⟨%γ3, -, -, T3⟩; · iempintro
  imod (half_alloc (Z := toks ![γ0, γ1, γ2, γ3]) (ℓ := sX.view.loc (th d L)) (f := gX)) $$ [HX] with ⟨%κ, #Hring, HX⟩
  · iexact HX
  ihave HX := (slotsIn_cut d L) $$ HX
  icases HX with ⟨X0, X1, X2, X3⟩
  ihave HO := (slotsOut_cut d L (g := gO)) $$ [HO]
  · iexact HO
  icases HO with ⟨O0, O1⟩
  ihave Hx := quarters.1 $$ Hx
  icases Hx with ⟨x0, x1, x2, x3⟩
  iapply (wp_fupd frame _ _ _ _)
  iapply (wp_wand frame) $$ [Hv0 Hv1 Hv2 Hv3 T0 T1 T2 T3 X0 X1 X2 X3 x0 x1 x2 x3 O0 O1 Hw0 Hw1 Ho Hi HI Hs Hw]
  · iapply (tile_run X I d L hI hO f gI (ish L) (κ := κ) (γ := ![γ0, γ1, γ2, γ3]) (W := W))
    isplitr
    · isplitr; · iexact Hlv
      iexact Hring
    isplitl [Hv0 T0 X0 x0]
    · isplitl [Hv0]; · iexact Hv0
      isplitl [T0]; · iexact T0
      isplitl [X0]
      · iexists gX; iexact X0
      · iexact x0
    isplitl [Hv1 T1 X1 x1]
    · isplitl [Hv1]; · iexact Hv1
      isplitl [T1]; · iexact T1
      isplitl [X1]
      · iexists gX; iexact X1
      · iexact x1
    isplitl [Hv2 T2 X2 x2]
    · isplitl [Hv2]; · iexact Hv2
      isplitl [T2]; · iexact T2
      isplitl [X2]
      · iexists gX; iexact X2
      · iexact x2
    isplitl [Hv3 T3 X3 x3]
    · isplitl [Hv3]; · iexact Hv3
      isplitl [T3]; · iexact T3
      isplitl [X3]
      · iexists gX; iexact X3
      · iexact x3
    isplitl [Hw0 O0]
    · isplitl [Hw0]; · iexact Hw0
      iexact O0
    isplitl [Hw1 O1]
    · isplitl [Hw1]; · iexact Hw1
      iexact O1
    isplitl [Ho]; · iexact Ho
    isplitl [Hi]; · iexact Hi
    isplitl [HI]; · iexact HI
    isplitl [Hs]; · iexact Hs
    iexists W
    isplitr
    · ipureintro; exact fun p hp => Or.inl hp
    · iexact Hw
  iintro %u ⟨⟨Hv0, T0, ⟨%g0, X0⟩, x0⟩, ⟨Hv1, T1, ⟨%g1, X1⟩, x1⟩, ⟨Hv2, T2, ⟨%g2, X2⟩, x2⟩, ⟨Hv3, T3, ⟨%g3, X3⟩, x3⟩, ⟨Hw0, O0⟩, ⟨Hw1, O1⟩, Ho, Hi, HI, Hs, Hw⟩
  ihave HX := (slotsIn_join d L (g0 := g0) (g1 := g1) (g2 := g2) (g3 := g3)) $$ [X0 X1 X2 X3]
  · isplitl [X0]; · iexact X0
    isplitl [X1]; · iexact X1
    isplitl [X2]; · iexact X2
    iexact X3
  icases HX with ⟨%gX', HX⟩
  ihave HO := (slotsOut_join d L) $$ [O0 O1]
  · isplitl [O0]; · iexact O0
    iexact O1
  icases HO with ⟨%gO', HO⟩
  imod (half_close (κ := κ) (Z := toks ![γ0, γ1, γ2, γ3]) (ℓ := sX.view.loc (th d L)) (g := gX') ?hz) $$ [T0 T1 T2 T3 HX] with HX
  case hz =>
    unfold toks
    iintro ⟨⟨H0, -⟩, ⟨H0', -⟩⟩
    iapply (Transfers.tok_tok_false EC _)
    isplitl [H0] <;> iassumption
  · isplitr; · iexact Hring
    isplitl [T0 T1 T2 T3]
    · unfold toks
      isplitl [T0]; · iexact T0
      isplitl [T1]; · iexact T1
      isplitl [T2]; · iexact T2
      iexact T3
    · iexact HX
  imodintro
  isplitl [x0 x1 x2 x3 Hi Ho]
  · isplitl [x0 x1 x2 x3]
    · iapply quarters.2
      isplitl [x0]; · iexact x0
      isplitl [x1]; · iexact x1
      isplitl [x2]; · iexact x2
      iexact x3
    isplitl [Hi]; · iexact Hi
    iexact Ho
  isplitl [HI HX HO Hbufs]
  · isplitl [HI]
    · iexists _; iexact HI
    isplitl [HX]
    · iexists _; iexact HX
    isplitl [HO]
    · iexists _; iexact HO
    iexact Hbufs
  isplitl [Hv0 Hv1 Hv2 Hv3 Hw0 Hw1 Hs Hsems]
  · isplitr [Hsems]
    · isplitl [Hv0]; · iexact Hv0
      isplitl [Hv1]; · iexact Hv1
      isplitl [Hv2]; · iexact Hv2
      isplitl [Hv3]; · iexact Hv3
      isplitl [Hw0]; · iexact Hw0
      isplitl [Hw1]; · iexact Hw1
      iexact Hs
    · iexact Hsems
  · iexact Hw

end Cert.Jitter

end
-- ==== Proof.Launch.lean ====
/-
  The launch's side of the SparseCore call: what the call deals its 32 tiles out of the whole arrays, that the tiles'
  shares are exactly the whole, and the obligations the launch theorem has of the call.
-/
module

public import proofs.«01_k».proof.Proof.Body

@[expose] public section

noncomputable section

namespace Cert.Jitter

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The coordinates of the tile on subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-! ## The tiles' pieces are the whole -/

/-- The rows of the tile on subcore `p.2` of SparseCore `p.1`. -/
def tileRows (p : Fin 2 × Fin 16) : Finset S4096x4096.Idx := rows (row0 (coordsV p.1 p.2)) (row0 (coordsV p.1 p.2) + 128)

/-- The first row of the tile at SparseCore `c`, subcore `i`. -/
theorem row0_coords (c : Fin 2) (i : Fin 16) : row0 (coordsV c i) = 256 * i.val + 128 * c.val := rfl

/-- Different tiles have different rows. -/
theorem tileRows_disjoint : ∀ p ∈ (Finset.univ : Finset (Fin 2 × Fin 16)), ∀ p' ∈ (Finset.univ : Finset (Fin 2 × Fin 16)), p ≠ p' →
    Disjoint (tileRows p) (tileRows p') := by
  rintro ⟨c, i⟩ - ⟨c', i'⟩ - h
  refine Finset.disjoint_left.mpr fun x h1 h2 => h ?_
  unfold tileRows at h1 h2
  rw [mem_rows, row0_coords] at h1 h2
  have := c.isLt; have := c'.isLt
  exact Prod.ext (Fin.ext (by dsimp only at *; omega)) (Fin.ext (by dsimp only at *; omega))

/-- The tiles' rows are all the rows. -/
theorem tileRows_cover : (Finset.univ : Finset (Fin 2 × Fin 16)).biUnion tileRows = Finset.univ := by
  ext x
  simp only [Finset.mem_biUnion, Finset.mem_univ, true_and, iff_true]
  have hx : (x 0).val < 4096 := (x 0).isLt
  refine ⟨(⟨(x 0).val / 128 % 2, by omega⟩, ⟨(x 0).val / 256, by omega⟩), ?_⟩
  unfold tileRows
  rw [mem_rows, row0_coords]
  dsimp only
  omega

/-- The array gathered from is the tiles' rows of it. -/
theorem xRows_deal (d : Dev nD) (X : Vec F S4096x4096 .f32) :
    (xLoc d ↦{fullShare} X : sProp 𝕄) = bigSep Finset.univ fun c : Fin 2 => bigSep Finset.univ fun i : Fin 16 =>
      xLoc d ↦[rows (row0 (coordsV c i)) (row0 (coordsV c i) + 128)]{fullShare} X := by
  have h : (xLoc d ↦{fullShare} X : sProp 𝕄) = bigSep Finset.univ fun p : Fin 2 × Fin 16 => xLoc d ↦[tileRows p]{fullShare} X := by
    rw [← pointsTo_biUnion Finset.univ (ℓ := xLoc d) tileRows tileRows_disjoint, tileRows_cover]
  exact h.trans (bigSep_univ_prod _)

/-- The gathered array is the tiles' rows of it. -/
theorem oRows_deal (d : Dev nD) (f : Vec F S4096x4096 .f32) :
    (oLoc d ↦{fullShare} f : sProp 𝕄) = bigSep Finset.univ fun c : Fin 2 => bigSep Finset.univ fun i : Fin 16 =>
      oLoc d ↦[rows (row0 (coordsV c i)) (row0 (coordsV c i) + 128)]{fullShare} f := by
  have h : (oLoc d ↦{fullShare} f : sProp 𝕄) = bigSep Finset.univ fun p : Fin 2 × Fin 16 => oLoc d ↦[tileRows p]{fullShare} f := by
    rw [← pointsTo_biUnion Finset.univ (ℓ := oLoc d) tileRows tileRows_disjoint, tileRows_cover]
  exact h.trans (bigSep_univ_prod _)

/-- The index row is the shares of it that the tiles are dealt. -/
theorem iRow_deal (d : Dev nD) (I : Vec F S4096 .i32) :
    (iLoc d ↦{fullShare} I : sProp 𝕄) = bigSep Finset.univ fun c : Fin 2 => bigSep Finset.univ fun i : Fin 16 =>
      iLoc d ↦[Finset.univ]{ish (coordsV c i)} I := by
  refine (Transfers.pointsTo_deal (Finset.univ : Finset (Fin 2)) Finset.univ_nonempty fullShare).trans (bigSep_congr fun c _ => ?_)
  exact Transfers.pointsTo_deal (Finset.univ : Finset (Fin 16)) Finset.univ_nonempty _

/-- The three arrays, whole, are what the 32 tiles are dealt. -/
theorem tiles_deal (d : Dev nD) (X : Vec F S4096x4096 .f32) (I : Vec F S4096 .i32) (f : Vec F S4096x4096 .f32) :
    (bigSep Finset.univ fun c : Fin 2 => bigSep Finset.univ fun i : Fin 16 => tilePts X I d (coordsV c i) f)
      = (iprop((xLoc d ↦{fullShare} X) ∗ (iLoc d ↦{fullShare} I) ∗ (oLoc d ↦{fullShare} f)) : sProp 𝕄) := by
  rw [xRows_deal, iRow_deal, oRows_deal, ← bigSep_sep', ← bigSep_sep']
  refine bigSep_congr fun c _ => ?_
  rw [← bigSep_sep', ← bigSep_sep']

/-! ## What the handshakes carry -/

variable (X : Dev nD → Vec F S4096x4096 .f32) (I : Dev nD → Vec F S4096 .i32) (f : Dev nD → Vec F S4096x4096 .f32)

/-- What the call deals the tile on subcore `i` of SparseCore `c`, its rows of the result at `f`. -/
abbrev dealt (d : Dev nD) (c : Fin ((K (F := F)).nCore 0)) (i : Fin ((K (F := F)).nSub 0)) (f : Dev nD → Vec F S4096x4096 .f32) : sProp 𝕄 :=
  tilePts (X d) (I d) d (coordsV (Fin.cast nCore_zero c) (Fin.cast nSub_zero i)) (f d)
/-- The rows gathered, on each device. -/
abbrev landed : Dev nD → Vec F S4096x4096 .f32 := fun d => gathered (X d) (I d)

/-- The one call takes the three arrays whole, deals each tile its rows of them and a share of the index row, and brings
    them back with the rows gathered. -/
def P : (K (F := F)).Pay (nD := nD) (Val := Elt F) (Name := ℕ) (U := UU) where
  st := fun q d c => match q with | 0 => bigSep Finset.univ fun i => dealt X I d c i f
  dn := fun q d c => match q with | 0 => bigSep Finset.univ fun i => dealt X I d c i (landed X I)
  go := fun q d c i => match q with | 0 => dealt X I d c i f
  td := fun q d c i => match q with | 0 => dealt X I d c i (landed X I)
  x := fun _ _ => iprop(emp)

/-- The call's payloads may be kept inside an invariant. -/
instance P_storable : (P (F := F) X I f).IsStorable where
  st q d c := match q with
    | 0 => (inferInstance : Storable (upEmb : UEmb _ 𝕄) (bigSep Finset.univ fun i => dealt X I d c i f))
  dn q d c := match q with
    | 0 => (inferInstance : Storable (upEmb : UEmb _ 𝕄) (bigSep Finset.univ fun i => dealt X I d c i (landed X I)))
  go q d c i := match q with
    | 0 => (inferInstance : Storable (upEmb : UEmb _ 𝕄) (dealt X I d c i f))
  td q d c i := match q with
    | 0 => (inferInstance : Storable (upEmb : UEmb _ 𝕄) (dealt X I d c i (landed X I)))

/-- A SparseCore's part of the call is its tiles' parts. -/
theorem vecSplit : (K (F := F)).VecSplit' (P X I f) 0 := by
  intro d c
  show (bigSep Finset.univ fun i => dealt X I d c i f) ⊢ |={Set.univ}=> iprop(
      (bigSep Finset.univ fun i => dealt X I d c i f)
      ∗ ((bigSep Finset.univ fun i => dealt X I d c i (landed X I)) -∗ (bigSep Finset.univ fun i => dealt X I d c i (landed X I))))
  iintro H; imodintro
  isplitl [H]; · iexact H
  iintro H; iexact H

/-- What the TensorCore hands over at the call is the three arrays, whole. -/
theorem st_eq (d : Dev nD) : (bigSep Finset.univ fun c : Fin ((K (F := F)).nCore 0) => (P X I f).st 0 d c)
    = (iprop((xLoc d ↦{fullShare} X d) ∗ (iLoc d ↦{fullShare} I d) ∗ (oLoc d ↦{fullShare} f d)) : sProp 𝕄) :=
  tiles_deal d (X d) (I d) (f d)
/-- What it is handed back is the three arrays, whole, with the rows gathered. -/
theorem dn_eq (d : Dev nD) : (bigSep Finset.univ fun c : Fin ((K (F := F)).nCore 0) => (P X I f).dn 0 d c)
    = (iprop((xLoc d ↦{fullShare} X d) ∗ (iLoc d ↦{fullShare} I d) ∗ (oLoc d ↦{fullShare} gathered (X d) (I d))) : sProp 𝕄) :=
  tiles_deal d (X d) (I d) (gathered (X d) (I d))

/-! ## The tasks -/

/-- What a vector subcore runs for the call is the tile's task at its coordinates. -/
theorem defs₀_vector (c : Fin τ.nSC) (s : Fin τ.nSub) :
    defs₀ (F := F) (.scVector c s) 0 ()
      = SparseCore.onTile hcore0 hsub0 (fun c s => cc0_k (coordsV c s)
          xV (Memref.isWhole_whole _) iV (Memref.isWhole_whole _) oV (Memref.isWhole_whole _)
          sI (Memref.isWhole_whole _) sX (Memref.isWhole_whole _) sO (Memref.isWhole_whole _)
          cc0_scratch3 cc0_scratch4 cc0_scratch5 cc0_scratch6 cc0_scratch7 cc0_scratch8 cc0_scoped0) ⟨⟩ c s := rfl

/-- What a task still owes at its end, said more weakly: the waits allowed besides may be the call's too. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task does what the call's payloads say. -/
theorem tileObl (hI : ∀ d c, (I d c).toNat < 4096) : (K (F := F)).TileObl (D (F := F)) 𝒱 (P X I f) v₀ 0 := by
  intro d c i O W hO _ _
  simp only [show (P X I f).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (X d) (I d) (f d) d (coordsV ⟨_, hc.1⟩ ⟨_, hc.2⟩) (hI d) O W hO).trans (wp_mono frame _ _ fun _ => obl_post)

/-! ## The launch's ghost state -/

/-- The launch's first ghost state: the handshakes' rounds, and no counter yet. -/
def u₀ : UU := (initOf (K (F := F)).hsCells (K (F := F)).hsToks, 1)

/-- The ghost state is its two parts. -/
theorem ownU_split (a : UH) (b : Counters) : (ownU (a, b) : sProp 𝕄) ⊢ iprop(BI.own (EH a) ∗ BI.own (EC.toEmb b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

/-- From the first ghost state come the handshakes' rounds, and nothing else is needed. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X I f).x q thr) := by
  have hx : (bigSep Finset.univ fun thr : Thread nD τ => bigSep Finset.univ fun q : Fin 1 => (P X I f).x q thr) = (iprop(emp) : sProp 𝕄) := by
    rw [show (fun thr : Thread nD τ => bigSep Finset.univ fun q : Fin 1 => (P X I f).x q thr) = fun _ => (iprop(emp) : sProp 𝕄) from
      funext fun thr => bigSep_emp_const Finset.univ]
    exact bigSep_emp_const Finset.univ
  rw [hx, show (bigSep Finset.univ fun _ : Dev nD => iprop(emp)) = (iprop(emp) : sProp 𝕄) from bigSep_emp_const Finset.univ]
  unfold u₀
  iintro Hu
  ihave H := (ownU_split _ _) $$ Hu
  icases H with ⟨HH, -⟩
  imodintro
  isplitl [HH]; · iexact HH
  isplitr <;> iempintro

end Cert.Jitter

end
-- ==== Proof.Sim.lean ====
/-
  Two straight-line @mains told side by side. Their operations come in the same order, operation by operation over the
  same functions, and write their buffers in order: the buffer numbered `n + 1` of the one program is the buffer
  numbered `n` of the other. `Agree N` says that the buffers numbered from 1 up to `N` have equal contents; `Sim N M`
  says that running the two texts takes `Agree N` to `Agree M`, and that each text is a list of operations (`seq`) that
  the library's run theorems take.
-/
module

public import proofs.«01_k».proof.KernelIdeal
public import proofs.«01_k».proof.ReferenceIdeal
public import Idealize.ShloMosaic.Lib.StableHlo.Run

@[expose] public section

noncomputable section

namespace Cert.Jitter.Host

open Idealize.ShloMosaic Idealize.ShloMosaic.StableHlo Idealize.SL.Sem

variable {Val : EltTy → Type} {τ₁ τ₂ : Topo} {sig₁ sig₂ : RefSig} {nD₁ nD₂ : ℕ} {Λ₁ Λ₂ : Labels}

/-- A buffer of the one program and the buffer of the other that it goes with: numbers `n + 1` and `n`. -/
def Twin (n : ℕ) (x : Ref sig₁ .tc) (y : Ref sig₂ .tc) : Prop :=
  x.space = .hbm ∧ y.space = .hbm ∧ y.idx.val = n ∧ x.idx.val = n + 1

/-- The buffers numbered from 1 up to `N` have equal contents. -/
def Agree (N : ℕ) (W : Valuation τ₁ sig₁ Val) (W' : Valuation τ₂ sig₂ Val) : Prop :=
  ∀ (n : ℕ) (x : Ref sig₁ .tc) (y : Ref sig₂ .tc), Twin n x y → 1 ≤ n → n < N →
    HEq (W (Proc.devRef .tc x)) (W' (Proc.devRef .tc y))

/-- Nothing agrees yet. -/
theorem agree_one (W : Valuation τ₁ sig₁ Val) (W' : Valuation τ₂ sig₂ Val) : Agree 1 W W' :=
  fun _ _ _ _ h1 h2 => absurd h2 (by omega)

/-- What is asked of each operation of a line: it touches TensorCore references only, determines its results, and writes
    no buffer numbered up to `lo`. -/
def Fine {τ : Topo} {sig : RefSig} (lo : ℕ) (op : HloOp τ sig Val) : Prop :=
  op.bufs ⊆ tcRefs τ sig ∧ op.fresh = ∅ ∧ ∀ x : Ref sig .tc, x.idx.val ≤ lo → (Proc.devRef .tc x : DevRef τ sig) ∉ op.writes

/-- The operations go together: from agreement below `N` to agreement below `N + 1`. -/
def Pair (N : ℕ) (op : HloOp τ₁ sig₁ Val) (op' : HloOp τ₂ sig₂ Val) : Prop :=
  Fine 1 op ∧ Fine 0 op' ∧ ∀ W W', Agree N W W' → Agree (N + 1) (op.result W) (op'.result W')

/-- References of the same number in main memory are the same. -/
theorem ref_eq {sig : RefSig} {x y : Ref sig .tc} (hx : x.space = .hbm) (hy : y.space = .hbm) (h : x.idx.val = y.idx.val) : x = y := by
  obtain ⟨sx, ix, nx⟩ := x
  obtain ⟨sy, iy, ny⟩ := y
  cases hx; cases hy
  obtain rfl : ix = iy := Fin.ext h
  rfl

/-- An operation that writes one buffer, numbered above `lo`, is fine. -/
theorem fine_of {τ : Topo} {sig : RefSig} {lo : ℕ} {op : HloOp τ sig Val} {y : Ref sig .tc} (hb : op.bufs ⊆ tcRefs τ sig)
    (hf : op.fresh = ∅) (hw : op.writes = {(Proc.devRef .tc y : DevRef τ sig)}) (hy : lo < y.idx.val) : Fine lo op := by
  refine ⟨hb, hf, fun x hx h => ?_⟩
  rw [hw, Finset.mem_singleton] at h
  rw [Proc.devRef_injective _ h] at hx
  omega

/-- Two operations that write twins, to equal contents, go together. -/
theorem pair_of {N : ℕ} {op : HloOp τ₁ sig₁ Val} {op' : HloOp τ₂ sig₂ Val} {y : Ref sig₁ .tc} {y' : Ref sig₂ .tc}
    (hy : Twin N y y') (hN : 1 ≤ N)
    (hb : op.bufs ⊆ tcRefs τ₁ sig₁) (hf : op.fresh = ∅) (hw : op.writes = {(Proc.devRef .tc y : DevRef τ₁ sig₁)})
    (hb' : op'.bufs ⊆ tcRefs τ₂ sig₂) (hf' : op'.fresh = ∅) (hw' : op'.writes = {(Proc.devRef .tc y' : DevRef τ₂ sig₂)})
    (hv : ∀ W W', Agree N W W' → HEq (op.result W (Proc.devRef .tc y)) (op'.result W' (Proc.devRef .tc y'))) : Pair N op op' := by
  refine ⟨fine_of hb hf hw (by rw [hy.2.2.2]; omega), fine_of hb' hf' hw' (by rw [hy.2.2.1]; omega), fun W W' h n x x' ht h1 h2 => ?_⟩
  by_cases hn : n = N
  · subst hn
    obtain rfl := ref_eq ht.1 hy.1 (ht.2.2.2.trans hy.2.2.2.symm)
    obtain rfl := ref_eq ht.2.1 hy.2.1 (ht.2.2.1.trans hy.2.2.1.symm)
    exact hv W W' h
  · have e1 : x ≠ y := by rintro rfl; exact hn (by have := ht.2.2.2.symm.trans hy.2.2.2; omega)
    have e2 : x' ≠ y' := by rintro rfl; exact hn (ht.2.2.1.symm.trans hy.2.2.1)
    rw [op.result_of_not_mem _ (by rw [hw, Finset.mem_singleton]; exact devRef_ne_of_ne e1),
      op'.result_of_not_mem _ (by rw [hw', Finset.mem_singleton]; exact devRef_ne_of_ne e2)]
    exact h n x x' ht h1 (by omega)

/-- A constant on both sides. -/
theorem Pair.nullary {N : ℕ} {y : Ref sig₁ .tc} {y' : Ref sig₂ .tc} {v : y.ty.Contents Val} {v' : y'.ty.Contents Val} {hd hd'}
    (hy : Twin N y y') (hN : 1 ≤ N) (hv : HEq v v') :
    Pair N (StableHlo.nullary (τ := τ₁) y v hd) (StableHlo.nullary (τ := τ₂) y' v' hd') :=
  pair_of hy hN (nullary_bufs_sub ..) rfl (nullary_writes ..) (nullary_bufs_sub ..) rfl (nullary_writes ..) fun W W' _ => by
    rw [nullary_result, nullary_result]; exact hv

/-- A function of one operand on both sides. -/
theorem Pair.unary {N i : ℕ} {a y : Ref sig₁ .tc} {a' y' : Ref sig₂ .tc} {f : a.ty.Contents Val → y.ty.Contents Val}
    {f' : a'.ty.Contents Val → y'.ty.Contents Val} {ha hd ha' hd'}
    (hy : Twin N y y') (hN : 1 ≤ N) (ta : Twin i a a') (hi : 1 ≤ i ∧ i < N)
    (hv : ∀ u u', HEq u u' → HEq (f u) (f' u')) :
    Pair N (StableHlo.unary (τ := τ₁) a y f ha hd) (StableHlo.unary (τ := τ₂) a' y' f' ha' hd') :=
  pair_of hy hN (unary_bufs_sub ..) rfl (unary_writes ..) (unary_bufs_sub ..) rfl (unary_writes ..) fun W W' h => by
    rw [unary_result, unary_result]; exact hv _ _ (h i a a' ta hi.1 hi.2)

/-- A function of two operands on both sides. -/
theorem Pair.binary {N i j : ℕ} {a b y : Ref sig₁ .tc} {a' b' y' : Ref sig₂ .tc}
    {f : a.ty.Contents Val → b.ty.Contents Val → y.ty.Contents Val}
    {f' : a'.ty.Contents Val → b'.ty.Contents Val → y'.ty.Contents Val} {ha hb hd ha' hb' hd'}
    (hy : Twin N y y') (hN : 1 ≤ N) (ta : Twin i a a') (hi : 1 ≤ i ∧ i < N) (tb : Twin j b b') (hj : 1 ≤ j ∧ j < N)
    (hv : ∀ u v u' v', HEq u u' → HEq v v' → HEq (f u v) (f' u' v')) :
    Pair N (StableHlo.binary (τ := τ₁) a b y f ha hb hd) (StableHlo.binary (τ := τ₂) a' b' y' f' ha' hb' hd') :=
  pair_of hy hN (binary_bufs_sub ..) rfl (binary_writes ..) (binary_bufs_sub ..) rfl (binary_writes ..) fun W W' h => by
    rw [binary_result, binary_result]; exact hv _ _ _ _ (h i a a' ta hi.1 hi.2) (h j b b' tb hj.1 hj.2)

/-- A function of three operands on both sides. -/
theorem Pair.ternary {N k i j : ℕ} {c a b y : Ref sig₁ .tc} {c' a' b' y' : Ref sig₂ .tc}
    {f : c.ty.Contents Val → a.ty.Contents Val → b.ty.Contents Val → y.ty.Contents Val}
    {f' : c'.ty.Contents Val → a'.ty.Contents Val → b'.ty.Contents Val → y'.ty.Contents Val} {hc ha hb hd hc' ha' hb' hd'}
    (hy : Twin N y y') (hN : 1 ≤ N) (tc : Twin k c c') (hk : 1 ≤ k ∧ k < N) (ta : Twin i a a') (hi : 1 ≤ i ∧ i < N)
    (tb : Twin j b b') (hj : 1 ≤ j ∧ j < N)
    (hv : ∀ w u v w' u' v', HEq w w' → HEq u u' → HEq v v' → HEq (f w u v) (f' w' u' v')) :
    Pair N (StableHlo.ternary (τ := τ₁) c a b y f hc ha hb hd) (StableHlo.ternary (τ := τ₂) c' a' b' y' f' hc' ha' hb' hd') :=
  pair_of hy hN (ternary_bufs_sub ..) rfl (ternary_writes ..) (ternary_bufs_sub ..) rfl (ternary_writes ..) fun W W' h => by
    rw [ternary_result, ternary_result]
    exact hv _ _ _ _ _ _ (h k c c' tc hk.1 hk.2) (h i a a' ta hi.1 hi.2) (h j b b' tb hj.1 hj.2)

/-- A reshape of one operand on both sides. -/
theorem Pair.reshape {N i : ℕ} {a y : Ref sig₁ .tc} {a' y' : Ref sig₂ .tc} {he hn he' hn' ha hd ha' hd'}
    (hy : Twin N y y') (hN : 1 ≤ N) (ta : Twin i a a') (hi : 1 ≤ i ∧ i < N) (hta : a.ty = a'.ty) (hty : y.ty = y'.ty) :
    Pair N (StableHlo.reshape (τ := τ₁) (Val := Val) a y he hn ha hd) (StableHlo.reshape (τ := τ₂) (Val := Val) a' y' he' hn' ha' hd') :=
  pair_of hy hN (reshape_bufs_sub ..) rfl (reshape_writes ..) (reshape_bufs_sub ..) rfl (reshape_writes ..) fun W W' h => by
    rw [reshape_result, reshape_result]
    have key : ∀ (T T' U U' : BufTy) (h1 : T = T') (h2 : U = U') (he : T.elt = U.elt) (he' : T'.elt = U'.elt)
        (hn : T.shape.ShapeCasts U.shape) (hn' : T'.shape.ShapeCasts U'.shape) (u : T.Contents Val) (u' : T'.Contents Val), HEq u u' →
        HEq (fun i => he ▸ shapeCast U.shape u hn i : U.Contents Val) (fun i => he' ▸ shapeCast U'.shape u' hn' i : U'.Contents Val) := by
      intro T T' U U' h1 h2 he he' hn hn' u u' hu
      subst h1 h2
      cases hu
      rfl
    exact key _ _ _ _ hta hty he he' hn hn' _ _ (h i a a' ta hi.1 hi.2)

/-- The lists of operations, run one after the other. -/
theorem after_two {τ : Topo} {sig : RefSig} (l₁ l₂ : List (HloOp τ sig Val)) (V : Valuation τ sig Val) :
    after (l₁ ++ l₂) V = after l₂ (after l₁ V) := by
  induction l₁ generalizing V with
  | nil => rfl
  | cons op l ih => exact ih _

/-- Two texts told side by side: each is a list of operations and then a rest (`t`, `t'`), and the lists take agreement
    below `N` to agreement below `M`. -/
def Sim (N M : ℕ) (t p : Prog (TpuEff nD₁ τ₁ sig₁ Val Λ₁ .tc) PUnit) (t' q : Prog (TpuEff nD₂ τ₂ sig₂ Val Λ₂ .tc) PUnit) : Prop :=
  ∃ (l : List (HloOp τ₁ sig₁ Val)) (l' : List (HloOp τ₂ sig₂ Val)), (p = seq l >>= fun _ => t) ∧ (q = seq l' >>= fun _ => t') ∧
    (∀ op ∈ l, Fine 1 op) ∧ (∀ op ∈ l', Fine 0 op) ∧ ∀ W W', Agree N W W' → Agree M (after l W) (after l' W')

variable {N N' M : ℕ} {t p k : Prog (TpuEff nD₁ τ₁ sig₁ Val Λ₁ .tc) PUnit} {t' q k' : Prog (TpuEff nD₂ τ₂ sig₂ Val Λ₂ .tc) PUnit}

/-- No operation on either side. -/
theorem Sim.nil : Sim (Val := Val) N N t t t' t' :=
  ⟨[], [], (pure_bind PUnit.unit fun _ => t).symm, (pure_bind PUnit.unit fun _ => t').symm, fun _ h => absurd h List.not_mem_nil, fun _ h => absurd h List.not_mem_nil,
    fun _ _ h => h⟩

/-- What is left on both sides is the rest. -/
theorem Sim.done (hk : k = t) (hk' : k' = t') : Sim (Val := Val) N N t k t' k' := by
  subst hk hk'
  exact Sim.nil

/-- One operation on both sides, then the others. -/
theorem Sim.cons {op : HloOp τ₁ sig₁ Val} {op' : HloOp τ₂ sig₂ Val} (h : Pair N op op') (hN : N + 1 = N')
    (hk : Sim N' M t k t' k') :
    Sim N M t ((hlo rfl op fun _ => .ret (⟨⟩ : PUnit)) >>= fun _ => k) t' ((hlo rfl op' fun _ => .ret (⟨⟩ : PUnit)) >>= fun _ => k') := by
  subst hN
  obtain ⟨l, l', rfl, rfl, hl, hl', ha⟩ := hk
  refine ⟨op :: l, op' :: l', (bind_assoc _ _ _).symm, (bind_assoc _ _ _).symm, ?_, ?_, fun W W' hW => ?_⟩
  · exact List.forall_mem_cons.mpr ⟨h.1, hl⟩
  · exact List.forall_mem_cons.mpr ⟨h.2.1, hl'⟩
  · rw [after_cons, after_cons]
    exact ha _ _ (h.2.2 _ _ hW)

/-- One part on both sides, then the others. -/
theorem Sim.bind (h : Sim N N' (pure ⟨⟩) p (pure ⟨⟩) q) (hk : Sim N' M t k t' k') :
    Sim N M t (p >>= fun _ => k) t' (q >>= fun _ => k') := by
  obtain ⟨l, l', rfl, rfl, hl, hl', ha⟩ := h
  obtain ⟨m, m', rfl, rfl, hm, hm', hb⟩ := hk
  have e₁ : ∀ (x : Prog (TpuEff nD₁ τ₁ sig₁ Val Λ₁ .tc) PUnit), (x >>= fun _ => pure ⟨⟩) = x := fun x => bind_pure x
  have e₂ : ∀ (x : Prog (TpuEff nD₂ τ₂ sig₂ Val Λ₂ .tc) PUnit), (x >>= fun _ => pure ⟨⟩) = x := fun x => bind_pure x
  refine ⟨l ++ m, l' ++ m', ?_, ?_, List.forall_mem_append.mpr ⟨hl, hm⟩, List.forall_mem_append.mpr ⟨hl', hm'⟩, fun W W' hW => ?_⟩
  · rw [e₁, seq_append, bind_assoc]
  · rw [e₂, seq_append, bind_assoc]
  · rw [after_two, after_two]
    exact hb _ _ (ha _ _ hW)

/-- Equal functions of equal operands are equal. -/
theorem heq_un {T T' U U' : BufTy} (hT : T = T') (hU : U = U') {f : T.Contents Val → U.Contents Val} {f' : T'.Contents Val → U'.Contents Val}
    (hf : HEq f f') (u : T.Contents Val) (u' : T'.Contents Val) (h : HEq u u') : HEq (f u) (f' u') := by
  subst hT hU
  cases hf
  cases h
  rfl

/-- Equal functions of two equal operands are equal. -/
theorem heq_bin {S S' T T' U U' : BufTy} (hS : S = S') (hT : T = T') (hU : U = U') {f : S.Contents Val → T.Contents Val → U.Contents Val}
    {f' : S'.Contents Val → T'.Contents Val → U'.Contents Val} (hf : HEq f f') (u : S.Contents Val) (v : T.Contents Val)
    (u' : S'.Contents Val) (v' : T'.Contents Val) (h : HEq u u') (h' : HEq v v') : HEq (f u v) (f' u' v') := by
  subst hS hT hU
  cases hf
  cases h
  cases h'
  rfl

section Steps

variable {N N' M i j l : ℕ} {t k : Prog (TpuEff nD₁ τ₁ sig₁ Val Λ₁ .tc) PUnit} {t' k' : Prog (TpuEff nD₂ τ₂ sig₂ Val Λ₂ .tc) PUnit}
  {a b c y : Ref sig₁ .tc} {a' b' c' y' : Ref sig₂ .tc} {ha hb hc hd ha' hb' hc' hd'}

/-- A constant on both sides, then the others. -/
theorem Sim.con {v : y.ty.Contents Val} {v' : y'.ty.Contents Val} (hk : Sim N' M t k t' k')
    (hy : Twin N y y' := by exact ⟨rfl, rfl, rfl, rfl⟩) (hN : N + 1 = N' := by simp only [Nat.reduceAdd]; rfl) (h1 : 1 ≤ N := by decide)
    (hv : HEq v v' := by exact HEq.rfl) :
    Sim N M t ((hlo rfl (StableHlo.nullary (τ := τ₁) y v hd) fun _ => .ret (⟨⟩ : PUnit)) >>= fun _ => k)
      t' ((hlo rfl (StableHlo.nullary (τ := τ₂) y' v' hd') fun _ => .ret (⟨⟩ : PUnit)) >>= fun _ => k') :=
  Sim.cons (Pair.nullary hy h1 hv) hN hk

/-- A function of one operand on both sides, then the others. -/
theorem Sim.un {f : a.ty.Contents Val → y.ty.Contents Val} {f' : a'.ty.Contents Val → y'.ty.Contents Val} (hk : Sim N' M t k t' k')
    (hy : Twin N y y' := by exact ⟨rfl, rfl, rfl, rfl⟩) (hN : N + 1 = N' := by simp only [Nat.reduceAdd]; rfl) (h1 : 1 ≤ N := by decide)
    (ta : Twin i a a' := by exact ⟨rfl, rfl, rfl, rfl⟩) (hi : 1 ≤ i ∧ i < N := by decide)
    (hta : a.ty = a'.ty := by exact rfl) (hty : y.ty = y'.ty := by exact rfl) (hf : HEq f f' := by exact HEq.rfl) :
    Sim N M t ((hlo rfl (StableHlo.unary (τ := τ₁) a y f ha hd) fun _ => .ret (⟨⟩ : PUnit)) >>= fun _ => k)
      t' ((hlo rfl (StableHlo.unary (τ := τ₂) a' y' f' ha' hd') fun _ => .ret (⟨⟩ : PUnit)) >>= fun _ => k') :=
  Sim.cons (Pair.unary hy h1 ta hi (heq_un hta hty hf)) hN hk

/-- A function of two operands on both sides, then the others. -/
theorem Sim.bin {f : a.ty.Contents Val → b.ty.Contents Val → y.ty.Contents Val}
    {f' : a'.ty.Contents Val → b'.ty.Contents Val → y'.ty.Contents Val} (hk : Sim N' M t k t' k')
    (hy : Twin N y y' := by exact ⟨rfl, rfl, rfl, rfl⟩) (hN : N + 1 = N' := by simp only [Nat.reduceAdd]; rfl) (h1 : 1 ≤ N := by decide)
    (ta : Twin i a a' := by exact ⟨rfl, rfl, rfl, rfl⟩) (hi : 1 ≤ i ∧ i < N := by decide)
    (tb : Twin j b b' := by exact ⟨rfl, rfl, rfl, rfl⟩) (hj : 1 ≤ j ∧ j < N := by decide)
    (hta : a.ty = a'.ty := by exact rfl) (htb : b.ty = b'.ty := by exact rfl) (hty : y.ty = y'.ty := by exact rfl)
    (hf : HEq f f' := by exact HEq.rfl) :
    Sim N M t ((hlo rfl (StableHlo.binary (τ := τ₁) a b y f ha hb hd) fun _ => .ret (⟨⟩ : PUnit)) >>= fun _ => k)
      t' ((hlo rfl (StableHlo.binary (τ := τ₂) a' b' y' f' ha' hb' hd') fun _ => .ret (⟨⟩ : PUnit)) >>= fun _ => k') :=
  Sim.cons (Pair.binary hy h1 ta hi tb hj (heq_bin hta htb hty hf)) hN hk

/-- A reshape on both sides, then the others. -/
theorem Sim.resh {he hn he' hn'} (hk : Sim N' M t k t' k')
    (hy : Twin N y y' := by exact ⟨rfl, rfl, rfl, rfl⟩) (hN : N + 1 = N' := by simp only [Nat.reduceAdd]; rfl) (h1 : 1 ≤ N := by decide)
    (ta : Twin i a a' := by exact ⟨rfl, rfl, rfl, rfl⟩) (hi : 1 ≤ i ∧ i < N := by decide)
    (hta : a.ty = a'.ty := by exact rfl) (hty : y.ty = y'.ty := by exact rfl) :
    Sim N M t ((hlo rfl (StableHlo.reshape (τ := τ₁) (Val := Val) a y he hn ha hd) fun _ => .ret (⟨⟩ : PUnit)) >>= fun _ => k)
      t' ((hlo rfl (StableHlo.reshape (τ := τ₂) (Val := Val) a' y' he' hn' ha' hd') fun _ => .ret (⟨⟩ : PUnit)) >>= fun _ => k') :=
  Sim.cons (Pair.reshape hy h1 ta hi hta hty) hN hk

/-- A text with nothing after it. -/
theorem Sim.stop (h : Sim N M (pure ⟨⟩) (k >>= fun _ => pure ⟨⟩) (pure ⟨⟩) (k' >>= fun _ => pure ⟨⟩)) :
    Sim N M (pure ⟨⟩) k (pure ⟨⟩) k' := by
  have e₁ : (k >>= fun _ => pure ⟨⟩) = k := bind_pure k
  have e₂ : (k' >>= fun _ => pure ⟨⟩) = k' := bind_pure k'
  rwa [e₁, e₂] at h

end Steps

end Cert.Jitter.Host

end
-- ==== Proof.Draws.lean ====
/-
  The splitting of the key, the kernel's @main and the reference's side by side: operation for operation the same.
-/
module

public import proofs.«01_k».proof.Proof.Sim
public import proofs.«01_k».proof.Proof.Gen.KernelIdeal
public import proofs.«01_k».proof.Proof.Gen.ReferenceIdeal

@[expose] public section

noncomputable section

namespace Cert.Jitter.Host

open Idealize.ShloMosaic Idealize.ShloMosaic.StableHlo Idealize.SL.Sem

variable {F : FTy → Type} [FloatOps F]

set_option maxHeartbeats 8000000 in
/-- The hashing inside the splitting of the key goes together on both sides. -/
theorem split_hash : Sim (Val := Elt F) 24 246 (pure ⟨⟩)
    (Cert.KernelIdeal.fn_threefry2x32.body Cert.KernelIdeal.main_call0.v1 Cert.KernelIdeal.main_call0.v3 Cert.KernelIdeal.main_call0.v10 Cert.KernelIdeal.main_call0.v9 Cert.KernelIdeal.main_call0.call0) (pure ⟨⟩)
    (Cert.ReferenceIdeal.fn_threefry2x32.body Cert.ReferenceIdeal.main_call0.v1 Cert.ReferenceIdeal.main_call0.v3 Cert.ReferenceIdeal.main_call0.v10 Cert.ReferenceIdeal.main_call0.v9 Cert.ReferenceIdeal.main_call0.call0) := by
  unfold Cert.KernelIdeal.fn_threefry2x32.body Cert.ReferenceIdeal.fn_threefry2x32.body
  refine Sim.bind (N' := 84) ?_ ?_
  · unfold Cert.KernelIdeal.fn_threefry2x32.body_part0 Cert.ReferenceIdeal.fn_threefry2x32.body_part0
    refine Sim.bin ?_; refine Sim.con ?_; refine Sim.bin ?_; refine Sim.un ?_; refine Sim.bin ?_
    refine Sim.un ?_; refine Sim.bin ?_; refine Sim.bin ?_; refine Sim.con ?_; refine Sim.un ?_
    refine Sim.bin ?_; refine Sim.con ?_; refine Sim.un ?_; refine Sim.bin ?_; refine Sim.bin ?_
    refine Sim.bin ?_; refine Sim.bin ?_; refine Sim.con ?_; refine Sim.un ?_; refine Sim.bin ?_
    refine Sim.con ?_; refine Sim.un ?_; refine Sim.bin ?_; refine Sim.bin ?_; refine Sim.bin ?_
    refine Sim.bin ?_; refine Sim.con ?_; refine Sim.un ?_; refine Sim.bin ?_; refine Sim.con ?_
    refine Sim.un ?_; refine Sim.bin ?_; refine Sim.bin ?_; refine Sim.bin ?_; refine Sim.bin ?_
    refine Sim.con ?_; refine Sim.un ?_; refine Sim.bin ?_; refine Sim.con ?_; refine Sim.un ?_
    refine Sim.bin ?_; refine Sim.bin ?_; refine Sim.bin ?_; refine Sim.un ?_; refine Sim.bin ?_
    refine Sim.un ?_; refine Sim.bin ?_; refine Sim.con ?_; refine Sim.un ?_; refine Sim.bin ?_
    refine Sim.bin ?_; refine Sim.con ?_; refine Sim.un ?_; refine Sim.bin ?_; refine Sim.con ?_
    refine Sim.un ?_; refine Sim.bin ?_; refine Sim.bin ?_; refine Sim.bin ?_
    refine Sim.stop ?_
    refine Sim.bin ?_
    exact Sim.nil
  refine Sim.bind (N' := 144) ?_ ?_
  · unfold Cert.KernelIdeal.fn_threefry2x32.body_part1 Cert.ReferenceIdeal.fn_threefry2x32.body_part1
    refine Sim.con ?_; refine Sim.un ?_; refine Sim.bin ?_; refine Sim.con ?_; refine Sim.un ?_
    refine Sim.bin ?_; refine Sim.bin ?_; refine Sim.bin ?_; refine Sim.bin ?_; refine Sim.con ?_
    refine Sim.un ?_; refine Sim.bin ?_; refine Sim.con ?_; refine Sim.un ?_; refine Sim.bin ?_
    refine Sim.bin ?_; refine Sim.bin ?_; refine Sim.bin ?_; refine Sim.con ?_; refine Sim.un ?_
    refine Sim.bin ?_; refine Sim.con ?_; refine Sim.un ?_; refine Sim.bin ?_; refine Sim.bin ?_
    refine Sim.bin ?_; refine Sim.un ?_; refine Sim.bin ?_; refine Sim.un ?_; refine Sim.bin ?_
    refine Sim.con ?_; refine Sim.un ?_; refine Sim.bin ?_; refine Sim.bin ?_; refine Sim.con ?_
    refine Sim.un ?_; refine Sim.bin ?_; refine Sim.con ?_; refine Sim.un ?_; refine Sim.bin ?_
    refine Sim.bin ?_; refine Sim.bin ?_; refine Sim.bin ?_; refine Sim.con ?_; refine Sim.un ?_
    refine Sim.bin ?_; refine Sim.con ?_; refine Sim.un ?_; refine Sim.bin ?_; refine Sim.bin ?_
    refine Sim.bin ?_; refine Sim.bin ?_; refine Sim.con ?_; refine Sim.un ?_; refine Sim.bin ?_
    refine Sim.con ?_; refine Sim.un ?_; refine Sim.bin ?_; refine Sim.bin ?_
    refine Sim.stop ?_
    refine Sim.bin ?_
    exact Sim.nil
  refine Sim.bind (N' := 204) ?_ ?_
  · unfold Cert.KernelIdeal.fn_threefry2x32.body_part2 Cert.ReferenceIdeal.fn_threefry2x32.body_part2
    refine Sim.bin ?_; refine Sim.con ?_; refine Sim.un ?_; refine Sim.bin ?_; refine Sim.con ?_
    refine Sim.un ?_; refine Sim.bin ?_; refine Sim.bin ?_; refine Sim.bin ?_; refine Sim.un ?_
    refine Sim.bin ?_; refine Sim.un ?_; refine Sim.bin ?_; refine Sim.con ?_; refine Sim.un ?_
    refine Sim.bin ?_; refine Sim.bin ?_; refine Sim.con ?_; refine Sim.un ?_; refine Sim.bin ?_
    refine Sim.con ?_; refine Sim.un ?_; refine Sim.bin ?_; refine Sim.bin ?_; refine Sim.bin ?_
    refine Sim.bin ?_; refine Sim.con ?_; refine Sim.un ?_; refine Sim.bin ?_; refine Sim.con ?_
    refine Sim.un ?_; refine Sim.bin ?_; refine Sim.bin ?_; refine Sim.bin ?_; refine Sim.bin ?_
    refine Sim.con ?_; refine Sim.un ?_; refine Sim.bin ?_; refine Sim.con ?_; refine Sim.un ?_
    refine Sim.bin ?_; refine Sim.bin ?_; refine Sim.bin ?_; refine Sim.bin ?_; refine Sim.con ?_
    refine Sim.un ?_; refine Sim.bin ?_; refine Sim.con ?_; refine Sim.un ?_; refine Sim.bin ?_
    refine Sim.bin ?_; refine Sim.bin ?_; refine Sim.un ?_; refine Sim.bin ?_; refine Sim.un ?_
    refine Sim.bin ?_; refine Sim.con ?_; refine Sim.un ?_; refine Sim.bin ?_
    refine Sim.stop ?_
    refine Sim.bin ?_
    exact Sim.nil
  · unfold Cert.KernelIdeal.fn_threefry2x32.body_part3 Cert.ReferenceIdeal.fn_threefry2x32.body_part3
    refine Sim.con ?_; refine Sim.un ?_; refine Sim.bin ?_; refine Sim.con ?_; refine Sim.un ?_
    refine Sim.bin ?_; refine Sim.bin ?_; refine Sim.bin ?_; refine Sim.bin ?_; refine Sim.con ?_
    refine Sim.un ?_; refine Sim.bin ?_; refine Sim.con ?_; refine Sim.un ?_; refine Sim.bin ?_
    refine Sim.bin ?_; refine Sim.bin ?_; refine Sim.bin ?_; refine Sim.con ?_; refine Sim.un ?_
    refine Sim.bin ?_; refine Sim.con ?_; refine Sim.un ?_; refine Sim.bin ?_; refine Sim.bin ?_
    refine Sim.bin ?_; refine Sim.bin ?_; refine Sim.con ?_; refine Sim.un ?_; refine Sim.bin ?_
    refine Sim.con ?_; refine Sim.un ?_; refine Sim.bin ?_; refine Sim.bin ?_; refine Sim.bin ?_
    refine Sim.un ?_; refine Sim.bin ?_; refine Sim.un ?_; refine Sim.bin ?_; refine Sim.con ?_
    refine Sim.un ?_; refine Sim.bin ?_
    exact Sim.nil

end Cert.Jitter.Host

end
-- ==== Proof.Draw1.lean ====
/-
  The first draw of uniform numbers, the kernel's @main and the reference's side by side: operation for operation the same.
-/
module

public import proofs.«01_k».proof.Proof.Sim
public import proofs.«01_k».proof.Proof.Gen.KernelIdeal
public import proofs.«01_k».proof.Proof.Gen.ReferenceIdeal

@[expose] public section

noncomputable section

namespace Cert.Jitter.Host

open Idealize.ShloMosaic Idealize.ShloMosaic.StableHlo Idealize.SL.Sem

variable {F : FTy → Type} [FloatOps F]

set_option maxHeartbeats 8000000 in
/-- The hashing inside the first draw goes together on both sides. -/
theorem hash1 : Sim (Val := Elt F) 272 494 (pure ⟨⟩)
    (Cert.KernelIdeal.fn_threefry2x32_0.body Cert.KernelIdeal.main_call1.v5 Cert.KernelIdeal.main_call1.v7 Cert.KernelIdeal.main_call1.v14 Cert.KernelIdeal.main_call1.v13 Cert.KernelIdeal.main_call1.call0) (pure ⟨⟩)
    (Cert.ReferenceIdeal.fn_threefry2x32_0.body Cert.ReferenceIdeal.main_call1.v5 Cert.ReferenceIdeal.main_call1.v7 Cert.ReferenceIdeal.main_call1.v14 Cert.ReferenceIdeal.main_call1.v13 Cert.ReferenceIdeal.main_call1.call0) := by
  unfold Cert.KernelIdeal.fn_threefry2x32_0.body Cert.ReferenceIdeal.fn_threefry2x32_0.body
  refine Sim.bind (N' := 332) ?_ ?_
  · unfold Cert.KernelIdeal.fn_threefry2x32_0.body_part0 Cert.ReferenceIdeal.fn_threefry2x32_0.body_part0
    refine Sim.bin ?_; refine Sim.con ?_; refine Sim.bin ?_; refine Sim.un ?_; refine Sim.bin ?_
    refine Sim.un ?_; refine Sim.bin ?_; refine Sim.bin ?_; refine Sim.con ?_; refine Sim.un ?_
    refine Sim.bin ?_; refine Sim.con ?_; refine Sim.un ?_; refine Sim.bin ?_; refine Sim.bin ?_
    refine Sim.bin ?_; refine Sim.bin ?_; refine Sim.con ?_; refine Sim.un ?_; refine Sim.bin ?_
    refine Sim.con ?_; refine Sim.un ?_; refine Sim.bin ?_; refine Sim.bin ?_; refine Sim.bin ?_
    refine Sim.bin ?_; refine Sim.con ?_; refine Sim.un ?_; refine Sim.bin ?_; refine Sim.con ?_
    refine Sim.un ?_; refine Sim.bin ?_; refine Sim.bin ?_; refine Sim.bin ?_; refine Sim.bin ?_
    refine Sim.con ?_; refine Sim.un ?_; refine Sim.bin ?_; refine Sim.con ?_; refine Sim.un ?_
    refine Sim.bin ?_; refine Sim.bin ?_; refine Sim.bin ?_; refine Sim.un ?_; refine Sim.bin ?_
    refine Sim.un ?_; refine Sim.bin ?_; refine Sim.con ?_; refine Sim.un ?_; refine Sim.bin ?_
    refine Sim.bin ?_; refine Sim.con ?_; refine Sim.un ?_; refine Sim.bin ?_; refine Sim.con ?_
    refine Sim.un ?_; refine Sim.bin ?_; refine Sim.bin ?_; refine Sim.bin ?_
    refine Sim.stop ?_
    refine Sim.bin ?_
    exact Sim.nil
  refine Sim.bind (N' := 392) ?_ ?_
  · unfold Cert.KernelIdeal.fn_threefry2x32_0.body_part1 Cert.ReferenceIdeal.fn_threefry2x32_0.body_part1
    refine Sim.con ?_; refine Sim.un ?_; refine Sim.bin ?_; refine Sim.con ?_; refine Sim.un ?_
    refine Sim.bin ?_; refine Sim.bin ?_; refine Sim.bin ?_; refine Sim.bin ?_; refine Sim.con ?_
    refine Sim.un ?_; refine Sim.bin ?_; refine Sim.con ?_; refine Sim.un ?_; refine Sim.bin ?_
    refine Sim.bin ?_; refine Sim.bin ?_; refine Sim.bin ?_; refine Sim.con ?_; refine Sim.un ?_
    refine Sim.bin ?_; refine Sim.con ?_; refine Sim.un ?_; refine Sim.bin ?_; refine Sim.bin ?_
    refine Sim.bin ?_; refine Sim.un ?_; refine Sim.bin ?_; refine Sim.un ?_; refine Sim.bin ?_
    refine Sim.con ?_; refine Sim.un ?_; refine Sim.bin ?_; refine Sim.bin ?_; refine Sim.con ?_
    refine Sim.un ?_; refine Sim.bin ?_; refine Sim.con ?_; refine Sim.un ?_; refine Sim.bin ?_
    refine Sim.bin ?_; refine Sim.bin ?_; refine Sim.bin ?_; refine Sim.con ?_; refine Sim.un ?_
    refine Sim.bin ?_; refine Sim.con ?_; refine Sim.un ?_; refine Sim.bin ?_; refine Sim.bin ?_
    refine Sim.bin ?_; refine Sim.bin ?_; refine Sim.con ?_; refine Sim.un ?_; refine Sim.bin ?_
    refine Sim.con ?_; refine Sim.un ?_; refine Sim.bin ?_; refine Sim.bin ?_
    refine Sim.stop ?_
    refine Sim.bin ?_
    exact Sim.nil
  refine Sim.bind (N' := 452) ?_ ?_
  · unfold Cert.KernelIdeal.fn_threefry2x32_0.body_part2 Cert.ReferenceIdeal.fn_threefry2x32_0.body_part2
    refine Sim.bin ?_; refine Sim.con ?_; refine Sim.un ?_; refine Sim.bin ?_; refine Sim.con ?_
    refine Sim.un ?_; refine Sim.bin ?_; refine Sim.bin ?_; refine Sim.bin ?_; refine Sim.un ?_
    refine Sim.bin ?_; refine Sim.un ?_; refine Sim.bin ?_; refine Sim.con ?_; refine Sim.un ?_
    refine Sim.bin ?_; refine Sim.bin ?_; refine Sim.con ?_; refine Sim.un ?_; refine Sim.bin ?_
    refine Sim.con ?_; refine Sim.un ?_; refine Sim.bin ?_; refine Sim.bin ?_; refine Sim.bin ?_
    refine Sim.bin ?_; refine Sim.con ?_; refine Sim.un ?_; refine Sim.bin ?_; refine Sim.con ?_
    refine Sim.un ?_; refine Sim.bin ?_; refine Sim.bin ?_; refine Sim.bin ?_; refine Sim.bin ?_
    refine Sim.con ?_; refine Sim.un ?_; refine Sim.bin ?_; refine Sim.con ?_; refine Sim.un ?_
    refine Sim.bin ?_; refine Sim.bin ?_; refine Sim.bin ?_; refine Sim.bin ?_; refine Sim.con ?_
    refine Sim.un ?_; refine Sim.bin ?_; refine Sim.con ?_; refine Sim.un ?_; refine Sim.bin ?_
    refine Sim.bin ?_; refine Sim.bin ?_; refine Sim.un ?_; refine Sim.bin ?_; refine Sim.un ?_
    refine Sim.bin ?_; refine Sim.con ?_; refine Sim.un ?_; refine Sim.bin ?_
    refine Sim.stop ?_
    refine Sim.bin ?_
    exact Sim.nil
  · unfold Cert.KernelIdeal.fn_threefry2x32_0.body_part3 Cert.ReferenceIdeal.fn_threefry2x32_0.body_part3
    refine Sim.con ?_; refine Sim.un ?_; refine Sim.bin ?_; refine Sim.con ?_; refine Sim.un ?_
    refine Sim.bin ?_; refine Sim.bin ?_; refine Sim.bin ?_; refine Sim.bin ?_; refine Sim.con ?_
    refine Sim.un ?_; refine Sim.bin ?_; refine Sim.con ?_; refine Sim.un ?_; refine Sim.bin ?_
    refine Sim.bin ?_; refine Sim.bin ?_; refine Sim.bin ?_; refine Sim.con ?_; refine Sim.un ?_
    refine Sim.bin ?_; refine Sim.con ?_; refine Sim.un ?_; refine Sim.bin ?_; refine Sim.bin ?_
    refine Sim.bin ?_; refine Sim.bin ?_; refine Sim.con ?_; refine Sim.un ?_; refine Sim.bin ?_
    refine Sim.con ?_; refine Sim.un ?_; refine Sim.bin ?_; refine Sim.bin ?_; refine Sim.bin ?_
    refine Sim.un ?_; refine Sim.bin ?_; refine Sim.un ?_; refine Sim.bin ?_; refine Sim.con ?_
    refine Sim.un ?_; refine Sim.bin ?_
    exact Sim.nil

set_option maxHeartbeats 4000000 in
/-- The first draw goes together on both sides. -/
theorem draw1 : Sim (Val := Elt F) 255 512 (pure ⟨⟩)
    (Cert.KernelIdeal.fn_uniform.body (.of Cert.KernelIdeal.main_v10) (.of Cert.KernelIdeal.main_cst) (.of Cert.KernelIdeal.main_cst_2) Cert.KernelIdeal.main_call1) (pure ⟨⟩)
    (Cert.ReferenceIdeal.fn_uniform.body (.of Cert.ReferenceIdeal.main_v9) (.of Cert.ReferenceIdeal.main_cst) (.of Cert.ReferenceIdeal.main_cst_2) Cert.ReferenceIdeal.main_call1) := by
  unfold Cert.KernelIdeal.fn_uniform.body Cert.ReferenceIdeal.fn_uniform.body
  refine Sim.un ?_; refine Sim.un ?_; refine Sim.un ?_; refine Sim.un ?_; refine Sim.un ?_
  refine Sim.resh ?_; refine Sim.un ?_; refine Sim.resh ?_; refine Sim.con ?_; refine Sim.con ?_
  refine Sim.un ?_; refine Sim.bin ?_; refine Sim.con ?_; refine Sim.un ?_; refine Sim.bin ?_
  refine Sim.un ?_; refine Sim.un ?_
  refine Sim.bind (N' := 494) hash1 ?_
  refine Sim.bin ?_; refine Sim.con ?_; refine Sim.un ?_; refine Sim.bin ?_; refine Sim.con ?_
  refine Sim.un ?_; refine Sim.bin ?_; refine Sim.un ?_; refine Sim.con ?_; refine Sim.un ?_
  refine Sim.bin ?_; refine Sim.bin ?_; refine Sim.un ?_; refine Sim.bin ?_; refine Sim.un ?_
  refine Sim.bin ?_; refine Sim.un ?_; refine Sim.bin ?_
  exact Sim.nil

end Cert.Jitter.Host

end
-- ==== Proof.Draw2.lean ====
/-
  The second draw of uniform numbers, the kernel's @main and the reference's side by side: operation for operation the same.
-/
module

public import proofs.«01_k».proof.Proof.Sim
public import proofs.«01_k».proof.Proof.Gen.KernelIdeal
public import proofs.«01_k».proof.Proof.Gen.ReferenceIdeal

@[expose] public section

noncomputable section

namespace Cert.Jitter.Host

open Idealize.ShloMosaic Idealize.ShloMosaic.StableHlo Idealize.SL.Sem

variable {F : FTy → Type} [FloatOps F]

set_option maxHeartbeats 8000000 in
/-- The hashing inside the second draw goes together on both sides. -/
theorem hash2 : Sim (Val := Elt F) 534 756 (pure ⟨⟩)
    (Cert.KernelIdeal.fn_threefry2x32_0.body Cert.KernelIdeal.main_call2.v5 Cert.KernelIdeal.main_call2.v7 Cert.KernelIdeal.main_call2.v14 Cert.KernelIdeal.main_call2.v13 Cert.KernelIdeal.main_call2.call0) (pure ⟨⟩)
    (Cert.ReferenceIdeal.fn_threefry2x32_0.body Cert.ReferenceIdeal.main_call2.v5 Cert.ReferenceIdeal.main_call2.v7 Cert.ReferenceIdeal.main_call2.v14 Cert.ReferenceIdeal.main_call2.v13 Cert.ReferenceIdeal.main_call2.call0) := by
  unfold Cert.KernelIdeal.fn_threefry2x32_0.body Cert.ReferenceIdeal.fn_threefry2x32_0.body
  refine Sim.bind (N' := 594) ?_ ?_
  · unfold Cert.KernelIdeal.fn_threefry2x32_0.body_part0 Cert.ReferenceIdeal.fn_threefry2x32_0.body_part0
    refine Sim.bin ?_; refine Sim.con ?_; refine Sim.bin ?_; refine Sim.un ?_; refine Sim.bin ?_
    refine Sim.un ?_; refine Sim.bin ?_; refine Sim.bin ?_; refine Sim.con ?_; refine Sim.un ?_
    refine Sim.bin ?_; refine Sim.con ?_; refine Sim.un ?_; refine Sim.bin ?_; refine Sim.bin ?_
    refine Sim.bin ?_; refine Sim.bin ?_; refine Sim.con ?_; refine Sim.un ?_; refine Sim.bin ?_
    refine Sim.con ?_; refine Sim.un ?_; refine Sim.bin ?_; refine Sim.bin ?_; refine Sim.bin ?_
    refine Sim.bin ?_; refine Sim.con ?_; refine Sim.un ?_; refine Sim.bin ?_; refine Sim.con ?_
    refine Sim.un ?_; refine Sim.bin ?_; refine Sim.bin ?_; refine Sim.bin ?_; refine Sim.bin ?_
    refine Sim.con ?_; refine Sim.un ?_; refine Sim.bin ?_; refine Sim.con ?_; refine Sim.un ?_
    refine Sim.bin ?_; refine Sim.bin ?_; refine Sim.bin ?_; refine Sim.un ?_; refine Sim.bin ?_
    refine Sim.un ?_; refine Sim.bin ?_; refine Sim.con ?_; refine Sim.un ?_; refine Sim.bin ?_
    refine Sim.bin ?_; refine Sim.con ?_; refine Sim.un ?_; refine Sim.bin ?_; refine Sim.con ?_
    refine Sim.un ?_; refine Sim.bin ?_; refine Sim.bin ?_; refine Sim.bin ?_
    refine Sim.stop ?_
    refine Sim.bin ?_
    exact Sim.nil
  refine Sim.bind (N' := 654) ?_ ?_
  · unfold Cert.KernelIdeal.fn_threefry2x32_0.body_part1 Cert.ReferenceIdeal.fn_threefry2x32_0.body_part1
    refine Sim.con ?_; refine Sim.un ?_; refine Sim.bin ?_; refine Sim.con ?_; refine Sim.un ?_
    refine Sim.bin ?_; refine Sim.bin ?_; refine Sim.bin ?_; refine Sim.bin ?_; refine Sim.con ?_
    refine Sim.un ?_; refine Sim.bin ?_; refine Sim.con ?_; refine Sim.un ?_; refine Sim.bin ?_
    refine Sim.bin ?_; refine Sim.bin ?_; refine Sim.bin ?_; refine Sim.con ?_; refine Sim.un ?_
    refine Sim.bin ?_; refine Sim.con ?_; refine Sim.un ?_; refine Sim.bin ?_; refine Sim.bin ?_
    refine Sim.bin ?_; refine Sim.un ?_; refine Sim.bin ?_; refine Sim.un ?_; refine Sim.bin ?_
    refine Sim.con ?_; refine Sim.un ?_; refine Sim.bin ?_; refine Sim.bin ?_; refine Sim.con ?_
    refine Sim.un ?_; refine Sim.bin ?_; refine Sim.con ?_; refine Sim.un ?_; refine Sim.bin ?_
    refine Sim.bin ?_; refine Sim.bin ?_; refine Sim.bin ?_; refine Sim.con ?_; refine Sim.un ?_
    refine Sim.bin ?_; refine Sim.con ?_; refine Sim.un ?_; refine Sim.bin ?_; refine Sim.bin ?_
    refine Sim.bin ?_; refine Sim.bin ?_; refine Sim.con ?_; refine Sim.un ?_; refine Sim.bin ?_
    refine Sim.con ?_; refine Sim.un ?_; refine Sim.bin ?_; refine Sim.bin ?_
    refine Sim.stop ?_
    refine Sim.bin ?_
    exact Sim.nil
  refine Sim.bind (N' := 714) ?_ ?_
  · unfold Cert.KernelIdeal.fn_threefry2x32_0.body_part2 Cert.ReferenceIdeal.fn_threefry2x32_0.body_part2
    refine Sim.bin ?_; refine Sim.con ?_; refine Sim.un ?_; refine Sim.bin ?_; refine Sim.con ?_
    refine Sim.un ?_; refine Sim.bin ?_; refine Sim.bin ?_; refine Sim.bin ?_; refine Sim.un ?_
    refine Sim.bin ?_; refine Sim.un ?_; refine Sim.bin ?_; refine Sim.con ?_; refine Sim.un ?_
    refine Sim.bin ?_; refine Sim.bin ?_; refine Sim.con ?_; refine Sim.un ?_; refine Sim.bin ?_
    refine Sim.con ?_; refine Sim.un ?_; refine Sim.bin ?_; refine Sim.bin ?_; refine Sim.bin ?_
    refine Sim.bin ?_; refine Sim.con ?_; refine Sim.un ?_; refine Sim.bin ?_; refine Sim.con ?_
    refine Sim.un ?_; refine Sim.bin ?_; refine Sim.bin ?_; refine Sim.bin ?_; refine Sim.bin ?_
    refine Sim.con ?_; refine Sim.un ?_; refine Sim.bin ?_; refine Sim.con ?_; refine Sim.un ?_
    refine Sim.bin ?_; refine Sim.bin ?_; refine Sim.bin ?_; refine Sim.bin ?_; refine Sim.con ?_
    refine Sim.un ?_; refine Sim.bin ?_; refine Sim.con ?_; refine Sim.un ?_; refine Sim.bin ?_
    refine Sim.bin ?_; refine Sim.bin ?_; refine Sim.un ?_; refine Sim.bin ?_; refine Sim.un ?_
    refine Sim.bin ?_; refine Sim.con ?_; refine Sim.un ?_; refine Sim.bin ?_
    refine Sim.stop ?_
    refine Sim.bin ?_
    exact Sim.nil
  · unfold Cert.KernelIdeal.fn_threefry2x32_0.body_part3 Cert.ReferenceIdeal.fn_threefry2x32_0.body_part3
    refine Sim.con ?_; refine Sim.un ?_; refine Sim.bin ?_; refine Sim.con ?_; refine Sim.un ?_
    refine Sim.bin ?_; refine Sim.bin ?_; refine Sim.bin ?_; refine Sim.bin ?_; refine Sim.con ?_
    refine Sim.un ?_; refine Sim.bin ?_; refine Sim.con ?_; refine Sim.un ?_; refine Sim.bin ?_
    refine Sim.bin ?_; refine Sim.bin ?_; refine Sim.bin ?_; refine Sim.con ?_; refine Sim.un ?_
    refine Sim.bin ?_; refine Sim.con ?_; refine Sim.un ?_; refine Sim.bin ?_; refine Sim.bin ?_
    refine Sim.bin ?_; refine Sim.bin ?_; refine Sim.con ?_; refine Sim.un ?_; refine Sim.bin ?_
    refine Sim.con ?_; refine Sim.un ?_; refine Sim.bin ?_; refine Sim.bin ?_; refine Sim.bin ?_
    refine Sim.un ?_; refine Sim.bin ?_; refine Sim.un ?_; refine Sim.bin ?_; refine Sim.con ?_
    refine Sim.un ?_; refine Sim.bin ?_
    exact Sim.nil

set_option maxHeartbeats 4000000 in
/-- The second draw goes together on both sides. -/
theorem draw2 : Sim (Val := Elt F) 517 774 (pure ⟨⟩)
    (Cert.KernelIdeal.fn_uniform.body (.of Cert.KernelIdeal.main_v12) (.of Cert.KernelIdeal.main_cst_4) (.of Cert.KernelIdeal.main_cst_5) Cert.KernelIdeal.main_call2) (pure ⟨⟩)
    (Cert.ReferenceIdeal.fn_uniform.body (.of Cert.ReferenceIdeal.main_v11) (.of Cert.ReferenceIdeal.main_cst_4) (.of Cert.ReferenceIdeal.main_cst_5) Cert.ReferenceIdeal.main_call2) := by
  unfold Cert.KernelIdeal.fn_uniform.body Cert.ReferenceIdeal.fn_uniform.body
  refine Sim.un ?_; refine Sim.un ?_; refine Sim.un ?_; refine Sim.un ?_; refine Sim.un ?_
  refine Sim.resh ?_; refine Sim.un ?_; refine Sim.resh ?_; refine Sim.con ?_; refine Sim.con ?_
  refine Sim.un ?_; refine Sim.bin ?_; refine Sim.con ?_; refine Sim.un ?_; refine Sim.bin ?_
  refine Sim.un ?_; refine Sim.un ?_
  refine Sim.bind (N' := 756) hash2 ?_
  refine Sim.bin ?_; refine Sim.con ?_; refine Sim.un ?_; refine Sim.bin ?_; refine Sim.con ?_
  refine Sim.un ?_; refine Sim.bin ?_; refine Sim.un ?_; refine Sim.con ?_; refine Sim.un ?_
  refine Sim.bin ?_; refine Sim.bin ?_; refine Sim.un ?_; refine Sim.bin ?_; refine Sim.un ?_
  refine Sim.bin ?_; refine Sim.un ?_; refine Sim.bin ?_
  exact Sim.nil

end Cert.Jitter.Host

end
-- ==== Proof.Host.lean ====
/-
  Both @mains up to the two draws, side by side; the operations after that as lists; what those lists leave.
-/
module

public import proofs.«01_k».proof.Proof.Draws
public import proofs.«01_k».proof.Proof.Draw1
public import proofs.«01_k».proof.Proof.Draw2

@[expose] public section

noncomputable section

namespace Cert.Jitter.Host

open Idealize.ShloMosaic Idealize.ShloMosaic.StableHlo Idealize.SL.Sem

variable {F : FTy → Type} [FloatOps F]

set_option maxHeartbeats 4000000 in
/-- The splitting of the key goes together on both sides. -/
theorem split : Sim (Val := Elt F) 11 249 (pure ⟨⟩)
    (Cert.KernelIdeal.fn_threefry_split.body (.of Cert.KernelIdeal.main_v7) Cert.KernelIdeal.main_call0) (pure ⟨⟩)
    (Cert.ReferenceIdeal.fn_threefry_split.body (.of Cert.ReferenceIdeal.main_v6) Cert.ReferenceIdeal.main_call0) := by
  unfold Cert.KernelIdeal.fn_threefry_split.body Cert.ReferenceIdeal.fn_threefry_split.body
  refine Sim.un ?_; refine Sim.resh ?_; refine Sim.un ?_; refine Sim.resh ?_; refine Sim.con ?_
  refine Sim.con ?_; refine Sim.un ?_; refine Sim.bin ?_; refine Sim.con ?_; refine Sim.un ?_
  refine Sim.bin ?_; refine Sim.un ?_; refine Sim.un ?_
  refine Sim.bind (N' := 246) split_hash ?_
  refine Sim.un ?_; refine Sim.un ?_; refine Sim.bin ?_
  exact Sim.nil

namespace K

open Cert.KernelIdeal Cert.KernelIdeal.Gen

/-- The operations that make the final indices out of the two masks. -/
abbrev idxOps : List (HloOp τ sig (Elt F)) :=
  [ nullary main_c_7 (constantI S_ 32 4294967295#32),
    nullary main_c_8 (constantI S_ 32 1#32),
    TRef.unary (.of main_c_7 : TRef sig ⟨S_, .i32⟩) main_call3.v0 (broadcastInDim S4096 ![] bcast_S_S4096),
    TRef.unary (.of main_c_8 : TRef sig ⟨S_, .i32⟩) main_call3.v1 (broadcastInDim S4096 ![] bcast_S_S4096),
    TRef.ternary (.of main_v18 : TRef sig ⟨S4096, .i1⟩) main_call3.v0 main_call3.v1 main_call3.v2 select,
    nullary main_v20 (iotaInDim S4096 32 0),
    nullary main_c_9 (constantI S_ 32 0#32),
    unary main_c_9 main_v21 (broadcastInDim S4096 ![] bcast_S_S4096 : (⟨S_, .i32⟩ : BufTy).Contents (Elt F) → (⟨S4096, .i32⟩ : BufTy).Contents (Elt F)),
    binary main_v20 main_v21 main_v22 (cmpi .eq : (⟨S4096, .i32⟩ : BufTy).Contents (Elt F) → (⟨S4096, .i32⟩ : BufTy).Contents (Elt F) → (⟨S4096, .i1⟩ : BufTy).Contents (Elt F)),
    nullary main_c_10 (constantI S_ 32 4095#32),
    unary main_c_10 main_v23 (broadcastInDim S4096 ![] bcast_S_S4096 : (⟨S_, .i32⟩ : BufTy).Contents (Elt F) → (⟨S4096, .i32⟩ : BufTy).Contents (Elt F)),
    binary main_v20 main_v23 main_v24 (cmpi .eq : (⟨S4096, .i32⟩ : BufTy).Contents (Elt F) → (⟨S4096, .i32⟩ : BufTy).Contents (Elt F) → (⟨S4096, .i1⟩ : BufTy).Contents (Elt F)),
    nullary main_c_11 (constantI S_ 32 4294967295#32),
    TRef.unary (.of main_c_11 : TRef sig ⟨S_, .i32⟩) main_call4.v0 (broadcastInDim S4096 ![] bcast_S_S4096),
    TRef.ternary (.of main_v24 : TRef sig ⟨S4096, .i1⟩) main_call4.v0 (.of main_v19 : TRef sig ⟨S4096, .i32⟩) main_call4.v1 select,
    nullary main_c_12 (constantI S_ 32 1#32),
    TRef.unary (.of main_c_12 : TRef sig ⟨S_, .i32⟩) main_call5.v0 (broadcastInDim S4096 ![] bcast_S_S4096),
    TRef.ternary (.of main_v22 : TRef sig ⟨S4096, .i1⟩) main_call5.v0 (.of main_v25 : TRef sig ⟨S4096, .i32⟩) main_call5.v1 select,
    unary main_v26 main_v27 (id : (⟨S4096, .i32⟩ : BufTy).Contents (Elt F) → (⟨S4096, .i32⟩ : BufTy).Contents (Elt F)),
    binary main_v20 main_v27 main_v28 (addi : (⟨S4096, .i32⟩ : BufTy).Contents (Elt F) → (⟨S4096, .i32⟩ : BufTy).Contents (Elt F) → (⟨S4096, .i32⟩ : BufTy).Contents (Elt F)),
    TRef.ternary (.of main_v15 : TRef sig ⟨S4096, .i1⟩) (.of main_v28 : TRef sig ⟨S4096, .i32⟩) (.of main_v20 : TRef sig ⟨S4096, .i32⟩) main_call6.v0 select ]

/-- The kernel's @main after the final indices: the SparseCore call, and a reshape of what it gathered. -/
def rest (d : Dev nD) : Prog (TpuEff nD τ sig (Elt F) (SparseCore.Sig (Pipeline.Sig Λ₀ (Fin 0) fun p => (pcfgs (F := F) p).Adm) 1) .tc) PUnit := do
  sc.run d 0
  hlo rfl (StableHlo.reshape main_v30 main_v31 (rfl : (.f32 : EltTy) = .f32) shapeCasts_S4096x4096_S16x256x4096) (fun _ => .ret ⟨⟩)
  pure ⟨⟩

/-- The operation that @main starts with: the array as a matrix. -/
abbrev flat : HloOp τ sig (Elt F) :=
  StableHlo.reshape main_arg0 main_v0 (rfl : (.f32 : EltTy) = .f32) shapeCasts_S16x256x4096_S4096x4096

end K

namespace R

open Cert.ReferenceIdeal Cert.ReferenceIdeal.Gen

/-- The operations that make the final indices out of the two masks. -/
abbrev idxOps : List (HloOp τ sig (Elt F)) :=
  [ nullary main_c_7 (constantI S_ 32 4294967295#32),
    nullary main_c_8 (constantI S_ 32 1#32),
    TRef.unary (.of main_c_7 : TRef sig ⟨S_, .i32⟩) main_call3.v0 (broadcastInDim S4096 ![] bcast_S_S4096),
    TRef.unary (.of main_c_8 : TRef sig ⟨S_, .i32⟩) main_call3.v1 (broadcastInDim S4096 ![] bcast_S_S4096),
    TRef.ternary (.of main_v17 : TRef sig ⟨S4096, .i1⟩) main_call3.v0 main_call3.v1 main_call3.v2 select,
    nullary main_v19 (iotaInDim S4096 32 0),
    nullary main_c_9 (constantI S_ 32 0#32),
    unary main_c_9 main_v20 (broadcastInDim S4096 ![] bcast_S_S4096 : (⟨S_, .i32⟩ : BufTy).Contents (Elt F) → (⟨S4096, .i32⟩ : BufTy).Contents (Elt F)),
    binary main_v19 main_v20 main_v21 (cmpi .eq : (⟨S4096, .i32⟩ : BufTy).Contents (Elt F) → (⟨S4096, .i32⟩ : BufTy).Contents (Elt F) → (⟨S4096, .i1⟩ : BufTy).Contents (Elt F)),
    nullary main_c_10 (constantI S_ 32 4095#32),
    unary main_c_10 main_v22 (broadcastInDim S4096 ![] bcast_S_S4096 : (⟨S_, .i32⟩ : BufTy).Contents (Elt F) → (⟨S4096, .i32⟩ : BufTy).Contents (Elt F)),
    binary main_v19 main_v22 main_v23 (cmpi .eq : (⟨S4096, .i32⟩ : BufTy).Contents (Elt F) → (⟨S4096, .i32⟩ : BufTy).Contents (Elt F) → (⟨S4096, .i1⟩ : BufTy).Contents (Elt F)),
    nullary main_c_11 (constantI S_ 32 4294967295#32),
    TRef.unary (.of main_c_11 : TRef sig ⟨S_, .i32⟩) main_call4.v0 (broadcastInDim S4096 ![] bcast_S_S4096),
    TRef.ternary (.of main_v23 : TRef sig ⟨S4096, .i1⟩) main_call4.v0 (.of main_v18 : TRef sig ⟨S4096, .i32⟩) main_call4.v1 select,
    nullary main_c_12 (constantI S_ 32 1#32),
    TRef.unary (.of main_c_12 : TRef sig ⟨S_, .i32⟩) main_call5.v0 (broadcastInDim S4096 ![] bcast_S_S4096),
    TRef.ternary (.of main_v21 : TRef sig ⟨S4096, .i1⟩) main_call5.v0 (.of main_v24 : TRef sig ⟨S4096, .i32⟩) main_call5.v1 select,
    unary main_v25 main_v26 (id : (⟨S4096, .i32⟩ : BufTy).Contents (Elt F) → (⟨S4096, .i32⟩ : BufTy).Contents (Elt F)),
    binary main_v19 main_v26 main_v27 (addi : (⟨S4096, .i32⟩ : BufTy).Contents (Elt F) → (⟨S4096, .i32⟩ : BufTy).Contents (Elt F) → (⟨S4096, .i32⟩ : BufTy).Contents (Elt F)),
    TRef.ternary (.of main_v14 : TRef sig ⟨S4096, .i1⟩) (.of main_v27 : TRef sig ⟨S4096, .i32⟩) (.of main_v19 : TRef sig ⟨S4096, .i32⟩) main_call6.v0 select ]

/-- The operations of the gather along the last axis. -/
abbrev takeOps : List (HloOp τ sig (Elt F)) :=
  [ TRef.nullary main_call7.c (constantI S_ 32 0#32),
    TRef.unary main_call7.c main_call7.v0 (broadcastInDim S4096 ![] bcast_S_S4096),
    TRef.binary (.of main_v28 : TRef sig ⟨S4096, .i32⟩) main_call7.v0 main_call7.v1 (cmpi .slt),
    TRef.nullary main_call7.c_0 (constantI S_ 32 4096#32),
    TRef.unary main_call7.c_0 main_call7.v2 (broadcastInDim S4096 ![] bcast_S_S4096),
    TRef.binary (.of main_v28 : TRef sig ⟨S4096, .i32⟩) main_call7.v2 main_call7.v3 addi,
    TRef.ternary main_call7.v1 main_call7.v3 (.of main_v28 : TRef sig ⟨S4096, .i32⟩) main_call7.call0.v0 select,
    TRef.unary main_call7.call0.v0 main_call7.v5 (broadcastInDim S4096x1 ![0] bcast_S4096_S4096x1_0),
    TRef.nullary main_call7.c_1 (constantI S1 32 4095#32),
    TRef.nullary main_call7.c_2 (constantI S_ 32 0#32),
    TRef.unary main_call7.c_2 main_call7.v6 (broadcastInDim S4096x1 ![] bcast_S_S4096x1),
    TRef.binary main_call7.v5 main_call7.v6 main_call7.v7 (cmpi .sge),
    TRef.unary main_call7.c_1 main_call7.v8 (broadcastInDim S1x1 ![1] bcast_S1_S1x1_1),
    TRef.unary main_call7.v8 main_call7.v9 (broadcastInDim S4096x1 ![0, 1] bcast_S1x1_S4096x1_0_1),
    TRef.binary main_call7.v5 main_call7.v9 main_call7.v10 (cmpi .sle),
    TRef.binary main_call7.v7 main_call7.v10 main_call7.v11 andi,
    TRef.nullary main_call7.c_3 (constantI S_ 1 1#1),
    TRef.binary main_call7.v11 main_call7.c_3 main_call7.v12 (fun x v => Host.reduce IntOp.andi x v reducesTo_S4096x1_S4096_d1 h_S_),
    TRef.binary (.of main_arg0 : TRef sig ⟨S16x256x4096, .f32⟩) main_call7.v5 main_call7.v13 (fun x i => Host.gather gather_S16x256x4096_S4096x1_S16x256x4096_01_2_n_n_2_1_162561 x i),
    TRef.unary main_call7.v12 main_call7.v14 (broadcastInDim S16x256x4096 ![2] bcast_S4096_S16x256x4096_2),
    TRef.nullary main_call7.cst (constant S_ .f32 0x7FC00000#32),
    TRef.unary main_call7.cst main_call7.v15 (broadcastInDim S16x256x4096 ![] bcast_S_S16x256x4096),
    TRef.ternary main_call7.v14 main_call7.v13 main_call7.v15 main_call7.v16 select ]

end R

set_option maxHeartbeats 8000000 in
/-- Both @mains up to the two masks, side by side; then the operations that make the indices, and what follows them. -/
theorem mains (d : Dev Cert.KernelIdeal.nD) (d' : Dev Cert.ReferenceIdeal.nD) :
    ∃ p, (Cert.KernelIdeal.main (F := F) d = (hlo rfl K.flat fun _ => .ret (⟨⟩ : PUnit)) >>= fun _ => p) ∧
      Sim (Val := Elt F) 1 777 (seq K.idxOps >>= fun _ => K.rest d) p (seq (R.idxOps ++ R.takeOps)) (Cert.ReferenceIdeal.main (F := F) d') := by
  refine ⟨_, rfl, ?_⟩
  unfold Cert.ReferenceIdeal.main
  refine Sim.con ?_; refine Sim.con ?_; refine Sim.bin ?_; refine Sim.un ?_; refine Sim.un ?_
  refine Sim.con ?_; refine Sim.bin ?_; refine Sim.un ?_; refine Sim.un ?_; refine Sim.bin ?_
  refine Sim.bind (N' := 249) split ?_
  refine Sim.un ?_; refine Sim.resh ?_; refine Sim.un ?_; refine Sim.resh ?_; refine Sim.con ?_
  refine Sim.con ?_
  refine Sim.bind (N' := 512) draw1 ?_
  refine Sim.con ?_; refine Sim.un ?_; refine Sim.bin ?_; refine Sim.con ?_; refine Sim.con ?_
  refine Sim.bind (N' := 774) draw2 ?_
  refine Sim.con ?_; refine Sim.un ?_; refine Sim.bin ?_
  refine Sim.done ?_ ?_
  · simp only [K.rest, seq, bind_assoc, pure_bind, Cert.KernelIdeal.fn_where.body, Cert.KernelIdeal.fn_where_1.body, Cert.KernelIdeal.fn_where_2.body]
  · simp only [List.cons_append, List.nil_append, seq, bind_assoc, pure_bind, Cert.ReferenceIdeal.fn_where.body, Cert.ReferenceIdeal.fn_where_1.body,
      Cert.ReferenceIdeal.fn_where_2.body, Cert.ReferenceIdeal.fn_take.body]

end Cert.Jitter.Host

end
-- ==== Proof.Reads.lean ====
/-
  What the lists of host operations leave: the final indices as a function of the two masks (the same function on both
  sides), and the reference's gather as a function of the array and the indices.
-/
module

public import proofs.«01_k».proof.Proof.Host
public import Idealize.ShloMosaic.Lib.StableHlo.RunRead

@[expose] public section

noncomputable section

namespace Cert.Jitter.Host

open Idealize.ShloMosaic Idealize.ShloMosaic.StableHlo Idealize.SL.Sem

variable {F : FTy → Type} [FloatOps F]

section

open Cert.KernelIdeal Cert.KernelIdeal.Gen

/-- The final indices: where the first mask holds a position's neighbour — the one on its left where the second mask
    holds, the one on its right elsewhere, at the two ends the only one there is —, and the position itself elsewhere. -/
def idxOf (mask dir : (⟨S4096, .i1⟩ : BufTy).Contents (Elt F)) : (⟨S4096, .i32⟩ : BufTy).Contents (Elt F) :=
  select mask
    (addi (iotaInDim S4096 32 0)
      (select (cmpi .eq (iotaInDim S4096 32 0) (broadcastInDim S4096 ![] bcast_S_S4096 (constantI S_ 32 0#32)))
        (broadcastInDim S4096 ![] bcast_S_S4096 (constantI S_ 32 1#32))
        (select (cmpi .eq (iotaInDim S4096 32 0) (broadcastInDim S4096 ![] bcast_S_S4096 (constantI S_ 32 4095#32)))
          (broadcastInDim S4096 ![] bcast_S_S4096 (constantI S_ 32 4294967295#32))
          (select dir (broadcastInDim S4096 ![] bcast_S_S4096 (constantI S_ 32 4294967295#32))
            (broadcastInDim S4096 ![] bcast_S_S4096 (constantI S_ 32 1#32))))))
    (iotaInDim S4096 32 0)

/-- The kernel's indices. -/
theorem K.idx_eq (W : Valuation τ sig (Elt F)) :
    after K.idxOps W (Proc.devRef .tc main_v29) = idxOf (F := F) (W (Proc.devRef .tc main_v15)) (W (Proc.devRef .tc main_v18)) := by
  after_results_simp
  rfl

/-- The operations that make the indices leave the kernel's argument as it is. -/
theorem K.arg0_eq (W : Valuation τ sig (Elt F)) :
    after K.idxOps W (Proc.devRef .tc main_arg0) = W (Proc.devRef .tc main_arg0) := by
  after_results_simp

/-- The operations that make the indices leave the matrix as it is. -/
theorem K.v0_eq (W : Valuation τ sig (Elt F)) :
    after K.idxOps W (Proc.devRef .tc main_v0) = W (Proc.devRef .tc main_v0) := by
  after_results_simp

end

section

open Cert.ReferenceIdeal Cert.ReferenceIdeal.Gen

/-- The reference's indices: the same function of the masks. -/
theorem R.idx_eq (W : Valuation τ sig (Elt F)) :
    after R.idxOps W (Proc.devRef .tc main_v28) = idxOf (F := F) (W (Proc.devRef .tc main_v14)) (W (Proc.devRef .tc main_v17)) := by
  after_results_simp
  rfl

/-- The operations that make the indices leave the reference's argument as it is. -/
theorem R.arg0_eq (W : Valuation τ sig (Elt F)) :
    after R.idxOps W (Proc.devRef .tc main_arg0) = W (Proc.devRef .tc main_arg0) := by
  after_results_simp

/-- The gather leaves the reference's argument as it is. -/
theorem R.take_arg0 (W : Valuation τ sig (Elt F)) :
    after R.takeOps W (Proc.devRef .tc main_arg0) = W (Proc.devRef .tc main_arg0) := by
  after_results_simp

/-- The indices as the gather reads them: a negative one counted from the end, and one column more. -/
def wrapped (I : (⟨S4096, .i32⟩ : BufTy).Contents (Elt F)) : (⟨S4096x1, .i32⟩ : BufTy).Contents (Elt F) :=
  broadcastInDim S4096x1 ![0] bcast_S4096_S4096x1_0
    (select (cmpi .slt I (broadcastInDim S4096 ![] bcast_S_S4096 (constantI S_ 32 0#32)))
      (addi I (broadcastInDim S4096 ![] bcast_S_S4096 (constantI S_ 32 4096#32))) I)

/-- Where an index is one of the array's. -/
def inside (J : (⟨S4096x1, .i32⟩ : BufTy).Contents (Elt F)) : (⟨S4096, .i1⟩ : BufTy).Contents (Elt F) :=
  Host.reduce IntOp.andi
    (andi (cmpi .sge J (broadcastInDim S4096x1 ![] bcast_S_S4096x1 (constantI S_ 32 0#32)))
      (cmpi .sle J (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_

/-- The reference's gather along the last axis. -/
def takeOf (x : (⟨S16x256x4096, .f32⟩ : BufTy).Contents (Elt F)) (I : (⟨S4096, .i32⟩ : BufTy).Contents (Elt F)) :
    (⟨S16x256x4096, .f32⟩ : BufTy).Contents (Elt F) :=
  select (broadcastInDim S16x256x4096 ![2] bcast_S4096_S16x256x4096_2 (inside (F := F) (wrapped (F := F) I)))
    (Host.gather gather_S16x256x4096_S4096x1_S16x256x4096_01_2_n_n_2_1_162561 x (wrapped (F := F) I))
    (broadcastInDim S16x256x4096 ![] bcast_S_S16x256x4096 (constant S_ .f32 0x7FC00000#32))

/-- The reference's result. -/
theorem R.take_eq (W : Valuation τ sig (Elt F)) :
    after R.takeOps W (Proc.devRef .tc main_v29) = takeOf (F := F) (W (Proc.devRef .tc main_arg0)) (W (Proc.devRef .tc main_v28)) := by
  after_results_simp
  rfl

end

end Cert.Jitter.Host

end
-- ==== Proof.Value.lean ====
/-
  The two results are one: the indices lie in the array, so the reference's gather never leaves it and reads, at
  `(b, s, c)`, the element `(b, s, I c)` — and so does the array gathered row by row and given back its shape.
-/
module

public import proofs.«01_k».proof.Proof.Reads
public import proofs.«01_k».proof.Proof.Setup
public import Idealize.ShloMosaic.Lib.Pipeline.Value

@[expose] public section

noncomputable section

namespace Cert.Jitter.Host

open Idealize.ShloMosaic Idealize.ShloMosaic.StableHlo Idealize.SL.Sem

variable {F : FTy → Type} [FloatOps F]

/-! ## The indices lie in the array -/

/-- The neighbour on the right of a position before the last. -/
theorem word_up (n : ℕ) (hn : n < 4095) : (IntOp.addi (BitVec.ofNat 32 n) 1#32).toNat = n + 1 := by
  rw [IntOp.addi, BitVec.toNat_add, BitVec.toNat_ofNat, BitVec.toNat_ofNat]
  omega

/-- The neighbour on the left of a position after the first. -/
theorem word_down (n : ℕ) (h0 : n ≠ 0) (hn : n < 4096) : (IntOp.addi (BitVec.ofNat 32 n) 4294967295#32).toNat = n - 1 := by
  rw [IntOp.addi, BitVec.toNat_add, BitVec.toNat_ofNat, BitVec.toNat_ofNat]
  omega

/-- Two words are the same exactly where their numbers are. -/
theorem word_eq (n k : ℕ) (hn : n < 4096) (hk : k < 4096) (h : IntOp.cmpi .eq (BitVec.ofNat 32 n) (BitVec.ofNat 32 k) = 1#1) : n = k := by
  unfold IntOp.cmpi at h
  by_contra hne
  have hb : (BitVec.ofNat 32 n == BitVec.ofNat 32 k) = false := by
    rw [beq_eq_false_iff_ne]
    intro e
    have e' := congrArg BitVec.toNat e
    rw [BitVec.toNat_ofNat, BitVec.toNat_ofNat, Nat.mod_eq_of_lt (by omega), Nat.mod_eq_of_lt (by omega)] at e'
    exact hne e'
  have h' : BitVec.ofBool (BitVec.ofNat 32 n == BitVec.ofNat 32 k) = 1#1 := h
  rw [hb] at h'
  exact absurd h' (by decide)

/-- Two words of the same number compare equal. -/
theorem word_refl (v : BitVec 32) : IntOp.cmpi .eq v v = 1#1 := by
  unfold IntOp.cmpi
  show BitVec.ofBool (v == v) = 1#1
  rw [beq_self_eq_true]
  rfl

/-- A position's index, out of its two mask bits, is one of the array's columns. -/
theorem idx_word (n : ℕ) (hn : n < 4096) (m e : BitVec 1) :
    (Scalar.select m (IntOp.addi (BitVec.ofNat 32 n)
      (Scalar.select (IntOp.cmpi .eq (BitVec.ofNat 32 n) (BitVec.ofNat 32 0)) 1#32
        (Scalar.select (IntOp.cmpi .eq (BitVec.ofNat 32 n) (BitVec.ofNat 32 4095)) 4294967295#32
          (Scalar.select e 4294967295#32 1#32)))) (BitVec.ofNat 32 n)).toNat < 4096 := by
  have hs : (BitVec.ofNat 32 n).toNat < 4096 := by rw [BitVec.toNat_ofNat]; omega
  unfold Scalar.select
  by_cases hm : m = 1
  · rw [if_pos hm]
    by_cases hz : IntOp.cmpi .eq (BitVec.ofNat 32 n) (BitVec.ofNat 32 0) = 1
    · rw [if_pos hz, word_up n (by have := word_eq n 0 hn (by decide) hz; omega)]
      have := word_eq n 0 hn (by decide) hz
      omega
    · have h0 : n ≠ 0 := by rintro rfl; exact hz (word_refl _)
      rw [if_neg hz]
      by_cases hl : IntOp.cmpi .eq (BitVec.ofNat 32 n) (BitVec.ofNat 32 4095) = 1
      · rw [if_pos hl, word_down n h0 hn]; omega
      · have h4 : n ≠ 4095 := by rintro rfl; exact hl (word_refl _)
        rw [if_neg hl]
        by_cases he : e = 1
        · rw [if_pos he, word_down n h0 hn]; omega
        · rw [if_neg he, word_up n (by omega)]; omega
  · rw [if_neg hm]; exact hs

section

open Cert.KernelIdeal Cert.KernelIdeal.Gen

/-- Every final index is one of the array's columns, whatever the masks hold. -/
theorem idxOf_lt (mask dir : (⟨S4096, .i1⟩ : BufTy).Contents (Elt F)) (i : S4096.Idx) : (idxOf (F := F) mask dir i).toNat < 4096 :=
  idx_word (i 0).val (i 0).isLt (mask i) (dir i)

end

/-! ## The reference's gather -/

section

open Cert.ReferenceIdeal Cert.ReferenceIdeal.Gen

/-- The index of the column of indices that an index of the row names. -/
abbrev atCol (c : Fin 4096) : S4096x1.Idx := fun | 0 => c | 1 => (⟨0, Nat.one_pos⟩ : Fin 1)

/-- The index of the array with the given coordinates. -/
abbrev at3 (b : Fin 16) (s : Fin 256) (c : Fin 4096) : S16x256x4096.Idx := fun | 0 => b | 1 => s | 2 => c

variable (x : (⟨S16x256x4096, .f32⟩ : BufTy).Contents (Elt F)) (I : (⟨S4096, .i32⟩ : BufTy).Contents (Elt F))

/-- A word below 4096 is not negative, and at most 4095, as a signed one. -/
theorem word_facts (w : BitVec 32) (h : w.toNat < 4096) :
    IntOp.cmpi .slt w 0#32 = 0#1 ∧ IntOp.cmpi .sge w 0#32 = 1#1 ∧ IntOp.cmpi .sle w 4095#32 = 1#1 ∧ w.toInt.toNat = w.toNat := by
  have hi : w.toInt = (w.toNat : ℤ) := by
    rw [BitVec.toInt_eq_toNat_cond, if_pos (by omega)]
  have h0 : (0#32 : BitVec 32).toInt = 0 := by decide
  have h4 : (4095#32 : BitVec 32).toInt = 4095 := by decide
  refine ⟨?_, ?_, ?_, by omega⟩
  · simp only [IntOp.cmpi, BitVec.slt, hi, h0]
    rw [decide_eq_false (by omega)]; rfl
  · simp only [IntOp.cmpi, BitVec.sle, hi, h0]
    rw [decide_eq_true (by omega)]; rfl
  · simp only [IntOp.cmpi, BitVec.sle, hi, h4]
    rw [decide_eq_true (by omega)]; rfl

/-- An index of the array is read as it is. -/
theorem wrapped_apply (hI : ∀ i, (I i).toNat < 4096) (k : S4096x1.Idx) : wrapped (F := F) I k = I (Cert.Jitter.at1 (k 0)) := by
  have hk : wrapped (F := F) I k = Scalar.select (IntOp.cmpi .slt (I (Cert.Jitter.at1 (k 0))) 0#32) (IntOp.addi (I (Cert.Jitter.at1 (k 0))) 4096#32)
      (I (Cert.Jitter.at1 (k 0))) := by
    have he : (fun a => if h1 : S4096.size a = 1 then (⟨0, by omega⟩ : Fin (S4096.size a)) else ⟨(k ((![0] : Fin 1 → Fin 2) a)).val, by
        have := (k ((![0] : Fin 1 → Fin 2) a)).isLt
        obtain rfl : a = 0 := Subsingleton.elim _ _
        exact this⟩ : S4096.Idx) = Cert.Jitter.at1 (k 0) := by
      funext a
      obtain rfl : a = 0 := Subsingleton.elim _ _
      rfl
    exact congrArg (fun i => Scalar.select (IntOp.cmpi .slt (I i) 0#32) (IntOp.addi (I i) 4096#32) (I i)) he
  rw [hk, (word_facts _ (hI _)).1]
  rfl

/-- The conjunction of bits that are all set is set. -/
theorem foldl_andi {α : Type} (g : α → BitVec 1) (hg : ∀ a, g a = 1#1) (l : List α) : l.foldl (fun r n => IntOp.andi r (g n)) 1#1 = 1#1 := by
  induction l with
  | nil => rfl
  | cons a l ih => rw [List.foldl_cons, hg a]; exact ih

/-- Every index is one of the array's. -/
theorem inside_apply (hI : ∀ i, (I i).toNat < 4096) (i : S4096.Idx) : inside (F := F) (wrapped (F := F) I) i = 1#1 := by
  have hb : ∀ k : S4096x1.Idx, IntOp.andi (IntOp.cmpi .sge (wrapped (F := F) I k) 0#32) (IntOp.cmpi .sle (wrapped (F := F) I k) 4095#32) = 1#1 := by
    intro k
    rw [wrapped_apply I hI, (word_facts _ (hI _)).2.1, (word_facts _ (hI _)).2.2.1]
    rfl
  exact foldl_andi (fun n => IntOp.andi (IntOp.cmpi .sge (wrapped (F := F) I (S4096x1.rowMajor.symm n)) 0#32)
    (IntOp.cmpi .sle (wrapped (F := F) I (S4096x1.rowMajor.symm n)) 4095#32)) (fun n => hb _) _

local notation "gd" => gather_S16x256x4096_S4096x1_S16x256x4096_01_2_n_n_2_1_162561

/-- The gather along the last axis reads, at `(b, s, c)`, the element `(b, s, J c)`. -/
theorem gather_apply (J : IVec S4096x1 32) (j k : S16x256x4096.Idx) (h0 : (k 0).val = (j 0).val) (h1 : (k 1).val = (j 1).val)
    (h2 : (k 2).val = (J (atCol (j 2))).toInt.toNat) : Host.gather gd x J j = x k := by
  unfold Host.gather
  congr 1
  funext a
  refine Fin.ext ?_
  show GatherDims.start gd j J a + GatherDims.batchCoord gd j a + GatherDims.offCoord gd j a = (k a).val
  rw [GatherDims.batchCoord_eq_zero _ _ _ List.not_mem_nil, Nat.add_zero]
  have hk2 : (k 2).val < 4096 := (k 2).isLt
  fin_cases a
  · show GatherDims.start gd j J 0 + GatherDims.offCoord gd j 0 = (k 0).val
    refine Eq.trans ?_ h0.symm
    refine (congrArg₂ (· + ·) (dif_neg (by decide)) (dif_pos (by decide))).trans (Nat.zero_add _)
  · show GatherDims.start gd j J 1 + GatherDims.offCoord gd j 1 = (k 1).val
    refine Eq.trans ?_ h1.symm
    refine (congrArg₂ (· + ·) (dif_neg (by decide)) (dif_pos (by decide))).trans (Nat.zero_add _)
  · show GatherDims.start gd j J 2 + GatherDims.offCoord gd j 2 = (k 2).val
    refine Eq.trans ?_ h2.symm
    rw [GatherDims.offCoord_eq_zero _ _ _ (fun h => ((GatherDims.mem_sKept _ _).mp h).1 (List.mem_singleton.mpr rfl)), Nat.add_zero]
    unfold GatherDims.start
    rw [dif_pos (show (2 : Fin 3) ∈ (gd).startIndexMap from List.mem_singleton.mpr rfl)]
    have hsi : GatherDims.siIdx gd j ⟨List.idxOf (2 : Fin 3) (gd).startIndexMap, List.idxOf_lt_length_iff.2 (List.mem_singleton.mpr rfl)⟩ = atCol (j 2) := by
      funext b; refine Fin.ext ?_
      match b with
      | ⟨0, _⟩ => rfl
      | ⟨1, _⟩ => rfl
    rw [hsi, ← h2]
    exact Nat.min_eq_left (show (k 2).val ≤ 4095 by omega)

/-- The reference's result: at `(b, s, c)` the array's element `(b, s, I c)`. -/
theorem takeOf_apply (hI : ∀ i, (I i).toNat < 4096) (j : S16x256x4096.Idx) :
    takeOf (F := F) x I j = x (at3 (j 0) (j 1) (Cert.Jitter.colOf (F := F) I (j 2))) := by
  have hs : takeOf (F := F) x I j = Host.gather gd x (wrapped (F := F) I) j := by
    show Scalar.select _ _ _ = _
    unfold Scalar.select
    exact if_pos (inside_apply I hI _)
  refine hs.trans (gather_apply x _ j _ rfl rfl ?_)
  rw [wrapped_apply I hI, (word_facts _ (hI _)).2.2.2]
  exact Nat.mod_eq_of_lt (hI _)

end

/-! ## The two results -/

section

open Cert.KernelIdeal Cert.KernelIdeal.Gen

/-- The array as a matrix, its rows gathered, and the matrix given back the array's shape: the reference's gather. -/
theorem gathered_take (x : (⟨S16x256x4096, .f32⟩ : BufTy).Contents (Elt F)) (I : (⟨S4096, .i32⟩ : BufTy).Contents (Elt F))
    (hI : ∀ i, (I i).toNat < 4096) :
    shapeCast S16x256x4096 (Cert.Jitter.gathered (F := F) (shapeCast S4096x4096 x shapeCasts_S16x256x4096_S4096x4096) I)
      shapeCasts_S4096x4096_S16x256x4096 = takeOf (F := F) x I := by
  funext j
  have h0 : (j 0).val < 16 := (j 0).isLt
  have h1 : (j 1).val < 256 := (j 1).isLt
  have h2 : (j 2).val < 4096 := (j 2).isLt
  have hr : (j 0).val * 256 + (j 1).val < 4096 := by omega
  rw [shapeCast_apply _ shapeCasts_S4096x4096_S16x256x4096 j (Cert.Jitter.atM ⟨_, hr⟩ (j 2)) (by
    rw [Shape.rowMajor_val_two, Shape.rowMajor_val_three]
    rfl)]
  refine Eq.trans ?_ (takeOf_apply x I hI j).symm
  show shapeCast S4096x4096 x shapeCasts_S16x256x4096_S4096x4096 (Cert.Jitter.atM ⟨_, hr⟩ (Cert.Jitter.colOf (F := F) I (j 2))) = _
  exact shapeCast_apply _ shapeCasts_S16x256x4096_S4096x4096 _ _ (by
    rw [Shape.rowMajor_val_two, Shape.rowMajor_val_three]
    rfl)

end

end Cert.Jitter.Host

end
-- ==== Proof.Run.lean ====
/-
  The kernel's run: the operations of @main up to the final indices, the SparseCore call on the matrix and the indices
  they make, the reshape of what it gathers. Whatever runs, the argument is as it was, the result is the reference's
  gather of it at the final indices, and every semaphore counter reads zero.
-/
module

public import proofs.«01_k».proof.Proof.Launch
public import proofs.«01_k».proof.Proof.Value
public import Idealize.ShloMosaic.Lib.Pipeline.Frame

@[expose] public section

noncomputable section

namespace Cert.Jitter.Run

open Cert.KernelIdeal Cert.KernelIdeal.Gen Cert.Jitter Cert.Jitter.Host

open Idealize.ShloMosaic Idealize.ShloMosaic.StableHlo
open Idealize.ShloMosaic.SparseCore (S V)
open Idealize.ShloMosaic.SparseCore.Cfg (HIx Pay)
open Idealize.ShloMosaic.Pipeline (ucRefs sub_ucRefs unscopedBufs_held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What the buffers hold at the call -/

variable (ls : Dev nD → List (HloOp τ sig (Elt F))) (m : (ℓ : Loc nD τ sig) → Buf (Elt F) ℓ) (ρ : Dev nD → PrngReg)

/-- The operations that run before the call. -/
def pre (d : Dev nD) : List (HloOp τ sig (Elt F)) := Cert.Jitter.Host.K.flat :: (ls d ++ Cert.Jitter.Host.K.idxOps)

/-- What the buffers hold once the masks are there. -/
def atMasks (d : Dev nD) : Valuation τ sig (Elt F) := after (ls d) (Cert.Jitter.Host.K.flat.result (launchContents m d))

/-- What the buffers hold at the call. -/
def atCall (d : Dev nD) : Valuation τ sig (Elt F) := after Cert.Jitter.Host.K.idxOps (atMasks ls m d)

/-- Running the host up to the call leaves what `atCall` says. -/
theorem after_pre (d : Dev nD) : after (pre ls d) (launchContents m d) = atCall ls m d := by
  unfold pre atCall atMasks
  rw [after_cons, after_two]

/-- The final indices. -/
def ix (d : Dev nD) : Vec F S4096 .i32 :=
  idxOf (F := F) (atMasks ls m d (Proc.devRef .tc main_v15)) (atMasks ls m d (Proc.devRef .tc main_v18))

/-- Every final index is inside the array. -/
theorem ix_lt (d : Dev nD) (c : S4096.Idx) : (ix ls m d c).toNat < 4096 := idxOf_lt _ _ c

/-- The array as a matrix. -/
def mat (d : Dev nD) : Vec F S4096x4096 .f32 :=
  shapeCast S4096x4096 (m ((SparseCore.T d).loc main_arg0) : Vec F S16x256x4096 .f32) shapeCasts_S16x256x4096_S4096x4096

/-- The result. -/
def out (d : Dev nD) : Vec F S16x256x4096 .f32 :=
  shapeCast S16x256x4096 (gathered (mat m d) (ix ls m d)) shapeCasts_S4096x4096_S16x256x4096

/-- A buffer that a list does not write is as it was. -/
theorem after_low (l : List (HloOp τ sig (Elt F))) (hl : ∀ op ∈ l, Fine 1 op) (x : Ref sig .tc) (hx : x.idx.val ≤ 1)
    (W : Valuation τ sig (Elt F)) : after l W (Proc.devRef .tc x) = W (Proc.devRef .tc x) := by
  induction l generalizing W with
  | nil => rfl
  | cons op l ih =>
    rw [after_cons, ih (fun o ho => hl o (List.mem_cons_of_mem _ ho))]
    exact op.result_of_not_mem _ ((hl op List.mem_cons_self).2.2 x hx)

variable (hl : ∀ d, ∀ op ∈ ls d, Fine 1 op)

include hl in
/-- The argument is as it was at the call. -/
theorem atCall_arg0 (d : Dev nD) : atCall ls m d (Proc.devRef .tc main_arg0) = m ((SparseCore.T d).loc main_arg0) := by
  unfold atCall atMasks
  rw [Cert.Jitter.Host.K.arg0_eq, after_low _ (hl d) main_arg0 (by decide)]
  exact reshape_result_ne _ _ _ _ _ _ _ (show main_arg0 ≠ main_v0 by decide)

include hl in
/-- The array gathered from is the argument as a matrix. -/
theorem atCall_v0 (d : Dev nD) : atCall ls m d (Proc.devRef .tc main_v0) = mat m d := by
  unfold atCall atMasks
  rw [Cert.Jitter.Host.K.v0_eq, after_low _ (hl d) main_v0 (by decide)]
  exact reshape_result _ _ _ _ _ _ _

/-- The index row holds the final indices. -/
theorem atCall_v29 (d : Dev nD) : atCall ls m d (Proc.devRef .tc main_v29) = ix ls m d := by
  unfold atCall
  rw [Cert.Jitter.Host.K.idx_eq]
  rfl

/-! ## The buffers that the end of @main is about -/

/-- The argument, the matrix, the indices, the gathered matrix, the result. -/
def five : Finset (DevRef τ sig) :=
  {Proc.devRef .tc main_arg0, Proc.devRef .tc main_v0, Proc.devRef .tc main_v29, Proc.devRef .tc main_v30, Proc.devRef .tc main_v31}

/-- The five buffers are ones that the host holds. -/
theorem five_sub : five ⊆ ucRefs τ sig := by
  have h : ∀ x : Ref sig .tc, (Proc.devRef .tc x : DevRef τ sig).isScoped = false → (Proc.devRef .tc x : DevRef τ sig) ∈ ucRefs τ sig := fun x hx =>
    Finset.mem_filter.mpr ⟨devRef_mem_tcRefs x, fun h' => Bool.false_ne_true (hx.symm.trans h')⟩
  intro b hb
  simp only [five, Finset.mem_insert, Finset.mem_singleton] at hb
  rcases hb with rfl | rfl | rfl | rfl | rfl <;> exact h _ rfl

/-- Different references are different buffers. -/
theorem ne_of {x y : Ref sig .tc} (h : x ≠ y) : (Proc.devRef .tc x : DevRef τ sig) ≠ Proc.devRef .tc y := devRef_ne_of_ne h

/-- Held, they are five points-tos. -/
theorem held_five (d : Dev nD) (W : Valuation τ sig (Elt F)) : (held (SparseCore.T d) five W : sProp 𝕄)
    = iprop(((SparseCore.T d).loc main_arg0 ↦{fullShare} W (Proc.devRef .tc main_arg0)) ∗ ((SparseCore.T d).loc main_v0 ↦{fullShare} W (Proc.devRef .tc main_v0))
      ∗ ((SparseCore.T d).loc main_v29 ↦{fullShare} W (Proc.devRef .tc main_v29)) ∗ ((SparseCore.T d).loc main_v30 ↦{fullShare} W (Proc.devRef .tc main_v30))
      ∗ ((SparseCore.T d).loc main_v31 ↦{fullShare} W (Proc.devRef .tc main_v31))) := by
  unfold held five
  rw [bigSep_insert (by
      simp only [Finset.mem_insert, Finset.mem_singleton, not_or]
      exact ⟨ne_of (by decide), ne_of (by decide), ne_of (by decide), ne_of (by decide)⟩),
    bigSep_insert (by
      simp only [Finset.mem_insert, Finset.mem_singleton, not_or]
      exact ⟨ne_of (by decide), ne_of (by decide), ne_of (by decide)⟩),
    bigSep_insert (by
      simp only [Finset.mem_insert, Finset.mem_singleton, not_or]
      exact ⟨ne_of (by decide), ne_of (by decide)⟩),
    bigSep_insert (by
      simp only [Finset.mem_singleton]
      exact ne_of (by decide)), bigSep_singleton]
  rfl

/-- The operation that @main ends with: the gathered matrix at the array's shape. -/
abbrev back : HloOp τ sig (Elt F) :=
  StableHlo.reshape main_v30 main_v31 (rfl : (.f32 : EltTy) = .f32) shapeCasts_S4096x4096_S16x256x4096

/-- What it reads and writes. -/
def two : Finset (DevRef τ sig) := {Proc.devRef .tc main_v30, Proc.devRef .tc main_v31}

/-- Held, the two are two points-tos. -/
theorem held_two (d : Dev nD) (W : Valuation τ sig (Elt F)) : (held (SparseCore.T d) two W : sProp 𝕄)
    = iprop(((SparseCore.T d).loc main_v30 ↦{fullShare} W (Proc.devRef .tc main_v30)) ∗ ((SparseCore.T d).loc main_v31 ↦{fullShare} W (Proc.devRef .tc main_v31))) := by
  unfold held two
  rw [bigSep_insert (by
      simp only [Finset.mem_singleton]
      exact ne_of (by decide)), bigSep_singleton]
  rfl

/-- The last operation touches the two only. -/
theorem back_sub : (back (F := F)).bufs ⊆ two := fun _ h => h

/-- What the two hold after the call. -/
def atBack (d : Dev nD) : Valuation τ sig (Elt F) :=
  Function.update (atCall ls m d) (Proc.devRef .tc main_v30) (gathered (mat m d) (ix ls m d))

/-- The gathered matrix at the end. -/
theorem atBack_v30 (d : Dev nD) : atBack ls m d (Proc.devRef .tc main_v30) = gathered (mat m d) (ix ls m d) := Function.update_self ..
/-- The result's buffer is not touched by the call. -/
theorem atBack_v31 (d : Dev nD) : atBack ls m d (Proc.devRef .tc main_v31) = atCall ls m d (Proc.devRef .tc main_v31) :=
  Function.update_of_ne (ne_of (by decide)) ..

/-- The last operation writes the result. -/
theorem back_v31 (d : Dev nD) : (back (F := F)).result (atBack ls m d) (Proc.devRef .tc main_v31) = out ls m d := by
  refine (reshape_result _ _ _ _ _ _ _).trans ?_
  rw [atBack_v30]
  rfl

/-! ## The run -/

/-- What the end of @main leaves: the argument as it was, and the result. -/
def FIN (d : Dev nD) : sProp 𝕄 :=
  iprop(((SparseCore.T d).loc main_arg0 ↦{fullShare} m ((SparseCore.T d).loc main_arg0)) ∗ ((SparseCore.T d).loc main_v31 ↦{fullShare} (out ls m d : Buf (Elt F) ((SparseCore.T d).loc main_v31))))

/-- The call's payloads, at what the buffers hold at the call. -/
abbrev PP : (K (F := F)).Pay (nD := nD) (Val := Elt F) (Name := ℕ) (U := UU) :=
  P (mat m) (ix ls m) (fun d => atCall ls m d (Proc.devRef .tc main_v30))

variable (mn : Dev nD → Prog (TpuEff nD τ sig (Elt F) (SparseCore.Sig (Pipeline.Sig Λ₀ (Fin 0) fun p => (pcfgs (F := F) p).Adm) 1) .tc) PUnit)
  (hm : ∀ d, mn d = seq (pre ls d) >>= fun _ => Cert.Jitter.Host.K.rest d)

/-- The host's operations up to the call touch held buffers only, and determine their results. -/
theorem pre_fine (d : Dev nD) (hl : ∀ d, ∀ op ∈ ls d, Fine 1 op) :
    (∀ op ∈ pre ls d, op.bufs ⊆ ucRefs τ sig) ∧ ∀ op ∈ pre ls d, op.fresh = ∅ := by
  have hk : ∀ op ∈ pre ls d, op.bufs ⊆ tcRefs τ sig ∧ op.fresh = ∅ := by
    unfold pre
    refine List.forall_mem_cons.mpr ⟨⟨reshape_bufs_sub .., rfl⟩, List.forall_mem_append.mpr ⟨fun op ho => ⟨(hl d op ho).1, (hl d op ho).2.1⟩, ?_⟩⟩
    intro op ho
    fin_cases ho <;> exact ⟨by simp only [TRef.nullary, TRef.unary, TRef.binary, TRef.ternary, nullary_bufs_sub, unary_bufs_sub, binary_bufs_sub, ternary_bufs_sub], rfl⟩
  exact ⟨fun op ho => sub_ucRefs op (hk op ho).1, fun op ho => (hk op ho).2⟩

include hl hm in
set_option maxHeartbeats 2000000 in
/-- A @main of that text on each device, from what the launch deals it. -/
theorem hmain (κ : GSem nD τ sig → ℕ) (d : Dev nD) :
    iprop((K (F := F)).ctx EH (PP ls m) κ ∗ (K (F := F)).tcSt EH d 0 ∗ (K (F := F)).tcRes m ρ d ∗ emp)
      ⊢ wp frame (wpE ((K (F := F)).defs (D (F := F))) 𝒱 (SparseCore.T d) none) Set.univ (mn d)
          fun _ => iprop((K (F := F)).tcSt EH d 1 ∗ FIN ls m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (launchContents m d) from
    unscopedBufs_held d (launchContents m d), hm d]
  iintro ⟨#Hctx, Hst, ⟨Hb, Hh, Hts, -⟩, -⟩
  iapply (wp_seq (defs := (K (F := F)).defs (D (F := F))) 𝒱 none Set.univ d (ucRefs τ sig) (fun _ => Cert.Jitter.Host.K.rest d) (pre ls d)
    (pre_fine ls d hl).1 (pre_fine ls d hl).2 (launchContents m d)) $$ [Hb Hh]
  · isplitl [Hb] <;> iassumption
  iintro ⟨Hb, Hh⟩
  ihave Hh := (Entails.of_eq ((congrArg (fun V => (held (SparseCore.T d) (ucRefs τ sig) V : sProp 𝕄)) (after_pre ls m d)).trans
    (held_sub_split (SparseCore.T d) five_sub (atCall ls m d)))) $$ Hh
  icases Hh with ⟨Hh, -⟩
  ihave Hh := (Entails.of_eq (held_five d (atCall ls m d))) $$ Hh
  icases Hh with ⟨Ha, Hx, Hi, Ho, Hr⟩
  ihave Ha := (Entails.of_eq (congrArg (fun V => ((SparseCore.T d).loc main_arg0 ↦{fullShare} V : sProp 𝕄)) (atCall_arg0 ls m hl d))) $$ Ha
  ihave Hx := (Entails.of_eq (congrArg (fun V => ((SparseCore.T d).loc main_v0 ↦{fullShare} V : sProp 𝕄)) (atCall_v0 ls m hl d))) $$ Hx
  ihave Hi := (Entails.of_eq (congrArg (fun V => ((SparseCore.T d).loc main_v29 ↦{fullShare} V : sProp 𝕄)) (atCall_v29 ls m d))) $$ Hi
  unfold Cert.Jitter.Host.K.rest
  simp only [wp_bind, wp_pure]
  iapply ((K (F := F)).wp_run (D (F := F)) 𝒱 (EH := EH) (P := PP ls m) κ d 0) $$ [Hst Ha Hx Hi Ho Hr Hb Hts]
  isplitr; · iexact Hctx
  isplitl [Hst]; · iexact Hst
  isplitl [Hi Hx Ho]
  · iapply (Entails.of_eq (st_eq (mat m) (ix ls m) (fun d => atCall ls m d (Proc.devRef .tc main_v30)) d).symm)
    isplitl [Hx]; · iexact Hx
    isplitl [Hi]; · iexact Hi
    iexact Ho
  iintro ⟨Hst, Hdn⟩
  ihave Hdn' := (Entails.of_eq (dn_eq (mat m) (ix ls m) (fun d => atCall ls m d (Proc.devRef .tc main_v30)) d)) $$ Hdn
  icases Hdn' with ⟨-, -, Ho⟩
  iapply (wp_hlo_within (defs := (K (F := F)).defs (D (F := F))) 𝒱 (SparseCore.T d) none Set.univ (op := back (F := F)) (S := two) back_sub (V := atBack ls m d)) $$ [Hb Ho Hr]
  · isplitl [Hb]; · iexact Hb
    iapply (Entails.of_eq (held_two d (atBack ls m d)).symm)
    isplitl [Ho]
    · iapply (Entails.of_eq (congrArg (fun V => ((SparseCore.T d).loc main_v30 ↦{fullShare} V : sProp 𝕄)) (atBack_v30 ls m d).symm)); iexact Ho
    · iapply (Entails.of_eq (congrArg (fun V => ((SparseCore.T d).loc main_v31 ↦{fullShare} V : sProp 𝕄)) (atBack_v31 ls m d).symm)); iexact Hr
  iintro ⟨Hb, Hh⟩
  ihave Hh := (Entails.of_eq (held_two d ((back (F := F)).result (atBack ls m d)))) $$ Hh
  icases Hh with ⟨-, Hr⟩
  ihave Hr := (Entails.of_eq (congrArg (fun V => ((SparseCore.T d).loc main_v31 ↦{fullShare} V : sProp 𝕄)) (back_v31 ls m d))) $$ Hr
  rw [wp_ret]; imodintro
  imodintro
  isplitl [Hst]; · iexact Hst
  isplitl [Ha Hr]
  · unfold FIN
    isplitl [Ha]; · iexact Ha
    iexact Hr
  isplitl [Hb] <;> iassumption

/-- What is read off the final memory on each device. -/
def fq (d : Dev nD) (s' : Phys nD τ sig (Elt F)) : Prop :=
  s'.mem.mem ((SparseCore.T d).loc main_arg0) = m ((SparseCore.T d).loc main_arg0) ∧ s'.mem.mem ((SparseCore.T d).loc main_v31) = out ls m d

/-- What the end of @main leaves says what memory holds. -/
theorem hfin (d : Dev nD) (s' : Phys nD τ sig (Elt F)) : iprop(FIN ls m d ∗ SI s') ⊢ (⌜fq ls m d s'⌝ : sProp 𝕄) := by
  unfold FIN
  iintro ⟨⟨Ha, Hr⟩, HSI⟩
  ihave H := (persistent_entails_right (SI_pointsTo_agree (st := s') (ℓ := (SparseCore.T d).loc main_arg0) (I := Finset.univ) (q := fullShare)
    (f := m ((SparseCore.T d).loc main_arg0)))) $$ [HSI Ha]
  · isplitl [HSI] <;> iassumption
  icases H with ⟨%h1, HSI, -⟩
  ihave H := (SI_pointsTo_agree (st := s') (ℓ := (SparseCore.T d).loc main_v31) (I := Finset.univ) (q := fullShare) (f := out ls m d)) $$ [HSI Hr]
  · isplitl [HSI] <;> iassumption
  icases H with %h2
  ipureintro; exact ⟨funext fun i => h1 i (Finset.mem_univ i), funext fun i => h2 i (Finset.mem_univ i)⟩

/-- What a run ends with: the argument as it was, the result the reference's gather of it at the final indices, the
    semaphore counters at zero. -/
def QC : PUnit × MemSt nD τ sig (Elt F) → Prop := fun r =>
  (∀ c : Dev nD, r.2.mem ((SparseCore.T c).loc main_arg0) = m ((SparseCore.T c).loc main_arg0) ∧
    r.2.mem ((SparseCore.T c).loc main_v31) = takeOf (F := F) (m ((SparseCore.T c).loc main_arg0)) (ix ls m c)) ∧ r.2.sem = fun _ => 0

include hl hm in
/-- Every run of a @main of that text, with the kernel's SparseCore tasks beside it, ends so. -/
theorem run_main [∀ e, Nonempty (Elt F e)] :
    θ_run (Cert.KernelIdeal.defs (F := F)) ((K (F := F)).threads mn) ⟨m, fun _ => 0, ρ⟩ (QC ls m) :=
  SparseCore.Cfg.θ_run_sc_quiescent (K := K (F := F)) (D := D (F := F)) (𝒱 := 𝒱) (EH := EH) (P := PP ls m) (A := ∅) launch_facts v₀
    (fun q hq => match q with | 0 => nomatch hq)
    (fun q _ => match q with | 0 => tileObl (mat m) (ix ls m) (fun d => atCall ls m d (Proc.devRef .tc main_v30)) (ix_lt ls m))
    (fun q _ => match q with | 0 => SparseCore.Cfg.VecSplit.of_plain (vecSplit _ _ _))
    m ρ mn (fun _ => iprop(emp)) (FIN ls m) (u₀ (F := F)) (sep_elim_left.trans (hu₀ _ _ _)) (hmain ls m ρ hl mn hm) (fq ls m) (hfin ls m) (QC ls m)
    (fun _ h hz => ⟨fun c => ⟨(h c).1, (h c).2.trans (gathered_take _ _ (ix_lt ls m c))⟩, hz⟩)

end Cert.Jitter.Run

end
-- ==== Proof.Both.lean ====
/-
  The two programs together: their lists of operations, chosen side by side; the reference's run; and that the two
  results are one.
-/
module

public import proofs.«01_k».proof.Proof.Run

@[expose] public section

noncomputable section

namespace Cert.Jitter.Both

open Idealize.ShloMosaic Idealize.ShloMosaic.StableHlo Idealize.SL.Sem Cert.Jitter.Host

variable {F : FTy → Type} [FloatOps F]

/-- An operation of the kernel's host. -/
abbrev KOp (F : FTy → Type) : Type := HloOp Cert.KernelIdeal.τ Cert.KernelIdeal.sig (Elt F)
/-- An operation of the reference's host. -/
abbrev ROp (F : FTy → Type) : Type := HloOp Cert.ReferenceIdeal.τ Cert.ReferenceIdeal.sig (Elt F)

/-- The reference's operations, after those that make the masks. -/
abbrev tail : List (ROp F) := Cert.Jitter.Host.R.idxOps ++ Cert.Jitter.Host.R.takeOps

/-- An operation and two lists of them, one after the other, are one list. -/
theorem seq_then {τ : Topo} {sig : RefSig} {nD : ℕ} {Λ : Labels} (op : HloOp τ sig (Elt F)) (l₁ l₂ : List (HloOp τ sig (Elt F)))
    (k : Prog (TpuEff nD τ sig (Elt F) Λ .tc) PUnit) :
    (seq (op :: (l₁ ++ l₂)) >>= fun _ => k) = (hlo rfl op fun _ => .ret (⟨⟩ : PUnit)) >>= fun _ => seq l₁ >>= fun _ => seq l₂ >>= fun _ => k := by
  show ((hlo rfl op fun _ => .ret (⟨⟩ : PUnit)) >>= fun _ => seq (l₁ ++ l₂)) >>= (fun _ => k) = _
  rw [seq_append, bind_assoc]
  refine congrArg _ (funext fun _ => ?_)
  exact bind_assoc _ _ _

/-- Both @mains are lists of operations, and the lists that make the masks leave equal contents in the buffers that go
    together. -/
theorem texts : ∃ (ls : Dev Cert.KernelIdeal.nD → List (KOp F)) (ls' : Dev Cert.KernelIdeal.nD → List (ROp F)),
    (∀ d, Cert.KernelIdeal.main (F := F) d = seq (Cert.Jitter.Run.pre ls d) >>= fun _ => Cert.Jitter.Host.K.rest d) ∧
    (∀ d, ∀ op ∈ ls d, Fine 1 op) ∧
    (∀ d, Cert.ReferenceIdeal.main (F := F) d = seq (ls' d ++ tail (F := F))) ∧
    (∀ d, ∀ op ∈ ls' d, Fine 0 op) ∧
    ∀ d W W', Agree (Val := Elt F) 777 (after (ls d) W) (after (ls' d) W') := by
  have h : ∀ d : Dev Cert.KernelIdeal.nD, ∃ (l : List (KOp F)) (l' : List (ROp F)),
      (Cert.KernelIdeal.main (F := F) d = seq (Cert.Jitter.Host.K.flat :: (l ++ Cert.Jitter.Host.K.idxOps)) >>= fun _ => Cert.Jitter.Host.K.rest d) ∧
      (∀ op ∈ l, Fine 1 op) ∧ (Cert.ReferenceIdeal.main (F := F) d = seq (l' ++ tail (F := F))) ∧ (∀ op ∈ l', Fine 0 op) ∧
      ∀ W W', Agree (Val := Elt F) 777 (after l W) (after l' W') := by
    intro d
    obtain ⟨p, hp, l, l', rfl, hq, hl, hl', ha⟩ := mains (F := F) d d
    refine ⟨l, l', ?_, hl, ?_, hl', fun W W' => ha W W' (agree_one W W')⟩
    · exact hp.trans (seq_then _ _ _ _).symm
    · exact hq.trans (seq_append _ _).symm
  choose ls ls' h1 h2 h3 h4 h5 using h
  exact ⟨ls, ls', h1, h2, h3, h4, h5⟩

variable (ls' : Dev Cert.ReferenceIdeal.nD → List (ROp F)) (hl' : ∀ d, ∀ op ∈ ls' d, Fine 0 op)
  (m' : (ℓ : Loc Cert.ReferenceIdeal.nD Cert.ReferenceIdeal.τ Cert.ReferenceIdeal.sig) → Buf (Elt F) ℓ)
  (ρ' : Dev Cert.ReferenceIdeal.nD → PrngReg)

section

open Cert.ReferenceIdeal Cert.ReferenceIdeal.Gen

/-- What the reference's buffers hold once the masks are there. -/
def atMasks (d : Dev nD) : Valuation τ sig (Elt F) := after (ls' d) (launchContents m' d)

/-- The reference's final indices. -/
def ix (d : Dev nD) : (⟨S4096, .i32⟩ : BufTy).Contents (Elt F) :=
  idxOf (F := F) (atMasks ls' m' d (Proc.devRef .tc main_v14)) (atMasks ls' m' d (Proc.devRef .tc main_v17))

include hl' in
/-- The masks leave the argument as it was. -/
theorem atMasks_arg0 (d : Dev nD) : atMasks ls' m' d (Proc.devRef .tc main_arg0) = m' ((d.tc : Thread nD τ).loc main_arg0) := by
  have h : ∀ (l : List (ROp F)) (_ : ∀ op ∈ l, Fine 0 op) (W : Valuation τ sig (Elt F)),
      after l W (Proc.devRef .tc main_arg0) = W (Proc.devRef .tc main_arg0) := by
    intro l hl
    induction l with
    | nil => intro W; rfl
    | cons op l ih =>
      intro W
      rw [after_cons, ih (fun o ho => hl o (List.mem_cons_of_mem _ ho))]
      exact op.result_of_not_mem _ ((hl op List.mem_cons_self).2.2 main_arg0 (by decide))
  exact h _ (hl' d) _

/-- Each operation of the tail touches tensors of @main only, and determines its result. -/
theorem tail_fine : ∀ op ∈ tail (F := F), op.bufs ⊆ tcRefs τ sig ∧ op.fresh = ∅ := by
  refine List.forall_mem_append.mpr ⟨?_, ?_⟩ <;> intro op ho <;> fin_cases ho <;>
    exact ⟨by simp only [TRef.nullary, TRef.unary, TRef.binary, TRef.ternary, nullary_bufs_sub, unary_bufs_sub, binary_bufs_sub, ternary_bufs_sub], rfl⟩

variable (hm' : ∀ d, main (F := F) d = seq (ls' d ++ tail (F := F)))

include hl' hm' in
/-- Every run of the reference ends with the argument as it was, the result the gather of it at the final indices, and
    the semaphore counters at zero. -/
theorem run_ref : θ_run (defs (F := F)) (onTc (τ := τ) (main (F := F))) ⟨m', fun _ => 0, ρ'⟩ fun r =>
    (∀ c : Dev nD, r.2.mem ((c.tc : Thread nD τ).loc main_arg0) = m' ((c.tc : Thread nD τ).loc main_arg0) ∧
      r.2.mem ((c.tc : Thread nD τ).loc main_v29) = takeOf (F := F) (m' ((c.tc : Thread nD τ).loc main_arg0)) (ix ls' m' c)) ∧
      r.2.sem = fun _ => 0 := by
  have hall : ∀ d, ∀ op ∈ ls' d ++ tail (F := F), op.bufs ⊆ tcRefs τ sig ∧ op.fresh = ∅ := fun d =>
    List.forall_mem_append.mpr ⟨fun op ho => ⟨(hl' d op ho).1, (hl' d op ho).2.1⟩, tail_fine⟩
  have harg : ∀ c : Dev nD, after Cert.Jitter.Host.R.idxOps (atMasks ls' m' c) (Proc.devRef .tc main_arg0) = m' ((c.tc : Thread nD τ).loc main_arg0) :=
    fun c => (Cert.Jitter.Host.R.arg0_eq _).trans (atMasks_arg0 ls' hl' m' c)
  have hafter : ∀ c : Dev nD, after (ls' c ++ tail (F := F)) (launchContents m' c)
      = after Cert.Jitter.Host.R.takeOps (after Cert.Jitter.Host.R.idxOps (atMasks ls' m' c)) := by
    intro c
    rw [after_two, after_two]
    rfl
  refine (θ_run defs _ _).mono (fun r h => ⟨fun c => ⟨?_, ?_⟩, sem_eq_zero_of_no_sems (by decide) r.2⟩)
    (run_seq (by decide) (by decide) defs main (fun d => ls' d ++ tail (F := F)) hm' (fun d => List.forall_iff_forall_mem.mpr fun op ho => (hall d op ho).1) m' ρ'
      fun d op ho => (hall d op ho).2)
  · rw [h c main_arg0, hafter, Cert.Jitter.Host.R.take_arg0]
    exact harg c
  · rw [h c main_v29, hafter, Cert.Jitter.Host.R.take_eq, harg, Cert.Jitter.Host.R.idx_eq]
    rfl

end

/-- The final indices are the same in both programs. -/
theorem ix_eq (ls : Dev Cert.KernelIdeal.nD → List (KOp F)) (ls' : Dev Cert.KernelIdeal.nD → List (ROp F))
    (m : (ℓ : Loc Cert.KernelIdeal.nD Cert.KernelIdeal.τ Cert.KernelIdeal.sig) → Buf (Elt F) ℓ)
    (ha : ∀ d W W', Agree (Val := Elt F) 777 (after (ls d) W) (after (ls' d) W')) (d : Dev Cert.KernelIdeal.nD) :
    Cert.Jitter.Run.ix ls m d = ix ls' m' d := by
  have h1 := eq_of_heq (ha d (Cert.Jitter.Host.K.flat.result (launchContents m d)) (launchContents m' d) 514 Cert.KernelIdeal.main_v15
    Cert.ReferenceIdeal.main_v14 ⟨rfl, rfl, rfl, rfl⟩ (by decide) (by decide))
  have h2 := eq_of_heq (ha d (Cert.Jitter.Host.K.flat.result (launchContents m d)) (launchContents m' d) 776 Cert.KernelIdeal.main_v18
    Cert.ReferenceIdeal.main_v17 ⟨rfl, rfl, rfl, rfl⟩ (by decide) (by decide))
  exact congrArg₂ (fun a b => idxOf (F := F) a b) h1 h2

end Cert.Jitter.Both

end
-- ==== Proof.Line.lean ====
/-
  One straight-line text alone: it is a list of operations, each of them fine, and then a rest. For a @main that has the
  kernel's text under names of its own.
-/
module

public import proofs.«01_k».proof.Proof.Sim
public import proofs.«01_k».proof.Kernel

@[expose] public section

noncomputable section

namespace Cert.Jitter.Host

open Idealize.ShloMosaic Idealize.ShloMosaic.StableHlo Idealize.SL.Sem

variable {Val : EltTy → Type} {τ : Topo} {sig : RefSig} {nD : ℕ} {Λ : Labels}

/-- The text `k` is a list of operations, each of them fine, and then `t`. -/
def Line (t k : Prog (TpuEff nD τ sig Val Λ .tc) PUnit) : Prop :=
  ∃ l : List (HloOp τ sig Val), (k = seq l >>= fun _ => t) ∧ ∀ op ∈ l, Fine 1 op

variable {t k p : Prog (TpuEff nD τ sig Val Λ .tc) PUnit} {a b y : Ref sig .tc} {ha hb hd}

/-- The empty line. -/
theorem Line.nil : Line t t := ⟨[], (pure_bind PUnit.unit fun _ => t).symm, fun _ h => absurd h List.not_mem_nil⟩

/-- What is left is the rest. -/
theorem Line.done (h : k = t) : Line t k := h ▸ Line.nil

/-- One operation, then the others. -/
theorem Line.cons {op : HloOp τ sig Val} (h : Fine 1 op) (hk : Line t k) :
    Line t ((hlo rfl op fun _ => .ret (⟨⟩ : PUnit)) >>= fun _ => k) := by
  obtain ⟨l, rfl, hl⟩ := hk
  exact ⟨op :: l, (bind_assoc _ _ _).symm, List.forall_mem_cons.mpr ⟨h, hl⟩⟩

/-- A called text, then the others. -/
theorem Line.bind (h : Line (pure ⟨⟩) p) (hk : Line t k) : Line t (p >>= fun _ => k) := by
  obtain ⟨l, rfl, hl⟩ := h
  obtain ⟨n, rfl, hn⟩ := hk
  have e : (seq l >>= fun _ => (pure ⟨⟩ : Prog (TpuEff nD τ sig Val Λ .tc) PUnit)) = seq l := bind_pure (seq l)
  exact ⟨l ++ n, by rw [e, seq_append, bind_assoc], List.forall_mem_append.mpr ⟨hl, hn⟩⟩

/-- A text with nothing after it. -/
theorem Line.stop (h : Line (pure ⟨⟩) (k >>= fun _ => pure ⟨⟩)) : Line (pure ⟨⟩) k := by
  have e : (k >>= fun _ => pure ⟨⟩) = k := bind_pure k
  rwa [e] at h

/-- A constant, then the others. -/
theorem Line.con {v : y.ty.Contents Val} (hk : Line t k) (hy : 1 < y.idx.val := by exact (by decide)) :
    Line t ((hlo rfl (StableHlo.nullary (τ := τ) y v hd) fun _ => .ret (⟨⟩ : PUnit)) >>= fun _ => k) :=
  Line.cons (fine_of (nullary_bufs_sub ..) rfl rfl hy) hk

/-- A function of one operand, then the others. -/
theorem Line.un {f : a.ty.Contents Val → y.ty.Contents Val} (hk : Line t k) (hy : 1 < y.idx.val := by exact (by decide)) :
    Line t ((hlo rfl (StableHlo.unary (τ := τ) a y f ha hd) fun _ => .ret (⟨⟩ : PUnit)) >>= fun _ => k) :=
  Line.cons (fine_of (unary_bufs_sub ..) rfl rfl hy) hk

/-- A function of two operands, then the others. -/
theorem Line.bin {f : a.ty.Contents Val → b.ty.Contents Val → y.ty.Contents Val} (hk : Line t k)
    (hy : 1 < y.idx.val := by exact (by decide)) :
    Line t ((hlo rfl (StableHlo.binary (τ := τ) a b y f ha hb hd) fun _ => .ret (⟨⟩ : PUnit)) >>= fun _ => k) :=
  Line.cons (fine_of (binary_bufs_sub ..) rfl rfl hy) hk

/-- A reshape, then the others. -/
theorem Line.resh {he hn} (hk : Line t k) (hy : 1 < y.idx.val := by exact (by decide)) :
    Line t ((hlo rfl (StableHlo.reshape (τ := τ) (Val := Val) a y he hn ha hd) fun _ => .ret (⟨⟩ : PUnit)) >>= fun _ => k) :=
  Line.cons (fine_of (reshape_bufs_sub ..) rfl rfl hy) hk

open Cert.Kernel in
/-- The texts that the compiled kernel's TensorCore runs. -/
abbrev C.Text (F : FTy → Type) [FloatOps F] : Type 1 :=
  Prog (TpuEff nD τ sig (Elt F) (SparseCore.Sig (Pipeline.Sig Λ₀ (Fin 0) fun p => (pcfgs (F := F) p).Adm) 1) .tc) PUnit

end Cert.Jitter.Host

end
-- ==== Proof.SplitLine.lean ====
/-
  The splitting of the key in the compiled kernel's @main is a line of operations.
-/
module

public import proofs.«01_k».proof.Proof.Line
public import proofs.«01_k».proof.Proof.Gen.Kernel

@[expose] public section

noncomputable section

namespace Cert.Jitter.Host.C

open Idealize.ShloMosaic Idealize.ShloMosaic.StableHlo Idealize.SL.Sem
open Cert.Kernel Cert.Kernel.Gen

variable {F : FTy → Type} [FloatOps F]

set_option maxHeartbeats 8000000 in
/-- The splitting of the key, with the hashing inside it. -/
theorem split : Line (pure ⟨⟩ : Text F) (fn_threefry_split.body (.of main_v7) main_call0) := by
  unfold fn_threefry_split.body
  repeat first | refine Line.bin ?_ | refine Line.un ?_ | refine Line.con ?_ | refine Line.resh ?_
  exact Line.nil

end Cert.Jitter.Host.C

end
-- ==== Proof.DrawLine1.lean ====
/-
  The first draw in the compiled kernel's @main is a line of operations.
-/
module

public import proofs.«01_k».proof.Proof.Line
public import proofs.«01_k».proof.Proof.Gen.Kernel

@[expose] public section

noncomputable section

namespace Cert.Jitter.Host.C

open Idealize.ShloMosaic Idealize.ShloMosaic.StableHlo Idealize.SL.Sem
open Cert.Kernel Cert.Kernel.Gen

variable {F : FTy → Type} [FloatOps F]

set_option maxHeartbeats 8000000 in
/-- The first draw, with the hashing inside it. -/
theorem draw1 : Line (pure ⟨⟩ : Text F) (fn_uniform.body (.of main_v10) (.of main_cst) (.of main_cst_2) main_call1) := by
  unfold fn_uniform.body
  repeat first | refine Line.bin ?_ | refine Line.un ?_ | refine Line.con ?_ | refine Line.resh ?_
  exact Line.nil

end Cert.Jitter.Host.C

end
-- ==== Proof.DrawLine2.lean ====
/-
  The second draw in the compiled kernel's @main is a line of operations.
-/
module

public import proofs.«01_k».proof.Proof.Line
public import proofs.«01_k».proof.Proof.Gen.Kernel

@[expose] public section

noncomputable section

namespace Cert.Jitter.Host.C

open Idealize.ShloMosaic Idealize.ShloMosaic.StableHlo Idealize.SL.Sem
open Cert.Kernel Cert.Kernel.Gen

variable {F : FTy → Type} [FloatOps F]

set_option maxHeartbeats 8000000 in
/-- The second draw, with the hashing inside it. -/
theorem draw2 : Line (pure ⟨⟩ : Text F) (fn_uniform.body (.of main_v12) (.of main_cst_4) (.of main_cst_5) main_call2) := by
  unfold fn_uniform.body
  repeat first | refine Line.bin ?_ | refine Line.un ?_ | refine Line.con ?_ | refine Line.resh ?_
  exact Line.nil

end Cert.Jitter.Host.C

end
-- ==== Proof.MainLine.lean ====
/-
  The compiled kernel's @main: the same text as the kernel's over exact arithmetic, under names of its own.
-/
module

public import proofs.«01_k».proof.Proof.SplitLine
public import proofs.«01_k».proof.Proof.DrawLine1
public import proofs.«01_k».proof.Proof.DrawLine2
public import proofs.«01_k».proof.Proof.Host

@[expose] public section

noncomputable section

namespace Cert.Jitter.Host.C

open Idealize.ShloMosaic Idealize.ShloMosaic.StableHlo Idealize.SL.Sem
open Cert.Kernel Cert.Kernel.Gen

variable {F : FTy → Type} [FloatOps F]

set_option maxHeartbeats 8000000 in
/-- The @main is the flattening, a line of operations, those that make the indices, and the rest. -/
theorem main_line (d : Dev nD) :
    ∃ p, (main (F := F) d = (hlo rfl K.flat fun _ => .ret (⟨⟩ : PUnit)) >>= fun _ => p) ∧
      Line (Val := Elt F) (seq K.idxOps >>= fun _ => K.rest d : Text F) p := by
  refine ⟨_, rfl, ?_⟩
  refine Line.con ?_; refine Line.con ?_; refine Line.bin ?_; refine Line.un ?_; refine Line.un ?_
  refine Line.con ?_; refine Line.bin ?_; refine Line.un ?_; refine Line.un ?_; refine Line.bin ?_
  refine Line.bind (split (F := F)) ?_
  refine Line.un ?_; refine Line.resh ?_; refine Line.un ?_; refine Line.resh ?_; refine Line.con ?_
  refine Line.con ?_
  refine Line.bind (draw1 (F := F)) ?_
  refine Line.con ?_; refine Line.un ?_; refine Line.bin ?_; refine Line.con ?_; refine Line.con ?_
  refine Line.bind (draw2 (F := F)) ?_
  refine Line.con ?_; refine Line.un ?_; refine Line.bin ?_
  refine Line.done ?_
  simp only [K.rest, seq, bind_assoc, pure_bind, fn_where.body, fn_where_1.body, fn_where_2.body]
  rfl

end Cert.Jitter.Host.C

end
-- ==== Proof.lean ====
module

public import proofs.«01_k».proof.Defs
public import proofs.«01_k».proof.Proof.Gen.Kernel
public import proofs.«01_k».proof.Proof.Gen.Kernel.Skeleton

public import proofs.«01_k».proof.Proof.Gen.KernelIdeal
public import proofs.«01_k».proof.Proof.Gen.KernelIdeal.Skeleton

public import proofs.«01_k».proof.Proof.Gen.ReferenceIdeal
public import proofs.«01_k».proof.Proof.Both
public import proofs.«01_k».proof.Proof.MainLine
public import Idealize.ShloMosaic.Adequacy
public import Idealize.ShloMosaic.Init

@[expose] public section

noncomputable section

namespace Cert.Proof

open Idealize.ShloMosaic Idealize.ShloMosaic.StableHlo Idealize.SL.Sem

/-- Every run of the kernel's text, at any arithmetic, ends with the argument as it was and the counters at zero. -/
theorem run_kernel {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 := by
  obtain ⟨ls, ls', hm, hl, -, -, -⟩ := Cert.Jitter.Both.texts (F := F)
  exact (θ_run Cert.KernelIdeal.defs _ _).mono (fun _ h => ⟨fun c => (h.1 c).1, h.2⟩) (Cert.Jitter.Run.run_main ls m ρ hl _ hm)

/-- The compiled kernel's @main is the flattening, a list of operations, those that make the indices, and the rest. -/
theorem text_kernel : ∃ ls : Dev Cert.KernelIdeal.nD → List (Cert.Jitter.Both.KOp Bits),
    (∀ d, Cert.Kernel.main (F := Bits) d = (seq (Cert.Jitter.Run.pre ls d) >>= fun _ => Cert.Jitter.Host.K.rest d : Cert.Jitter.Host.C.Text Bits)) ∧
    ∀ d, ∀ op ∈ ls d, Cert.Jitter.Host.Fine 1 op := by
  have h : ∀ d : Dev Cert.KernelIdeal.nD, ∃ l : List (Cert.Jitter.Both.KOp Bits),
      (Cert.Kernel.main (F := Bits) d = (seq (Cert.Jitter.Host.K.flat :: (l ++ Cert.Jitter.Host.K.idxOps)) >>= fun _ => Cert.Jitter.Host.K.rest d :
        Cert.Jitter.Host.C.Text Bits)) ∧ ∀ op ∈ l, Cert.Jitter.Host.Fine 1 op := by
    intro d
    obtain ⟨p, hp, l, rfl, hl⟩ := Cert.Jitter.Host.C.main_line (F := Bits) d
    exact ⟨l, hp.trans (Cert.Jitter.Both.seq_then _ _ _ _).symm, hl⟩
  choose ls h1 h2 using h
  exact ⟨ls, h1, h2⟩

set_option maxHeartbeats 2000000 in
/-- The compiled kernel calls the same labelled programs as the kernel over exact arithmetic. -/
theorem defs_kernel : Cert.Kernel.defs (F := Bits) = Cert.KernelIdeal.defs (F := Bits) := rfl

/-- `Cert.quiescent_Kernel`: the kernel as compiled has the same text as the one over exact arithmetic, so the run is the
    same, at the compiled arithmetic. -/
theorem frame_kernel : Cert.quiescent_Kernel := by
  intro m ρ _
  obtain ⟨ls, hm, hl⟩ := text_kernel
  have h := (θ_run (Cert.KernelIdeal.defs (F := Bits)) _ _).mono (fun _ h => And.intro (fun c => (h.1 c).1) h.2)
    (Cert.Jitter.Run.run_main (F := Bits) ls m ρ hl (Cert.Kernel.main (F := Bits)) hm)
  rw [← defs_kernel] at h
  exact h

/-- `Cert.quiescent_KernelIdeal`: the run over exact arithmetic. -/
theorem frame_kernelIdeal : Cert.quiescent_KernelIdeal := fun m ρ _ => run_kernel (F := Ideal) m ρ

/-- `Cert.quiescent_ReferenceIdeal`: the reference's run, read at its argument and at the counters. -/
theorem frame_referenceIdeal : Cert.quiescent_ReferenceIdeal := by
  intro m ρ _
  obtain ⟨ls, ls', -, -, hm', hl', -⟩ := Cert.Jitter.Both.texts (F := Ideal)
  exact (θ_run Cert.ReferenceIdeal.defs _ _).mono (fun _ h => ⟨fun c => (h.1 c).1, h.2⟩) (Cert.Jitter.Both.run_ref ls' hl' m ρ hm')

/-- `Cert.algebraic_KernelIdeal_ReferenceIdeal`: both results are the gather of the argument at the final indices, and
    the two programs compute the same indices. -/
theorem algebraic : Cert.algebraic_KernelIdeal_ReferenceIdeal := by
  intro m ρ m' ρ' _ hagree
  obtain ⟨ls, ls', hm, hl, hm', hl', ha⟩ := Cert.Jitter.Both.texts (F := Ideal)
  refine ⟨fun c => Cert.Jitter.Host.takeOf (F := Ideal) (m ((c.tc : Thread Cert.KernelIdeal.nD Cert.KernelIdeal.τ).loc Cert.KernelIdeal.main_arg0))
      (Cert.Jitter.Run.ix ls m c),
    (θ_run Cert.KernelIdeal.defs _ _).mono (fun _ h c => ⟨(h.1 c).2, (h.1 c).1⟩) (Cert.Jitter.Run.run_main ls m ρ hl _ hm), ?_⟩
  refine (θ_run Cert.ReferenceIdeal.defs _ _).mono (fun _ h c => ⟨(h.1 c).2.trans ?_, (h.1 c).1⟩) (Cert.Jitter.Both.run_ref ls' hl' m' ρ' hm')
  exact congrArg₂ (fun x I => Cert.Jitter.Host.takeOf (F := Ideal) x I) (hagree c) (Cert.Jitter.Both.ix_eq m' ls ls' m ha c).symm

/-- All the claims, with the programs' stated facts. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
